-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_expert_ids [hPre_expert_ids : Cert.Pre_expert_ids.Facts] (m : (ℓ : Loc Cert.KernelIdeal.nD Cert.KernelIdeal.τ Cert.KernelIdeal.sig) → Buf (Elt Ideal) ℓ) : Prop :=
  ∀ c : Dev Cert.KernelIdeal.nD,
    (Cert.Pre_expert_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_ids [hPre_expert_ids : Cert.Pre_expert_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_expert_ids [hKernelIdeal : Cert.KernelIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_expert_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_expert_ids [hReferenceIdeal : Cert.ReferenceIdeal.Facts] [hPre_expert_ids : Cert.Pre_expert_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_expert_ids [hKernelIdeal : Cert.KernelIdeal.Facts] [hReferenceIdeal : Cert.ReferenceIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_expert_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "mask" .f32 0xF149F2CA#32 ⊥
  ∧ IdealRules.named_const.Statement Cert.Kernel4Ideal.κ "log2e" .f32 0x3FB8AA3B#32 (((Real.log 2)⁻¹ : ℝ) : EReal)

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_expert_ids : Cert.Pre_expert_ids.Facts) (hPre_finite : Cert.Pre_finite.Facts),
    quiescent_Kernel (hKernel := hKernel)
    ∧ quiescent_KernelIdeal (hKernelIdeal := hKernelIdeal)
    ∧ quiescent_KernelIdeal_pre_expert_ids (hKernelIdeal := hKernelIdeal) (hPre_expert_ids := hPre_expert_ids)
    ∧ quiescent_ReferenceIdeal (hReferenceIdeal := hReferenceIdeal)
    ∧ quiescent_ReferenceIdeal_pre_expert_ids (hReferenceIdeal := hReferenceIdeal) (hPre_expert_ids := hPre_expert_ids)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal_pre_expert_ids (hKernelIdeal := hKernelIdeal) (hReferenceIdeal := hReferenceIdeal) (hPre_expert_ids := hPre_expert_ids)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_expert_ids.lean ====
abbrev S32768x8x16 : Shape := ⟨3, ![32768, 8, 16]⟩
abbrev S33792x1024 : Shape := ⟨2, ![33792, 1024]⟩
abbrev S1024 : Shape := ⟨1, ![1024]⟩
abbrev S16384x1024 : Shape := ⟨2, ![16384, 1024]⟩
abbrev S_ : Shape := ⟨0, ![]⟩

class Facts : Prop where
  bcast_S_S32768x8x16 : S_.BroadcastsInDim S32768x8x16 (![] : Fin 0 → Fin S32768x8x16.rank)
  reducesTo_S32768x8x16_S_d0_1_2 : S32768x8x16.ReducesTo [0, 1, 2] S_
  h_S_ : 0 < S_.numel

variable [Facts]

def fn {F : FTy → Type} [FloatOps F] (main_arg0 : IVec S32768x8x16 32) (main_arg1 : FVec F S32768x8x16 .f32) (main_arg2 : FVec F S33792x1024 .f32) (main_arg3 : FVec F S1024 .f32) (main_arg4 : IVec S16384x1024 32) : IVec S_ 1 :=
  let main_c : IVec S_ 32 := constantI S_ 32 0#32
  let main_v0 : IVec S32768x8x16 32 := broadcastInDim S32768x8x16 ![] bcast_S_S32768x8x16 main_c
  let main_v1 : IVec S32768x8x16 1 := cmpi .sge main_arg0 main_v0
  let main_c_0 : IVec S_ 32 := constantI S_ 32 16384#32
  let main_v2 : IVec S32768x8x16 32 := broadcastInDim S32768x8x16 ![] bcast_S_S32768x8x16 main_c_0
  let main_v3 : IVec S32768x8x16 1 := cmpi .slt main_arg0 main_v2
  let main_v4 : IVec S32768x8x16 1 := andi main_v1 main_v3
  let main_c_1 : IVec S_ 1 := constantI S_ 1 1#1
  let main_v5 : IVec S_ 1 := (fun x v => Host.reduce IntOp.andi x v reducesTo_S32768x8x16_S_d0_1_2 h_S_) main_v4 main_c_1
  main_v5
-- ==== Pre_finite.lean ====
abbrev S8x4224x512 : Shape := ⟨3, ![8, 4224, 512]⟩
abbrev S4 : Shape := ⟨1, ![4]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S8x4224x512 : S_.BroadcastsInDim S8x4224x512 (![] : Fin 0 → Fin S8x4224x512.rank)
  reducesTo_S8x4224x512_S_d0_1_2 : S8x4224x512.ReducesTo [0, 1, 2] S_
  h_S_ : 0 < S_.numel
  bcast_S_S4 : S_.BroadcastsInDim S4 (![] : Fin 0 → Fin S4.rank)
  reducesTo_S4_S_d0 : S4.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v31 : IVec S_ 1) (main_v34 : IVec S64 1) : IVec S_ 1 :=
  let main_c_11 : IVec S_ 1 := constantI S_ 1 1#1
  let main_v35 : IVec S_ 1 := (fun x v => Host.reduce IntOp.andi x v reducesTo_S64_S_d0 h_S_) main_v34 main_c_11
  let main_v36 : IVec S_ 1 := andi main_v31 main_v35
  let main_v37 : FVec F S64 .f32 := Host.absf main_arg7
  let main_cst_12 : FVec F S_ .f32 := constant S_ .f32 0x7F800000#32
  let main_v38 : FVec F S64 .f32 := broadcastInDim S64 ![] bcast_S_S64 main_cst_12
  let main_v39 : IVec S64 1 := cmpf .olt main_v37 main_v38
  let main_c_13 : IVec S_ 1 := constantI S_ 1 1#1
  let main_v40 : IVec S_ 1 := (fun x v => Host.reduce IntOp.andi x v reducesTo_S64_S_d0 h_S_) main_v39 main_c_13
  let main_v41 : IVec S_ 1 := andi main_v36 main_v40
  main_v41

def fn_part1 {F : FTy → Type} [FloatOps F] (main_arg4 : FVec F S64 .f32) (main_arg5 : FVec F S64 .f32) (main_arg6 : FVec F S64 .f32) (main_arg7 : FVec F S64 .f32) (main_v16 : IVec S_ 1) (main_v17 : FVec F S4 .f32) : IVec S_ 1 :=
  let main_cst_4 : FVec F S_ .f32 := constant S_ .f32 0x7F800000#32
  let main_v18 : FVec F S4 .f32 := broadcastInDim S4 ![] bcast_S_S4 main_cst_4
  let main_v19 : IVec S4 1 := cmpf .olt main_v17 main_v18
  let main_c_5 : IVec S_ 1 := constantI S_ 1 1#1
  let main_v20 : IVec S_ 1 := (fun x v => Host.reduce IntOp.andi x v reducesTo_S4_S_d0 h_S_) main_v19 main_c_5
  let main_v21 : IVec S_ 1 := andi main_v16 main_v20
  let main_v22 : FVec F S64 .f32 := Host.absf main_arg4
  let main_cst_6 : FVec F S_ .f32 := constant S_ .f32 0x7F800000#32
  let main_v23 : FVec F S64 .f32 := broadcastInDim S64 ![] bcast_S_S64 main_cst_6
  let main_v24 : IVec S64 1 := cmpf .olt main_v22 main_v23
  let main_c_7 : IVec S_ 1 := constantI S_ 1 1#1
  let main_v25 : IVec S_ 1 := (fun x v => Host.reduce IntOp.andi x v reducesTo_S64_S_d0 h_S_) main_v24 main_c_7
  let main_v26 : IVec S_ 1 := andi main_v21 main_v25
  let main_v27 : FVec F S64 .f32 := Host.absf main_arg5
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_c_9 : IVec S_ 1 := constantI S_ 1 1#1
  let main_v30 : IVec S_ 1 := (fun x v => Host.reduce IntOp.andi x v reducesTo_S64_S_d0 h_S_) main_v29 main_c_9
  let main_v31 : IVec S_ 1 := andi main_v26 main_v30
  let main_v32 : FVec F S64 .f32 := Host.absf main_arg6
  let main_cst_10 : FVec F S_ .f32 := constant S_ .f32 0x7F800000#32
  let main_v33 : FVec F S64 .f32 := broadcastInDim S64 ![] bcast_S_S64 main_cst_10
  let main_v34 : IVec S64 1 := cmpf .olt main_v32 main_v33
  fn_part2 (F := F) main_arg7 main_v31 main_v34

def fn {F : FTy → Type} [FloatOps F] (main_arg0 : FVec F S8x4224x512 .bf16) (main_arg1 : FVec F S8x4224x512 .bf16) (main_arg2 : FVec F S8x4224x512 .bf16) (main_arg3 : FVec F S4 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S8x4224x512 .f32 := (extf .f32 · bitsLt_bf16_f32) main_arg0
  let main_v1 : FVec F S8x4224x512 .f32 := Host.absf main_v0
  let main_cst : FVec F S_ .f32 := constant S_ .f32 0x7F800000#32
  let main_v2 : FVec F S8x4224x512 .f32 := broadcastInDim S8x4224x512 ![] bcast_S_S8x4224x512 main_cst
  let main_v3 : IVec S8x4224x512 1 := cmpf .olt main_v1 main_v2
  let main_c : IVec S_ 1 := constantI S_ 1 1#1
  let main_v4 : IVec S_ 1 := (fun x v => Host.reduce IntOp.andi x v reducesTo_S8x4224x512_S_d0_1_2 h_S_) main_v3 main_c
  let main_v5 : FVec F S8x4224x512 .f32 := (extf .f32 · bitsLt_bf16_f32) main_arg1
  let main_v6 : FVec F S8x4224x512 .f32 := Host.absf main_v5
  let main_cst_0 : FVec F S_ .f32 := constant S_ .f32 0x7F800000#32
  let main_v7 : FVec F S8x4224x512 .f32 := broadcastInDim S8x4224x512 ![] bcast_S_S8x4224x512 main_cst_0
  let main_v8 : IVec S8x4224x512 1 := cmpf .olt main_v6 main_v7
  let main_c_1 : IVec S_ 1 := constantI S_ 1 1#1
  let main_v9 : IVec S_ 1 := (fun x v => Host.reduce IntOp.andi x v reducesTo_S8x4224x512_S_d0_1_2 h_S_) main_v8 main_c_1
  let main_v10 : IVec S_ 1 := andi main_v4 main_v9
  let main_v11 : FVec F S8x4224x512 .f32 := (extf .f32 · bitsLt_bf16_f32) main_arg2
  let main_v12 : FVec F S8x4224x512 .f32 := Host.absf main_v11
  let main_cst_2 : FVec F S_ .f32 := constant S_ .f32 0x7F800000#32
  let main_v13 : FVec F S8x4224x512 .f32 := broadcastInDim S8x4224x512 ![] bcast_S_S8x4224x512 main_cst_2
  let main_v14 : IVec S8x4224x512 1 := cmpf .olt main_v12 main_v13
  let main_c_3 : IVec S_ 1 := constantI S_ 1 1#1
  let main_v15 : IVec S_ 1 := (fun x v => Host.reduce IntOp.andi x v reducesTo_S8x4224x512_S_d0_1_2 h_S_) main_v14 main_c_3
  let main_v16 : IVec S_ 1 := andi main_v10 main_v15
  let main_v17 : FVec F S4 .f32 := Host.absf main_arg3
  fn_part1 (F := F) main_arg4 main_arg5 main_arg6 main_arg7 main_v16 main_v17
-- ==== Kernel.lean ====
abbrev S32768x8x16 : Shape := ⟨3, ![32768, 8, 16]⟩
abbrev S33792x1024 : Shape := ⟨2, ![33792, 1024]⟩
abbrev S1024 : Shape := ⟨1, ![1024]⟩
abbrev S16384x1024 : Shape := ⟨2, ![16384, 1024]⟩
abbrev S256x128x16x8 : Shape := ⟨4, ![256, 128, 16, 8]⟩
abbrev S256x8x16x128 : Shape := ⟨4, ![256, 8, 16, 128]⟩
abbrev S_ : Shape := ⟨0, ![]⟩
abbrev S32768x128 : Shape := ⟨2, ![32768, 128]⟩
abbrev S4194304 : Shape := ⟨1, ![4194304]⟩
abbrev S1x1024 : Shape := ⟨2, ![1, 1024]⟩
abbrev S8192x1024 : Shape := ⟨2, ![8192, 1024]⟩
abbrev S65536x128 : Shape := ⟨2, ![65536, 128]⟩
abbrev S32768x1024 : Shape := ⟨2, ![32768, 1024]⟩
abbrev S2048 : Shape := ⟨1, ![2048]⟩
abbrev S128x128 : Shape := ⟨2, ![128, 128]⟩
abbrev S128x1024 : Shape := ⟨2, ![128, 1024]⟩
abbrev S16384x128 : Shape := ⟨2, ![16384, 128]⟩
abbrev S128x8x128 : Shape := ⟨3, ![128, 8, 128]⟩
abbrev S1x128 : Shape := ⟨2, ![1, 128]⟩
abbrev S8x128 : Shape := ⟨2, ![8, 128]⟩
abbrev S1 : Shape := ⟨1, ![1]⟩
abbrev S1x8x128 : Shape := ⟨3, ![1, 8, 128]⟩
abbrev S128x1x128 : Shape := ⟨3, ![128, 1, 128]⟩
abbrev S128 : Shape := ⟨1, ![128]⟩
abbrev S128x1 : Shape := ⟨2, ![128, 1]⟩

abbrev nBuf : Space → Nat
  | .hbm => 35
  | .vmem => 13
  | .smem => 16
  | _ => 0

abbrev bufTy : (tb : Table) → Fin (tcTables nBuf tb) → BufTy
  | .hbm, ⟨0, _⟩ => ⟨S32768x8x16, .i32⟩
  | .hbm, ⟨1, _⟩ => ⟨S32768x8x16, .f32⟩
  | .hbm, ⟨2, _⟩ => ⟨S33792x1024, .f32⟩
  | .hbm, ⟨3, _⟩ => ⟨S1024, .f32⟩
  | .hbm, ⟨4, _⟩ => ⟨S16384x1024, .i32⟩
  | .hbm, ⟨5, _⟩ => ⟨S256x128x16x8, .i32⟩
  | .hbm, ⟨6, _⟩ => ⟨S256x8x16x128, .i32⟩
  | .hbm, ⟨7, _⟩ => ⟨S_, .i32⟩
  | .hbm, ⟨8, _⟩ => ⟨S256x8x16x128, .i32⟩
  | .hbm, ⟨9, _⟩ => ⟨S256x8x16x128, .i32⟩
  | .hbm, ⟨10, _⟩ => ⟨S_, .i32⟩
  | .hbm, ⟨11, _⟩ => ⟨S256x8x16x128, .i32⟩
  | .hbm, ⟨12, _⟩ => ⟨S256x8x16x128, .i32⟩
  | .hbm, ⟨13, _⟩ => ⟨S32768x128, .i32⟩
  | .hbm, ⟨14, _⟩ => ⟨S_, .i32⟩
  | .hbm, ⟨15, _⟩ => ⟨S32768x128, .i32⟩
  | .hbm, ⟨16, _⟩ => ⟨S32768x128, .i32⟩
  | .hbm, ⟨17, _⟩ => ⟨S_, .i32⟩
  | .hbm, ⟨18, _⟩ => ⟨S32768x128, .i32⟩
  | .hbm, ⟨19, _⟩ => ⟨S32768x128, .i32⟩
  | .hbm, ⟨20, _⟩ => ⟨S32768x128, .f32⟩
  | .hbm, ⟨21, _⟩ => ⟨S4194304, .i32⟩
  | .hbm, ⟨22, _⟩ => ⟨S32768x128, .f32⟩
  | .hbm, ⟨23, _⟩ => ⟨S1x1024, .f32⟩
  | .hbm, ⟨24, _⟩ => ⟨S8192x1024, .i32⟩
  | .hbm, ⟨25, _⟩ => ⟨S8192x1024, .i32⟩
  | .hbm, ⟨26, _⟩ => ⟨S_, .i32⟩
  | .hbm, ⟨27, _⟩ => ⟨S8192x1024, .i32⟩
  | .hbm, ⟨28, _⟩ => ⟨S8192x1024, .i32⟩
  | .hbm, ⟨29, _⟩ => ⟨S_, .i32⟩
  | .hbm, ⟨30, _⟩ => ⟨S8192x1024, .i32⟩
  | .hbm, ⟨31, _⟩ => ⟨S8192x1024, .i32⟩
  | .hbm, ⟨32, _⟩ => ⟨S8192x1024, .i32⟩
  | .hbm, ⟨33, _⟩ => ⟨S65536x128, .i32⟩
  | .hbm, ⟨34, _⟩ => ⟨S32768x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S65536x128, .i32⟩
  | .local _ .vmem, ⟨8, _⟩ => ⟨S128x1024, .f32⟩
  | .local _ .vmem, ⟨9, _⟩ => ⟨S128x1024, .f32⟩
  | .local _ .vmem, ⟨10, _⟩ => ⟨S16384x128, .i32⟩
  | .local _ .vmem, ⟨11, _⟩ => ⟨S16384x128, .f32⟩
  | .local _ .vmem, ⟨12, _⟩ => ⟨S128x8x128, .f32⟩
  | .local _ .smem, ⟨0, _⟩ => ⟨S2048, .i32⟩
  | .local _ .smem, ⟨1, _⟩ => ⟨S2048, .i32⟩
  | .local _ .smem, ⟨2, _⟩ => ⟨S2048, .i32⟩
  | .local _ .smem, ⟨3, _⟩ => ⟨S2048, .i32⟩
  | .local _ .smem, ⟨4, _⟩ => ⟨S2048, .i32⟩
  | .local _ .smem, ⟨5, _⟩ => ⟨S2048, .i32⟩
  | .local _ .smem, ⟨6, _⟩ => ⟨S2048, .i32⟩
  | .local _ .smem, ⟨7, _⟩ => ⟨S2048, .i32⟩
  | .local _ .smem, ⟨8, _⟩ => ⟨S2048, .i32⟩
  | .local _ .smem, ⟨9, _⟩ => ⟨S2048, .i32⟩
  | .local _ .smem, ⟨10, _⟩ => ⟨S2048, .i32⟩
  | .local _ .smem, ⟨11, _⟩ => ⟨S2048, .i32⟩
  | .local _ .smem, ⟨12, _⟩ => ⟨S2048, .i32⟩
  | .local _ .smem, ⟨13, _⟩ => ⟨S2048, .i32⟩
  | .local _ .smem, ⟨14, _⟩ => ⟨S2048, .i32⟩
  | .local _ .smem, ⟨15, _⟩ => ⟨S2048, .i32⟩
  | _, _ => ⟨S32768x8x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg8_0 : Ref sig .tc := ⟨.vmem, 0, rfl⟩
abbrev cc0_stg8_1 : Ref sig .tc := ⟨.vmem, 1, rfl⟩
abbrev cc0_stg9_0 : Ref sig .tc := ⟨.vmem, 2, rfl⟩
abbrev cc0_stg9_1 : Ref sig .tc := ⟨.vmem, 3, rfl⟩
abbrev cc0_stg10_0 : Ref sig .tc := ⟨.vmem, 4, rfl⟩
abbrev cc0_stg10_1 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg13_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_stg3_0 : Ref sig .tc := ⟨.smem, 6, rfl⟩
abbrev cc0_stg3_1 : Ref sig .tc := ⟨.smem, 7, rfl⟩
abbrev cc0_stg4_0 : Ref sig .tc := ⟨.smem, 8, rfl⟩
abbrev cc0_stg4_1 : Ref sig .tc := ⟨.smem, 9, rfl⟩
abbrev cc0_stg5_0 : Ref sig .tc := ⟨.smem, 10, rfl⟩
abbrev cc0_stg5_1 : Ref sig .tc := ⟨.smem, 11, rfl⟩
abbrev cc0_stg6_0 : Ref sig .tc := ⟨.smem, 12, rfl⟩
abbrev cc0_stg6_1 : Ref sig .tc := ⟨.smem, 13, rfl⟩
abbrev cc0_stg7_0 : Ref sig .tc := ⟨.smem, 14, rfl⟩
abbrev cc0_stg7_1 : Ref sig .tc := ⟨.smem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![256], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c4224_i32 : BitVec 32 := 4224#32
  let v17 : BitVec 32 := Scalar.muli v16 c4224_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v30 : BitVec 32 := Scalar.addi v18 v29
  v30
@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_29 : BitVec 32 := 128#32
  let v36 : BitVec 32 := Scalar.muli arg18 c128_i32_29
  v36
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let v38 : Index := Scalar.indexCast arg18
  let c0_30 : Index := 0#32
  ![v38.toNat, 0]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c128_i32_29 : BitVec 32 := 128#32
  let v36 : BitVec 32 := Scalar.muli arg18 c128_i32_29
  let v37 : BitVec 32 := v36
  let v52 : Index := Scalar.indexCast v37
  let c0_34 : Index := 0#32
  ![v52.toNat, 0]
@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def k0_mult3 (k0_t2 : Fin k0_t2_loop.trips) : BitVec 32 :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  v36
def k0_off3 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_41 : BitVec 32 := 0#32
  let v54 : BitVec 32 := Scalar.addi v49 c0_i32_41
  let v55 : Index := Scalar.indexCast v54
  ![v55.toNat]
def k0_off4 (k0_t2 : Fin k0_t2_loop.trips) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let c0_i32_42 : BitVec 32 := 0#32
  let v57 : BitVec 32 := Scalar.addi v37 c0_i32_42
  let v58 : Index := Scalar.indexCast v57
  let c0_43 : Index := 0#32
  ![v58.toNat, 0]
def k0_mult4 (v56 : BitVec 32) : BitVec 32 :=
  v56

def k0_off5 (v56 : BitVec 32) : Fin 2 → Nat :=
  let v60 : BitVec 32 := v56
  let v61 : Index := Scalar.indexCast v60
  let c0_44 : Index := 0#32
  ![v61.toNat, 0]

def k0_chk1 (v56 : BitVec 32) : Prop :=
  (8 ∣ (k0_mult4 v56).toNat) ∧
  (∀ a, (k0_off5 v56) a + S8x128.size a ≤ S65536x128.size a)
theorem k0_mult4_dvd : ∀ (v56 : BitVec 32) (k0_hw1 : k0_chk1 v56), 8 ∣ (k0_mult4 v56).toNat := fun v56 k0_hw1 => k0_hw1.1
theorem k0_off5_inb : ∀ (v56 : BitVec 32) (k0_hw1 : k0_chk1 v56), ∀ a, (k0_off5 v56) a + S8x128.size a ≤ S65536x128.size a := fun v56 k0_hw1 => k0_hw1.2

def k0_off6 (k0_t2 : Fin k0_t2_loop.trips) (c0_i32_45 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v69 : BitVec 32 := Scalar.addi v37 c0_i32_45
  let v70 : Index := Scalar.indexCast v69
  let c0_46 : Index := 0#32
  ![v70.toNat, 0]
def k0_off7 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_47 : BitVec 32 := 0#32
  let v75 : BitVec 32 := Scalar.addi v49 c0_i32_47
  let v76 : Index := Scalar.indexCast v75
  ![v76.toNat]
def k0_mult5 (v77 : BitVec 32) : BitVec 32 :=
  v77

def k0_off8 (v77 : BitVec 32) : Fin 2 → Nat :=
  let v81 : BitVec 32 := v77
  let v82 : Index := Scalar.indexCast v81
  let c0_50 : Index := 0#32
  ![v82.toNat, 0]

def k0_chk2 (v77 : BitVec 32) : Prop :=
  (8 ∣ (k0_mult5 v77).toNat) ∧
  (∀ a, (k0_off8 v77) a + S8x128.size a ≤ S65536x128.size a)
theorem k0_mult5_dvd : ∀ (v77 : BitVec 32) (k0_hw2 : k0_chk2 v77), 8 ∣ (k0_mult5 v77).toNat := fun v77 k0_hw2 => k0_hw2.1
theorem k0_off8_inb : ∀ (v77 : BitVec 32) (k0_hw2 : k0_chk2 v77), ∀ a, (k0_off8 v77) a + S8x128.size a ≤ S65536x128.size a := fun v77 k0_hw2 => k0_hw2.2

def k0_off9 (k0_t2 : Fin k0_t2_loop.trips) (c1_i32_52 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v90 : BitVec 32 := Scalar.addi v37 c1_i32_52
  let v91 : Index := Scalar.indexCast v90
  let c0_53 : Index := 0#32
  ![v91.toNat, 0]
def k0_off10 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_54 : BitVec 32 := 0#32
  let v96 : BitVec 32 := Scalar.addi v49 c0_i32_54
  let v97 : Index := Scalar.indexCast v96
  ![v97.toNat]
def k0_mult6 (v98 : BitVec 32) : BitVec 32 :=
  v98

def k0_off11 (v98 : BitVec 32) : Fin 2 → Nat :=
  let v102 : BitVec 32 := v98
  let v103 : Index := Scalar.indexCast v102
  let c0_56 : Index := 0#32
  ![v103.toNat, 0]

def k0_chk3 (v98 : BitVec 32) : Prop :=
  (8 ∣ (k0_mult6 v98).toNat) ∧
  (∀ a, (k0_off11 v98) a + S8x128.size a ≤ S65536x128.size a)
theorem k0_mult6_dvd : ∀ (v98 : BitVec 32) (k0_hw3 : k0_chk3 v98), 8 ∣ (k0_mult6 v98).toNat := fun v98 k0_hw3 => k0_hw3.1
theorem k0_off11_inb : ∀ (v98 : BitVec 32) (k0_hw3 : k0_chk3 v98), ∀ a, (k0_off11 v98) a + S8x128.size a ≤ S65536x128.size a := fun v98 k0_hw3 => k0_hw3.2

def k0_off12 (k0_t2 : Fin k0_t2_loop.trips) (c2_i32_58 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v111 : BitVec 32 := Scalar.addi v37 c2_i32_58
  let v112 : Index := Scalar.indexCast v111
  let c0_59 : Index := 0#32
  ![v112.toNat, 0]
def k0_off13 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_60 : BitVec 32 := 0#32
  let v117 : BitVec 32 := Scalar.addi v49 c0_i32_60
  let v118 : Index := Scalar.indexCast v117
  ![v118.toNat]
def k0_mult7 (v119 : BitVec 32) : BitVec 32 :=
  v119

def k0_off14 (v119 : BitVec 32) : Fin 2 → Nat :=
  let v123 : BitVec 32 := v119
  let v124 : Index := Scalar.indexCast v123
  let c0_62 : Index := 0#32
  ![v124.toNat, 0]

def k0_chk4 (v119 : BitVec 32) : Prop :=
  (8 ∣ (k0_mult7 v119).toNat) ∧
  (∀ a, (k0_off14 v119) a + S8x128.size a ≤ S65536x128.size a)
theorem k0_mult7_dvd : ∀ (v119 : BitVec 32) (k0_hw4 : k0_chk4 v119), 8 ∣ (k0_mult7 v119).toNat := fun v119 k0_hw4 => k0_hw4.1
theorem k0_off14_inb : ∀ (v119 : BitVec 32) (k0_hw4 : k0_chk4 v119), ∀ a, (k0_off14 v119) a + S8x128.size a ≤ S65536x128.size a := fun v119 k0_hw4 => k0_hw4.2

def k0_off15 (k0_t2 : Fin k0_t2_loop.trips) (c3_i32_64 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v132 : BitVec 32 := Scalar.addi v37 c3_i32_64
  let v133 : Index := Scalar.indexCast v132
  let c0_65 : Index := 0#32
  ![v133.toNat, 0]
def k0_off16 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_66 : BitVec 32 := 0#32
  let v138 : BitVec 32 := Scalar.addi v49 c0_i32_66
  let v139 : Index := Scalar.indexCast v138
  ![v139.toNat]
def k0_mult8 (v140 : BitVec 32) : BitVec 32 :=
  v140

def k0_off17 (v140 : BitVec 32) : Fin 2 → Nat :=
  let v144 : BitVec 32 := v140
  let v145 : Index := Scalar.indexCast v144
  let c0_68 : Index := 0#32
  ![v145.toNat, 0]

def k0_chk5 (v140 : BitVec 32) : Prop :=
  (8 ∣ (k0_mult8 v140).toNat) ∧
  (∀ a, (k0_off17 v140) a + S8x128.size a ≤ S65536x128.size a)
theorem k0_mult8_dvd : ∀ (v140 : BitVec 32) (k0_hw5 : k0_chk5 v140), 8 ∣ (k0_mult8 v140).toNat := fun v140 k0_hw5 => k0_hw5.1
theorem k0_off17_inb : ∀ (v140 : BitVec 32) (k0_hw5 : k0_chk5 v140), ∀ a, (k0_off17 v140) a + S8x128.size a ≤ S65536x128.size a := fun v140 k0_hw5 => k0_hw5.2

def k0_off18 (k0_t2 : Fin k0_t2_loop.trips) (c4_i32_70 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v153 : BitVec 32 := Scalar.addi v37 c4_i32_70
  let v154 : Index := Scalar.indexCast v153
  let c0_71 : Index := 0#32
  ![v154.toNat, 0]
def k0_off19 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_72 : BitVec 32 := 0#32
  let v159 : BitVec 32 := Scalar.addi v49 c0_i32_72
  let v160 : Index := Scalar.indexCast v159
  ![v160.toNat]
def k0_mult9 (v161 : BitVec 32) : BitVec 32 :=
  v161

def k0_off20 (v161 : BitVec 32) : Fin 2 → Nat :=
  let v165 : BitVec 32 := v161
  let v166 : Index := Scalar.indexCast v165
  let c0_74 : Index := 0#32
  ![v166.toNat, 0]

def k0_chk6 (v161 : BitVec 32) : Prop :=
  (8 ∣ (k0_mult9 v161).toNat) ∧
  (∀ a, (k0_off20 v161) a + S8x128.size a ≤ S65536x128.size a)
theorem k0_mult9_dvd : ∀ (v161 : BitVec 32) (k0_hw6 : k0_chk6 v161), 8 ∣ (k0_mult9 v161).toNat := fun v161 k0_hw6 => k0_hw6.1
theorem k0_off20_inb : ∀ (v161 : BitVec 32) (k0_hw6 : k0_chk6 v161), ∀ a, (k0_off20 v161) a + S8x128.size a ≤ S65536x128.size a := fun v161 k0_hw6 => k0_hw6.2

def k0_off21 (k0_t2 : Fin k0_t2_loop.trips) (c5_i32_76 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v174 : BitVec 32 := Scalar.addi v37 c5_i32_76
  let v175 : Index := Scalar.indexCast v174
  let c0_77 : Index := 0#32
  ![v175.toNat, 0]
def k0_off22 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_78 : BitVec 32 := 0#32
  let v180 : BitVec 32 := Scalar.addi v49 c0_i32_78
  let v181 : Index := Scalar.indexCast v180
  ![v181.toNat]
def k0_mult10 (v182 : BitVec 32) : BitVec 32 :=
  v182

def k0_off23 (v182 : BitVec 32) : Fin 2 → Nat :=
  let v186 : BitVec 32 := v182
  let v187 : Index := Scalar.indexCast v186
  let c0_80 : Index := 0#32
  ![v187.toNat, 0]

def k0_chk7 (v182 : BitVec 32) : Prop :=
  (8 ∣ (k0_mult10 v182).toNat) ∧
  (∀ a, (k0_off23 v182) a + S8x128.size a ≤ S65536x128.size a)
theorem k0_mult10_dvd : ∀ (v182 : BitVec 32) (k0_hw7 : k0_chk7 v182), 8 ∣ (k0_mult10 v182).toNat := fun v182 k0_hw7 => k0_hw7.1
theorem k0_off23_inb : ∀ (v182 : BitVec 32) (k0_hw7 : k0_chk7 v182), ∀ a, (k0_off23 v182) a + S8x128.size a ≤ S65536x128.size a := fun v182 k0_hw7 => k0_hw7.2

def k0_off24 (k0_t2 : Fin k0_t2_loop.trips) (c6_i32_82 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v195 : BitVec 32 := Scalar.addi v37 c6_i32_82
  let v196 : Index := Scalar.indexCast v195
  let c0_83 : Index := 0#32
  ![v196.toNat, 0]
def k0_off25 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c0_i32_84 : BitVec 32 := 0#32
  let v201 : BitVec 32 := Scalar.addi v49 c0_i32_84
  let v202 : Index := Scalar.indexCast v201
  ![v202.toNat]
def k0_mult11 (v203 : BitVec 32) : BitVec 32 :=
  v203

def k0_off26 (v203 : BitVec 32) : Fin 2 → Nat :=
  let v207 : BitVec 32 := v203
  let v208 : Index := Scalar.indexCast v207
  let c0_86 : Index := 0#32
  ![v208.toNat, 0]

def k0_chk8 (v203 : BitVec 32) : Prop :=
  (8 ∣ (k0_mult11 v203).toNat) ∧
  (∀ a, (k0_off26 v203) a + S8x128.size a ≤ S65536x128.size a)
theorem k0_mult11_dvd : ∀ (v203 : BitVec 32) (k0_hw8 : k0_chk8 v203), 8 ∣ (k0_mult11 v203).toNat := fun v203 k0_hw8 => k0_hw8.1
theorem k0_off26_inb : ∀ (v203 : BitVec 32) (k0_hw8 : k0_chk8 v203), ∀ a, (k0_off26 v203) a + S8x128.size a ≤ S65536x128.size a := fun v203 k0_hw8 => k0_hw8.2

def k0_off27 (k0_t2 : Fin k0_t2_loop.trips) (c7_i32_88 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v216 : BitVec 32 := Scalar.addi v37 c7_i32_88
  let v217 : Index := Scalar.indexCast v216
  let c0_89 : Index := 0#32
  ![v217.toNat, 0]
def k0_off28 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_90 : BitVec 32 := 128#32
  let v222 : BitVec 32 := Scalar.addi v49 c128_i32_90
  let v223 : Index := Scalar.indexCast v222
  ![v223.toNat]
def k0_mult12 (v224 : BitVec 32) : BitVec 32 :=
  v224

def k0_off29 (v224 : BitVec 32) : Fin 2 → Nat :=
  let v228 : BitVec 32 := v224
  let v229 : Index := Scalar.indexCast v228
  let c0_92 : Index := 0#32
  ![v229.toNat, 0]

def k0_chk9 (v224 : BitVec 32) : Prop :=
  (8 ∣ (k0_mult12 v224).toNat) ∧
  (∀ a, (k0_off29 v224) a + S8x128.size a ≤ S65536x128.size a)
theorem k0_mult12_dvd : ∀ (v224 : BitVec 32) (k0_hw9 : k0_chk9 v224), 8 ∣ (k0_mult12 v224).toNat := fun v224 k0_hw9 => k0_hw9.1
theorem k0_off29_inb : ∀ (v224 : BitVec 32) (k0_hw9 : k0_chk9 v224), ∀ a, (k0_off29 v224) a + S8x128.size a ≤ S65536x128.size a := fun v224 k0_hw9 => k0_hw9.2

def k0_off30 (k0_t2 : Fin k0_t2_loop.trips) (c8_i32_94 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v237 : BitVec 32 := Scalar.addi v37 c8_i32_94
  let v238 : Index := Scalar.indexCast v237
  let c0_95 : Index := 0#32
  ![v238.toNat, 0]
def k0_off31 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_96 : BitVec 32 := 128#32
  let v243 : BitVec 32 := Scalar.addi v49 c128_i32_96
  let v244 : Index := Scalar.indexCast v243
  ![v244.toNat]
def k0_mult13 (v245 : BitVec 32) : BitVec 32 :=
  v245

def k0_off32 (v245 : BitVec 32) : Fin 2 → Nat :=
  let v249 : BitVec 32 := v245
  let v250 : Index := Scalar.indexCast v249
  let c0_98 : Index := 0#32
  ![v250.toNat, 0]

def k0_chk10 (v245 : BitVec 32) : Prop :=
  (8 ∣ (k0_mult13 v245).toNat) ∧
  (∀ a, (k0_off32 v245) a + S8x128.size a ≤ S65536x128.size a)
theorem k0_mult13_dvd : ∀ (v245 : BitVec 32) (k0_hw10 : k0_chk10 v245), 8 ∣ (k0_mult13 v245).toNat := fun v245 k0_hw10 => k0_hw10.1
theorem k0_off32_inb : ∀ (v245 : BitVec 32) (k0_hw10 : k0_chk10 v245), ∀ a, (k0_off32 v245) a + S8x128.size a ≤ S65536x128.size a := fun v245 k0_hw10 => k0_hw10.2

def k0_off33 (k0_t2 : Fin k0_t2_loop.trips) (c9_i32_100 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v258 : BitVec 32 := Scalar.addi v37 c9_i32_100
  let v259 : Index := Scalar.indexCast v258
  let c0_101 : Index := 0#32
  ![v259.toNat, 0]
def k0_off34 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_102 : BitVec 32 := 128#32
  let v264 : BitVec 32 := Scalar.addi v49 c128_i32_102
  let v265 : Index := Scalar.indexCast v264
  ![v265.toNat]
def k0_mult14 (v266 : BitVec 32) : BitVec 32 :=
  v266

def k0_off35 (v266 : BitVec 32) : Fin 2 → Nat :=
  let v270 : BitVec 32 := v266
  let v271 : Index := Scalar.indexCast v270
  let c0_104 : Index := 0#32
  ![v271.toNat, 0]

def k0_chk11 (v266 : BitVec 32) : Prop :=
  (8 ∣ (k0_mult14 v266).toNat) ∧
  (∀ a, (k0_off35 v266) a + S8x128.size a ≤ S65536x128.size a)
theorem k0_mult14_dvd : ∀ (v266 : BitVec 32) (k0_hw11 : k0_chk11 v266), 8 ∣ (k0_mult14 v266).toNat := fun v266 k0_hw11 => k0_hw11.1
theorem k0_off35_inb : ∀ (v266 : BitVec 32) (k0_hw11 : k0_chk11 v266), ∀ a, (k0_off35 v266) a + S8x128.size a ≤ S65536x128.size a := fun v266 k0_hw11 => k0_hw11.2

def k0_off36 (k0_t2 : Fin k0_t2_loop.trips) (c10_i32_106 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v279 : BitVec 32 := Scalar.addi v37 c10_i32_106
  let v280 : Index := Scalar.indexCast v279
  let c0_107 : Index := 0#32
  ![v280.toNat, 0]
def k0_off37 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_108 : BitVec 32 := 128#32
  let v285 : BitVec 32 := Scalar.addi v49 c128_i32_108
  let v286 : Index := Scalar.indexCast v285
  ![v286.toNat]
def k0_mult15 (v287 : BitVec 32) : BitVec 32 :=
  v287

def k0_off38 (v287 : BitVec 32) : Fin 2 → Nat :=
  let v291 : BitVec 32 := v287
  let v292 : Index := Scalar.indexCast v291
  let c0_110 : Index := 0#32
  ![v292.toNat, 0]

def k0_chk12 (v287 : BitVec 32) : Prop :=
  (8 ∣ (k0_mult15 v287).toNat) ∧
  (∀ a, (k0_off38 v287) a + S8x128.size a ≤ S65536x128.size a)
theorem k0_mult15_dvd : ∀ (v287 : BitVec 32) (k0_hw12 : k0_chk12 v287), 8 ∣ (k0_mult15 v287).toNat := fun v287 k0_hw12 => k0_hw12.1
theorem k0_off38_inb : ∀ (v287 : BitVec 32) (k0_hw12 : k0_chk12 v287), ∀ a, (k0_off38 v287) a + S8x128.size a ≤ S65536x128.size a := fun v287 k0_hw12 => k0_hw12.2

def k0_off39 (k0_t2 : Fin k0_t2_loop.trips) (c11_i32_112 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v300 : BitVec 32 := Scalar.addi v37 c11_i32_112
  let v301 : Index := Scalar.indexCast v300
  let c0_113 : Index := 0#32
  ![v301.toNat, 0]
def k0_off40 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_114 : BitVec 32 := 128#32
  let v306 : BitVec 32 := Scalar.addi v49 c128_i32_114
  let v307 : Index := Scalar.indexCast v306
  ![v307.toNat]
def k0_mult16 (v308 : BitVec 32) : BitVec 32 :=
  v308

def k0_off41 (v308 : BitVec 32) : Fin 2 → Nat :=
  let v312 : BitVec 32 := v308
  let v313 : Index := Scalar.indexCast v312
  let c0_116 : Index := 0#32
  ![v313.toNat, 0]

def k0_chk13 (v308 : BitVec 32) : Prop :=
  (8 ∣ (k0_mult16 v308).toNat) ∧
  (∀ a, (k0_off41 v308) a + S8x128.size a ≤ S65536x128.size a)
theorem k0_mult16_dvd : ∀ (v308 : BitVec 32) (k0_hw13 : k0_chk13 v308), 8 ∣ (k0_mult16 v308).toNat := fun v308 k0_hw13 => k0_hw13.1
theorem k0_off41_inb : ∀ (v308 : BitVec 32) (k0_hw13 : k0_chk13 v308), ∀ a, (k0_off41 v308) a + S8x128.size a ≤ S65536x128.size a := fun v308 k0_hw13 => k0_hw13.2

def k0_off42 (k0_t2 : Fin k0_t2_loop.trips) (c12_i32_118 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v321 : BitVec 32 := Scalar.addi v37 c12_i32_118
  let v322 : Index := Scalar.indexCast v321
  let c0_119 : Index := 0#32
  ![v322.toNat, 0]
def k0_off43 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_120 : BitVec 32 := 128#32
  let v327 : BitVec 32 := Scalar.addi v49 c128_i32_120
  let v328 : Index := Scalar.indexCast v327
  ![v328.toNat]
def k0_mult17 (v329 : BitVec 32) : BitVec 32 :=
  v329

def k0_off44 (v329 : BitVec 32) : Fin 2 → Nat :=
  let v333 : BitVec 32 := v329
  let v334 : Index := Scalar.indexCast v333
  let c0_122 : Index := 0#32
  ![v334.toNat, 0]

def k0_chk14 (v329 : BitVec 32) : Prop :=
  (8 ∣ (k0_mult17 v329).toNat) ∧
  (∀ a, (k0_off44 v329) a + S8x128.size a ≤ S65536x128.size a)
theorem k0_mult17_dvd : ∀ (v329 : BitVec 32) (k0_hw14 : k0_chk14 v329), 8 ∣ (k0_mult17 v329).toNat := fun v329 k0_hw14 => k0_hw14.1
theorem k0_off44_inb : ∀ (v329 : BitVec 32) (k0_hw14 : k0_chk14 v329), ∀ a, (k0_off44 v329) a + S8x128.size a ≤ S65536x128.size a := fun v329 k0_hw14 => k0_hw14.2

def k0_off45 (k0_t2 : Fin k0_t2_loop.trips) (c13_i32_124 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v342 : BitVec 32 := Scalar.addi v37 c13_i32_124
  let v343 : Index := Scalar.indexCast v342
  let c0_125 : Index := 0#32
  ![v343.toNat, 0]
def k0_off46 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_126 : BitVec 32 := 128#32
  let v348 : BitVec 32 := Scalar.addi v49 c128_i32_126
  let v349 : Index := Scalar.indexCast v348
  ![v349.toNat]
def k0_mult18 (v350 : BitVec 32) : BitVec 32 :=
  v350

def k0_off47 (v350 : BitVec 32) : Fin 2 → Nat :=
  let v354 : BitVec 32 := v350
  let v355 : Index := Scalar.indexCast v354
  let c0_128 : Index := 0#32
  ![v355.toNat, 0]

def k0_chk15 (v350 : BitVec 32) : Prop :=
  (8 ∣ (k0_mult18 v350).toNat) ∧
  (∀ a, (k0_off47 v350) a + S8x128.size a ≤ S65536x128.size a)
theorem k0_mult18_dvd : ∀ (v350 : BitVec 32) (k0_hw15 : k0_chk15 v350), 8 ∣ (k0_mult18 v350).toNat := fun v350 k0_hw15 => k0_hw15.1
theorem k0_off47_inb : ∀ (v350 : BitVec 32) (k0_hw15 : k0_chk15 v350), ∀ a, (k0_off47 v350) a + S8x128.size a ≤ S65536x128.size a := fun v350 k0_hw15 => k0_hw15.2

def k0_off48 (k0_t2 : Fin k0_t2_loop.trips) (c14_i32_130 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v363 : BitVec 32 := Scalar.addi v37 c14_i32_130
  let v364 : Index := Scalar.indexCast v363
  let c0_131 : Index := 0#32
  ![v364.toNat, 0]
def k0_off49 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c128_i32_132 : BitVec 32 := 128#32
  let v369 : BitVec 32 := Scalar.addi v49 c128_i32_132
  let v370 : Index := Scalar.indexCast v369
  ![v370.toNat]
def k0_mult19 (v371 : BitVec 32) : BitVec 32 :=
  v371

def k0_off50 (v371 : BitVec 32) : Fin 2 → Nat :=
  let v375 : BitVec 32 := v371
  let v376 : Index := Scalar.indexCast v375
  let c0_134 : Index := 0#32
  ![v376.toNat, 0]

def k0_chk16 (v371 : BitVec 32) : Prop :=
  (8 ∣ (k0_mult19 v371).toNat) ∧
  (∀ a, (k0_off50 v371) a + S8x128.size a ≤ S65536x128.size a)
theorem k0_mult19_dvd : ∀ (v371 : BitVec 32) (k0_hw16 : k0_chk16 v371), 8 ∣ (k0_mult19 v371).toNat := fun v371 k0_hw16 => k0_hw16.1
theorem k0_off50_inb : ∀ (v371 : BitVec 32) (k0_hw16 : k0_chk16 v371), ∀ a, (k0_off50 v371) a + S8x128.size a ≤ S65536x128.size a := fun v371 k0_hw16 => k0_hw16.2

def k0_off51 (k0_t2 : Fin k0_t2_loop.trips) (c15_i32_136 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v384 : BitVec 32 := Scalar.addi v37 c15_i32_136
  let v385 : Index := Scalar.indexCast v384
  let c0_137 : Index := 0#32
  ![v385.toNat, 0]
def k0_off52 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32 : BitVec 32 := 256#32
  let v390 : BitVec 32 := Scalar.addi v49 c256_i32
  let v391 : Index := Scalar.indexCast v390
  ![v391.toNat]
def k0_mult20 (v392 : BitVec 32) : BitVec 32 :=
  v392

def k0_off53 (v392 : BitVec 32) : Fin 2 → Nat :=
  let v396 : BitVec 32 := v392
  let v397 : Index := Scalar.indexCast v396
  let c0_139 : Index := 0#32
  ![v397.toNat, 0]

def k0_chk17 (v392 : BitVec 32) : Prop :=
  (8 ∣ (k0_mult20 v392).toNat) ∧
  (∀ a, (k0_off53 v392) a + S8x128.size a ≤ S65536x128.size a)
theorem k0_mult20_dvd : ∀ (v392 : BitVec 32) (k0_hw17 : k0_chk17 v392), 8 ∣ (k0_mult20 v392).toNat := fun v392 k0_hw17 => k0_hw17.1
theorem k0_off53_inb : ∀ (v392 : BitVec 32) (k0_hw17 : k0_chk17 v392), ∀ a, (k0_off53 v392) a + S8x128.size a ≤ S65536x128.size a := fun v392 k0_hw17 => k0_hw17.2

def k0_off54 (k0_t2 : Fin k0_t2_loop.trips) (c16_i32_141 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v405 : BitVec 32 := Scalar.addi v37 c16_i32_141
  let v406 : Index := Scalar.indexCast v405
  let c0_142 : Index := 0#32
  ![v406.toNat, 0]
def k0_off55 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_143 : BitVec 32 := 256#32
  let v411 : BitVec 32 := Scalar.addi v49 c256_i32_143
  let v412 : Index := Scalar.indexCast v411
  ![v412.toNat]
def k0_mult21 (v413 : BitVec 32) : BitVec 32 :=
  v413

def k0_off56 (v413 : BitVec 32) : Fin 2 → Nat :=
  let v417 : BitVec 32 := v413
  let v418 : Index := Scalar.indexCast v417
  let c0_145 : Index := 0#32
  ![v418.toNat, 0]

def k0_chk18 (v413 : BitVec 32) : Prop :=
  (8 ∣ (k0_mult21 v413).toNat) ∧
  (∀ a, (k0_off56 v413) a + S8x128.size a ≤ S65536x128.size a)
theorem k0_mult21_dvd : ∀ (v413 : BitVec 32) (k0_hw18 : k0_chk18 v413), 8 ∣ (k0_mult21 v413).toNat := fun v413 k0_hw18 => k0_hw18.1
theorem k0_off56_inb : ∀ (v413 : BitVec 32) (k0_hw18 : k0_chk18 v413), ∀ a, (k0_off56 v413) a + S8x128.size a ≤ S65536x128.size a := fun v413 k0_hw18 => k0_hw18.2

def k0_off57 (k0_t2 : Fin k0_t2_loop.trips) (c17_i32_147 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v426 : BitVec 32 := Scalar.addi v37 c17_i32_147
  let v427 : Index := Scalar.indexCast v426
  let c0_148 : Index := 0#32
  ![v427.toNat, 0]
def k0_off58 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_149 : BitVec 32 := 256#32
  let v432 : BitVec 32 := Scalar.addi v49 c256_i32_149
  let v433 : Index := Scalar.indexCast v432
  ![v433.toNat]
def k0_mult22 (v434 : BitVec 32) : BitVec 32 :=
  v434

def k0_off59 (v434 : BitVec 32) : Fin 2 → Nat :=
  let v438 : BitVec 32 := v434
  let v439 : Index := Scalar.indexCast v438
  let c0_151 : Index := 0#32
  ![v439.toNat, 0]

def k0_chk19 (v434 : BitVec 32) : Prop :=
  (8 ∣ (k0_mult22 v434).toNat) ∧
  (∀ a, (k0_off59 v434) a + S8x128.size a ≤ S65536x128.size a)
theorem k0_mult22_dvd : ∀ (v434 : BitVec 32) (k0_hw19 : k0_chk19 v434), 8 ∣ (k0_mult22 v434).toNat := fun v434 k0_hw19 => k0_hw19.1
theorem k0_off59_inb : ∀ (v434 : BitVec 32) (k0_hw19 : k0_chk19 v434), ∀ a, (k0_off59 v434) a + S8x128.size a ≤ S65536x128.size a := fun v434 k0_hw19 => k0_hw19.2

def k0_off60 (k0_t2 : Fin k0_t2_loop.trips) (c18_i32_153 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v447 : BitVec 32 := Scalar.addi v37 c18_i32_153
  let v448 : Index := Scalar.indexCast v447
  let c0_154 : Index := 0#32
  ![v448.toNat, 0]
def k0_off61 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_155 : BitVec 32 := 256#32
  let v453 : BitVec 32 := Scalar.addi v49 c256_i32_155
  let v454 : Index := Scalar.indexCast v453
  ![v454.toNat]
def k0_mult23 (v455 : BitVec 32) : BitVec 32 :=
  v455

def k0_off62 (v455 : BitVec 32) : Fin 2 → Nat :=
  let v459 : BitVec 32 := v455
  let v460 : Index := Scalar.indexCast v459
  let c0_157 : Index := 0#32
  ![v460.toNat, 0]

def k0_chk20 (v455 : BitVec 32) : Prop :=
  (8 ∣ (k0_mult23 v455).toNat) ∧
  (∀ a, (k0_off62 v455) a + S8x128.size a ≤ S65536x128.size a)
theorem k0_mult23_dvd : ∀ (v455 : BitVec 32) (k0_hw20 : k0_chk20 v455), 8 ∣ (k0_mult23 v455).toNat := fun v455 k0_hw20 => k0_hw20.1
theorem k0_off62_inb : ∀ (v455 : BitVec 32) (k0_hw20 : k0_chk20 v455), ∀ a, (k0_off62 v455) a + S8x128.size a ≤ S65536x128.size a := fun v455 k0_hw20 => k0_hw20.2

def k0_off63 (k0_t2 : Fin k0_t2_loop.trips) (c19_i32_159 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v468 : BitVec 32 := Scalar.addi v37 c19_i32_159
  let v469 : Index := Scalar.indexCast v468
  let c0_160 : Index := 0#32
  ![v469.toNat, 0]
def k0_off64 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_161 : BitVec 32 := 256#32
  let v474 : BitVec 32 := Scalar.addi v49 c256_i32_161
  let v475 : Index := Scalar.indexCast v474
  ![v475.toNat]
def k0_mult24 (v476 : BitVec 32) : BitVec 32 :=
  v476

def k0_off65 (v476 : BitVec 32) : Fin 2 → Nat :=
  let v480 : BitVec 32 := v476
  let v481 : Index := Scalar.indexCast v480
  let c0_163 : Index := 0#32
  ![v481.toNat, 0]

def k0_chk21 (v476 : BitVec 32) : Prop :=
  (8 ∣ (k0_mult24 v476).toNat) ∧
  (∀ a, (k0_off65 v476) a + S8x128.size a ≤ S65536x128.size a)
theorem k0_mult24_dvd : ∀ (v476 : BitVec 32) (k0_hw21 : k0_chk21 v476), 8 ∣ (k0_mult24 v476).toNat := fun v476 k0_hw21 => k0_hw21.1
theorem k0_off65_inb : ∀ (v476 : BitVec 32) (k0_hw21 : k0_chk21 v476), ∀ a, (k0_off65 v476) a + S8x128.size a ≤ S65536x128.size a := fun v476 k0_hw21 => k0_hw21.2

def k0_off66 (k0_t2 : Fin k0_t2_loop.trips) (c20_i32_165 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v489 : BitVec 32 := Scalar.addi v37 c20_i32_165
  let v490 : Index := Scalar.indexCast v489
  let c0_166 : Index := 0#32
  ![v490.toNat, 0]
def k0_off67 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_167 : BitVec 32 := 256#32
  let v495 : BitVec 32 := Scalar.addi v49 c256_i32_167
  let v496 : Index := Scalar.indexCast v495
  ![v496.toNat]
def k0_mult25 (v497 : BitVec 32) : BitVec 32 :=
  v497

def k0_off68 (v497 : BitVec 32) : Fin 2 → Nat :=
  let v501 : BitVec 32 := v497
  let v502 : Index := Scalar.indexCast v501
  let c0_169 : Index := 0#32
  ![v502.toNat, 0]

def k0_chk22 (v497 : BitVec 32) : Prop :=
  (8 ∣ (k0_mult25 v497).toNat) ∧
  (∀ a, (k0_off68 v497) a + S8x128.size a ≤ S65536x128.size a)
theorem k0_mult25_dvd : ∀ (v497 : BitVec 32) (k0_hw22 : k0_chk22 v497), 8 ∣ (k0_mult25 v497).toNat := fun v497 k0_hw22 => k0_hw22.1
theorem k0_off68_inb : ∀ (v497 : BitVec 32) (k0_hw22 : k0_chk22 v497), ∀ a, (k0_off68 v497) a + S8x128.size a ≤ S65536x128.size a := fun v497 k0_hw22 => k0_hw22.2

def k0_off69 (k0_t2 : Fin k0_t2_loop.trips) (c21_i32_171 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v510 : BitVec 32 := Scalar.addi v37 c21_i32_171
  let v511 : Index := Scalar.indexCast v510
  let c0_172 : Index := 0#32
  ![v511.toNat, 0]
def k0_off70 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_173 : BitVec 32 := 256#32
  let v516 : BitVec 32 := Scalar.addi v49 c256_i32_173
  let v517 : Index := Scalar.indexCast v516
  ![v517.toNat]
def k0_mult26 (v518 : BitVec 32) : BitVec 32 :=
  v518

def k0_off71 (v518 : BitVec 32) : Fin 2 → Nat :=
  let v522 : BitVec 32 := v518
  let v523 : Index := Scalar.indexCast v522
  let c0_175 : Index := 0#32
  ![v523.toNat, 0]

def k0_chk23 (v518 : BitVec 32) : Prop :=
  (8 ∣ (k0_mult26 v518).toNat) ∧
  (∀ a, (k0_off71 v518) a + S8x128.size a ≤ S65536x128.size a)
theorem k0_mult26_dvd : ∀ (v518 : BitVec 32) (k0_hw23 : k0_chk23 v518), 8 ∣ (k0_mult26 v518).toNat := fun v518 k0_hw23 => k0_hw23.1
theorem k0_off71_inb : ∀ (v518 : BitVec 32) (k0_hw23 : k0_chk23 v518), ∀ a, (k0_off71 v518) a + S8x128.size a ≤ S65536x128.size a := fun v518 k0_hw23 => k0_hw23.2

def k0_off72 (k0_t2 : Fin k0_t2_loop.trips) (c22_i32_177 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v531 : BitVec 32 := Scalar.addi v37 c22_i32_177
  let v532 : Index := Scalar.indexCast v531
  let c0_178 : Index := 0#32
  ![v532.toNat, 0]
def k0_off73 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c256_i32_179 : BitVec 32 := 256#32
  let v537 : BitVec 32 := Scalar.addi v49 c256_i32_179
  let v538 : Index := Scalar.indexCast v537
  ![v538.toNat]
def k0_mult27 (v539 : BitVec 32) : BitVec 32 :=
  v539

def k0_off74 (v539 : BitVec 32) : Fin 2 → Nat :=
  let v543 : BitVec 32 := v539
  let v544 : Index := Scalar.indexCast v543
  let c0_181 : Index := 0#32
  ![v544.toNat, 0]

def k0_chk24 (v539 : BitVec 32) : Prop :=
  (8 ∣ (k0_mult27 v539).toNat) ∧
  (∀ a, (k0_off74 v539) a + S8x128.size a ≤ S65536x128.size a)
theorem k0_mult27_dvd : ∀ (v539 : BitVec 32) (k0_hw24 : k0_chk24 v539), 8 ∣ (k0_mult27 v539).toNat := fun v539 k0_hw24 => k0_hw24.1
theorem k0_off74_inb : ∀ (v539 : BitVec 32) (k0_hw24 : k0_chk24 v539), ∀ a, (k0_off74 v539) a + S8x128.size a ≤ S65536x128.size a := fun v539 k0_hw24 => k0_hw24.2

def k0_off75 (k0_t2 : Fin k0_t2_loop.trips) (c23_i32_183 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v552 : BitVec 32 := Scalar.addi v37 c23_i32_183
  let v553 : Index := Scalar.indexCast v552
  let c0_184 : Index := 0#32
  ![v553.toNat, 0]
def k0_off76 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32 : BitVec 32 := 384#32
  let v558 : BitVec 32 := Scalar.addi v49 c384_i32
  let v559 : Index := Scalar.indexCast v558
  ![v559.toNat]
def k0_mult28 (v560 : BitVec 32) : BitVec 32 :=
  v560

def k0_off77 (v560 : BitVec 32) : Fin 2 → Nat :=
  let v564 : BitVec 32 := v560
  let v565 : Index := Scalar.indexCast v564
  let c0_186 : Index := 0#32
  ![v565.toNat, 0]

def k0_chk25 (v560 : BitVec 32) : Prop :=
  (8 ∣ (k0_mult28 v560).toNat) ∧
  (∀ a, (k0_off77 v560) a + S8x128.size a ≤ S65536x128.size a)
theorem k0_mult28_dvd : ∀ (v560 : BitVec 32) (k0_hw25 : k0_chk25 v560), 8 ∣ (k0_mult28 v560).toNat := fun v560 k0_hw25 => k0_hw25.1
theorem k0_off77_inb : ∀ (v560 : BitVec 32) (k0_hw25 : k0_chk25 v560), ∀ a, (k0_off77 v560) a + S8x128.size a ≤ S65536x128.size a := fun v560 k0_hw25 => k0_hw25.2

def k0_off78 (k0_t2 : Fin k0_t2_loop.trips) (c24_i32_188 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v573 : BitVec 32 := Scalar.addi v37 c24_i32_188
  let v574 : Index := Scalar.indexCast v573
  let c0_189 : Index := 0#32
  ![v574.toNat, 0]
def k0_off79 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_190 : BitVec 32 := 384#32
  let v579 : BitVec 32 := Scalar.addi v49 c384_i32_190
  let v580 : Index := Scalar.indexCast v579
  ![v580.toNat]
def k0_mult29 (v581 : BitVec 32) : BitVec 32 :=
  v581

def k0_off80 (v581 : BitVec 32) : Fin 2 → Nat :=
  let v585 : BitVec 32 := v581
  let v586 : Index := Scalar.indexCast v585
  let c0_192 : Index := 0#32
  ![v586.toNat, 0]

def k0_chk26 (v581 : BitVec 32) : Prop :=
  (8 ∣ (k0_mult29 v581).toNat) ∧
  (∀ a, (k0_off80 v581) a + S8x128.size a ≤ S65536x128.size a)
theorem k0_mult29_dvd : ∀ (v581 : BitVec 32) (k0_hw26 : k0_chk26 v581), 8 ∣ (k0_mult29 v581).toNat := fun v581 k0_hw26 => k0_hw26.1
theorem k0_off80_inb : ∀ (v581 : BitVec 32) (k0_hw26 : k0_chk26 v581), ∀ a, (k0_off80 v581) a + S8x128.size a ≤ S65536x128.size a := fun v581 k0_hw26 => k0_hw26.2

def k0_off81 (k0_t2 : Fin k0_t2_loop.trips) (c25_i32_194 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v594 : BitVec 32 := Scalar.addi v37 c25_i32_194
  let v595 : Index := Scalar.indexCast v594
  let c0_195 : Index := 0#32
  ![v595.toNat, 0]
def k0_off82 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_196 : BitVec 32 := 384#32
  let v600 : BitVec 32 := Scalar.addi v49 c384_i32_196
  let v601 : Index := Scalar.indexCast v600
  ![v601.toNat]
def k0_mult30 (v602 : BitVec 32) : BitVec 32 :=
  v602

def k0_off83 (v602 : BitVec 32) : Fin 2 → Nat :=
  let v606 : BitVec 32 := v602
  let v607 : Index := Scalar.indexCast v606
  let c0_198 : Index := 0#32
  ![v607.toNat, 0]

def k0_chk27 (v602 : BitVec 32) : Prop :=
  (8 ∣ (k0_mult30 v602).toNat) ∧
  (∀ a, (k0_off83 v602) a + S8x128.size a ≤ S65536x128.size a)
theorem k0_mult30_dvd : ∀ (v602 : BitVec 32) (k0_hw27 : k0_chk27 v602), 8 ∣ (k0_mult30 v602).toNat := fun v602 k0_hw27 => k0_hw27.1
theorem k0_off83_inb : ∀ (v602 : BitVec 32) (k0_hw27 : k0_chk27 v602), ∀ a, (k0_off83 v602) a + S8x128.size a ≤ S65536x128.size a := fun v602 k0_hw27 => k0_hw27.2

def k0_off84 (k0_t2 : Fin k0_t2_loop.trips) (c26_i32_200 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v615 : BitVec 32 := Scalar.addi v37 c26_i32_200
  let v616 : Index := Scalar.indexCast v615
  let c0_201 : Index := 0#32
  ![v616.toNat, 0]
def k0_off85 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_202 : BitVec 32 := 384#32
  let v621 : BitVec 32 := Scalar.addi v49 c384_i32_202
  let v622 : Index := Scalar.indexCast v621
  ![v622.toNat]
def k0_mult31 (v623 : BitVec 32) : BitVec 32 :=
  v623

def k0_off86 (v623 : BitVec 32) : Fin 2 → Nat :=
  let v627 : BitVec 32 := v623
  let v628 : Index := Scalar.indexCast v627
  let c0_204 : Index := 0#32
  ![v628.toNat, 0]

def k0_chk28 (v623 : BitVec 32) : Prop :=
  (8 ∣ (k0_mult31 v623).toNat) ∧
  (∀ a, (k0_off86 v623) a + S8x128.size a ≤ S65536x128.size a)
theorem k0_mult31_dvd : ∀ (v623 : BitVec 32) (k0_hw28 : k0_chk28 v623), 8 ∣ (k0_mult31 v623).toNat := fun v623 k0_hw28 => k0_hw28.1
theorem k0_off86_inb : ∀ (v623 : BitVec 32) (k0_hw28 : k0_chk28 v623), ∀ a, (k0_off86 v623) a + S8x128.size a ≤ S65536x128.size a := fun v623 k0_hw28 => k0_hw28.2

def k0_off87 (k0_t2 : Fin k0_t2_loop.trips) (c27_i32_206 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v636 : BitVec 32 := Scalar.addi v37 c27_i32_206
  let v637 : Index := Scalar.indexCast v636
  let c0_207 : Index := 0#32
  ![v637.toNat, 0]
def k0_off88 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_208 : BitVec 32 := 384#32
  let v642 : BitVec 32 := Scalar.addi v49 c384_i32_208
  let v643 : Index := Scalar.indexCast v642
  ![v643.toNat]
def k0_mult32 (v644 : BitVec 32) : BitVec 32 :=
  v644

def k0_off89 (v644 : BitVec 32) : Fin 2 → Nat :=
  let v648 : BitVec 32 := v644
  let v649 : Index := Scalar.indexCast v648
  let c0_210 : Index := 0#32
  ![v649.toNat, 0]

def k0_chk29 (v644 : BitVec 32) : Prop :=
  (8 ∣ (k0_mult32 v644).toNat) ∧
  (∀ a, (k0_off89 v644) a + S8x128.size a ≤ S65536x128.size a)
theorem k0_mult32_dvd : ∀ (v644 : BitVec 32) (k0_hw29 : k0_chk29 v644), 8 ∣ (k0_mult32 v644).toNat := fun v644 k0_hw29 => k0_hw29.1
theorem k0_off89_inb : ∀ (v644 : BitVec 32) (k0_hw29 : k0_chk29 v644), ∀ a, (k0_off89 v644) a + S8x128.size a ≤ S65536x128.size a := fun v644 k0_hw29 => k0_hw29.2

def k0_off90 (k0_t2 : Fin k0_t2_loop.trips) (c28_i32_212 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v657 : BitVec 32 := Scalar.addi v37 c28_i32_212
  let v658 : Index := Scalar.indexCast v657
  let c0_213 : Index := 0#32
  ![v658.toNat, 0]
def k0_off91 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_214 : BitVec 32 := 384#32
  let v663 : BitVec 32 := Scalar.addi v49 c384_i32_214
  let v664 : Index := Scalar.indexCast v663
  ![v664.toNat]
def k0_mult33 (v665 : BitVec 32) : BitVec 32 :=
  v665

def k0_off92 (v665 : BitVec 32) : Fin 2 → Nat :=
  let v669 : BitVec 32 := v665
  let v670 : Index := Scalar.indexCast v669
  let c0_216 : Index := 0#32
  ![v670.toNat, 0]

def k0_chk30 (v665 : BitVec 32) : Prop :=
  (8 ∣ (k0_mult33 v665).toNat) ∧
  (∀ a, (k0_off92 v665) a + S8x128.size a ≤ S65536x128.size a)
theorem k0_mult33_dvd : ∀ (v665 : BitVec 32) (k0_hw30 : k0_chk30 v665), 8 ∣ (k0_mult33 v665).toNat := fun v665 k0_hw30 => k0_hw30.1
theorem k0_off92_inb : ∀ (v665 : BitVec 32) (k0_hw30 : k0_chk30 v665), ∀ a, (k0_off92 v665) a + S8x128.size a ≤ S65536x128.size a := fun v665 k0_hw30 => k0_hw30.2

def k0_off93 (k0_t2 : Fin k0_t2_loop.trips) (c29_i32_218 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v678 : BitVec 32 := Scalar.addi v37 c29_i32_218
  let v679 : Index := Scalar.indexCast v678
  let c0_219 : Index := 0#32
  ![v679.toNat, 0]
def k0_off94 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_220 : BitVec 32 := 384#32
  let v684 : BitVec 32 := Scalar.addi v49 c384_i32_220
  let v685 : Index := Scalar.indexCast v684
  ![v685.toNat]
def k0_mult34 (v686 : BitVec 32) : BitVec 32 :=
  v686

def k0_off95 (v686 : BitVec 32) : Fin 2 → Nat :=
  let v690 : BitVec 32 := v686
  let v691 : Index := Scalar.indexCast v690
  let c0_222 : Index := 0#32
  ![v691.toNat, 0]

def k0_chk31 (v686 : BitVec 32) : Prop :=
  (8 ∣ (k0_mult34 v686).toNat) ∧
  (∀ a, (k0_off95 v686) a + S8x128.size a ≤ S65536x128.size a)
theorem k0_mult34_dvd : ∀ (v686 : BitVec 32) (k0_hw31 : k0_chk31 v686), 8 ∣ (k0_mult34 v686).toNat := fun v686 k0_hw31 => k0_hw31.1
theorem k0_off95_inb : ∀ (v686 : BitVec 32) (k0_hw31 : k0_chk31 v686), ∀ a, (k0_off95 v686) a + S8x128.size a ≤ S65536x128.size a := fun v686 k0_hw31 => k0_hw31.2

def k0_off96 (k0_t2 : Fin k0_t2_loop.trips) (c30_i32_224 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v699 : BitVec 32 := Scalar.addi v37 c30_i32_224
  let v700 : Index := Scalar.indexCast v699
  let c0_225 : Index := 0#32
  ![v700.toNat, 0]
def k0_off97 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c384_i32_226 : BitVec 32 := 384#32
  let v705 : BitVec 32 := Scalar.addi v49 c384_i32_226
  let v706 : Index := Scalar.indexCast v705
  ![v706.toNat]
def k0_mult35 (v707 : BitVec 32) : BitVec 32 :=
  v707

def k0_off98 (v707 : BitVec 32) : Fin 2 → Nat :=
  let v711 : BitVec 32 := v707
  let v712 : Index := Scalar.indexCast v711
  let c0_228 : Index := 0#32
  ![v712.toNat, 0]

def k0_chk32 (v707 : BitVec 32) : Prop :=
  (8 ∣ (k0_mult35 v707).toNat) ∧
  (∀ a, (k0_off98 v707) a + S8x128.size a ≤ S65536x128.size a)
theorem k0_mult35_dvd : ∀ (v707 : BitVec 32) (k0_hw32 : k0_chk32 v707), 8 ∣ (k0_mult35 v707).toNat := fun v707 k0_hw32 => k0_hw32.1
theorem k0_off98_inb : ∀ (v707 : BitVec 32) (k0_hw32 : k0_chk32 v707), ∀ a, (k0_off98 v707) a + S8x128.size a ≤ S65536x128.size a := fun v707 k0_hw32 => k0_hw32.2

def k0_off99 (k0_t2 : Fin k0_t2_loop.trips) (c31_i32_230 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v720 : BitVec 32 := Scalar.addi v37 c31_i32_230
  let v721 : Index := Scalar.indexCast v720
  let c0_231 : Index := 0#32
  ![v721.toNat, 0]
def k0_off100 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32 : BitVec 32 := 512#32
  let v726 : BitVec 32 := Scalar.addi v49 c512_i32
  let v727 : Index := Scalar.indexCast v726
  ![v727.toNat]
def k0_mult36 (v728 : BitVec 32) : BitVec 32 :=
  v728

def k0_off101 (v728 : BitVec 32) : Fin 2 → Nat :=
  let v732 : BitVec 32 := v728
  let v733 : Index := Scalar.indexCast v732
  let c0_233 : Index := 0#32
  ![v733.toNat, 0]

def k0_chk33 (v728 : BitVec 32) : Prop :=
  (8 ∣ (k0_mult36 v728).toNat) ∧
  (∀ a, (k0_off101 v728) a + S8x128.size a ≤ S65536x128.size a)
theorem k0_mult36_dvd : ∀ (v728 : BitVec 32) (k0_hw33 : k0_chk33 v728), 8 ∣ (k0_mult36 v728).toNat := fun v728 k0_hw33 => k0_hw33.1
theorem k0_off101_inb : ∀ (v728 : BitVec 32) (k0_hw33 : k0_chk33 v728), ∀ a, (k0_off101 v728) a + S8x128.size a ≤ S65536x128.size a := fun v728 k0_hw33 => k0_hw33.2

def k0_off102 (k0_t2 : Fin k0_t2_loop.trips) (c32_i32_235 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v741 : BitVec 32 := Scalar.addi v37 c32_i32_235
  let v742 : Index := Scalar.indexCast v741
  let c0_236 : Index := 0#32
  ![v742.toNat, 0]
def k0_off103 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_237 : BitVec 32 := 512#32
  let v747 : BitVec 32 := Scalar.addi v49 c512_i32_237
  let v748 : Index := Scalar.indexCast v747
  ![v748.toNat]
def k0_mult37 (v749 : BitVec 32) : BitVec 32 :=
  v749

def k0_off104 (v749 : BitVec 32) : Fin 2 → Nat :=
  let v753 : BitVec 32 := v749
  let v754 : Index := Scalar.indexCast v753
  let c0_239 : Index := 0#32
  ![v754.toNat, 0]

def k0_chk34 (v749 : BitVec 32) : Prop :=
  (8 ∣ (k0_mult37 v749).toNat) ∧
  (∀ a, (k0_off104 v749) a + S8x128.size a ≤ S65536x128.size a)
theorem k0_mult37_dvd : ∀ (v749 : BitVec 32) (k0_hw34 : k0_chk34 v749), 8 ∣ (k0_mult37 v749).toNat := fun v749 k0_hw34 => k0_hw34.1
theorem k0_off104_inb : ∀ (v749 : BitVec 32) (k0_hw34 : k0_chk34 v749), ∀ a, (k0_off104 v749) a + S8x128.size a ≤ S65536x128.size a := fun v749 k0_hw34 => k0_hw34.2

def k0_off105 (k0_t2 : Fin k0_t2_loop.trips) (c33_i32_241 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v762 : BitVec 32 := Scalar.addi v37 c33_i32_241
  let v763 : Index := Scalar.indexCast v762
  let c0_242 : Index := 0#32
  ![v763.toNat, 0]
def k0_off106 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_243 : BitVec 32 := 512#32
  let v768 : BitVec 32 := Scalar.addi v49 c512_i32_243
  let v769 : Index := Scalar.indexCast v768
  ![v769.toNat]
def k0_mult38 (v770 : BitVec 32) : BitVec 32 :=
  v770

def k0_off107 (v770 : BitVec 32) : Fin 2 → Nat :=
  let v774 : BitVec 32 := v770
  let v775 : Index := Scalar.indexCast v774
  let c0_245 : Index := 0#32
  ![v775.toNat, 0]

def k0_chk35 (v770 : BitVec 32) : Prop :=
  (8 ∣ (k0_mult38 v770).toNat) ∧
  (∀ a, (k0_off107 v770) a + S8x128.size a ≤ S65536x128.size a)
theorem k0_mult38_dvd : ∀ (v770 : BitVec 32) (k0_hw35 : k0_chk35 v770), 8 ∣ (k0_mult38 v770).toNat := fun v770 k0_hw35 => k0_hw35.1
theorem k0_off107_inb : ∀ (v770 : BitVec 32) (k0_hw35 : k0_chk35 v770), ∀ a, (k0_off107 v770) a + S8x128.size a ≤ S65536x128.size a := fun v770 k0_hw35 => k0_hw35.2

def k0_off108 (k0_t2 : Fin k0_t2_loop.trips) (c34_i32_247 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v783 : BitVec 32 := Scalar.addi v37 c34_i32_247
  let v784 : Index := Scalar.indexCast v783
  let c0_248 : Index := 0#32
  ![v784.toNat, 0]
def k0_off109 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_249 : BitVec 32 := 512#32
  let v789 : BitVec 32 := Scalar.addi v49 c512_i32_249
  let v790 : Index := Scalar.indexCast v789
  ![v790.toNat]
def k0_mult39 (v791 : BitVec 32) : BitVec 32 :=
  v791

def k0_off110 (v791 : BitVec 32) : Fin 2 → Nat :=
  let v795 : BitVec 32 := v791
  let v796 : Index := Scalar.indexCast v795
  let c0_251 : Index := 0#32
  ![v796.toNat, 0]

def k0_chk36 (v791 : BitVec 32) : Prop :=
  (8 ∣ (k0_mult39 v791).toNat) ∧
  (∀ a, (k0_off110 v791) a + S8x128.size a ≤ S65536x128.size a)
theorem k0_mult39_dvd : ∀ (v791 : BitVec 32) (k0_hw36 : k0_chk36 v791), 8 ∣ (k0_mult39 v791).toNat := fun v791 k0_hw36 => k0_hw36.1
theorem k0_off110_inb : ∀ (v791 : BitVec 32) (k0_hw36 : k0_chk36 v791), ∀ a, (k0_off110 v791) a + S8x128.size a ≤ S65536x128.size a := fun v791 k0_hw36 => k0_hw36.2

def k0_off111 (k0_t2 : Fin k0_t2_loop.trips) (c35_i32_253 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v804 : BitVec 32 := Scalar.addi v37 c35_i32_253
  let v805 : Index := Scalar.indexCast v804
  let c0_254 : Index := 0#32
  ![v805.toNat, 0]
def k0_off112 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_255 : BitVec 32 := 512#32
  let v810 : BitVec 32 := Scalar.addi v49 c512_i32_255
  let v811 : Index := Scalar.indexCast v810
  ![v811.toNat]
def k0_mult40 (v812 : BitVec 32) : BitVec 32 :=
  v812

def k0_off113 (v812 : BitVec 32) : Fin 2 → Nat :=
  let v816 : BitVec 32 := v812
  let v817 : Index := Scalar.indexCast v816
  let c0_257 : Index := 0#32
  ![v817.toNat, 0]

def k0_chk37 (v812 : BitVec 32) : Prop :=
  (8 ∣ (k0_mult40 v812).toNat) ∧
  (∀ a, (k0_off113 v812) a + S8x128.size a ≤ S65536x128.size a)
theorem k0_mult40_dvd : ∀ (v812 : BitVec 32) (k0_hw37 : k0_chk37 v812), 8 ∣ (k0_mult40 v812).toNat := fun v812 k0_hw37 => k0_hw37.1
theorem k0_off113_inb : ∀ (v812 : BitVec 32) (k0_hw37 : k0_chk37 v812), ∀ a, (k0_off113 v812) a + S8x128.size a ≤ S65536x128.size a := fun v812 k0_hw37 => k0_hw37.2

def k0_off114 (k0_t2 : Fin k0_t2_loop.trips) (c36_i32_259 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v825 : BitVec 32 := Scalar.addi v37 c36_i32_259
  let v826 : Index := Scalar.indexCast v825
  let c0_260 : Index := 0#32
  ![v826.toNat, 0]
def k0_off115 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_261 : BitVec 32 := 512#32
  let v831 : BitVec 32 := Scalar.addi v49 c512_i32_261
  let v832 : Index := Scalar.indexCast v831
  ![v832.toNat]
def k0_mult41 (v833 : BitVec 32) : BitVec 32 :=
  v833

def k0_off116 (v833 : BitVec 32) : Fin 2 → Nat :=
  let v837 : BitVec 32 := v833
  let v838 : Index := Scalar.indexCast v837
  let c0_263 : Index := 0#32
  ![v838.toNat, 0]

def k0_chk38 (v833 : BitVec 32) : Prop :=
  (8 ∣ (k0_mult41 v833).toNat) ∧
  (∀ a, (k0_off116 v833) a + S8x128.size a ≤ S65536x128.size a)
theorem k0_mult41_dvd : ∀ (v833 : BitVec 32) (k0_hw38 : k0_chk38 v833), 8 ∣ (k0_mult41 v833).toNat := fun v833 k0_hw38 => k0_hw38.1
theorem k0_off116_inb : ∀ (v833 : BitVec 32) (k0_hw38 : k0_chk38 v833), ∀ a, (k0_off116 v833) a + S8x128.size a ≤ S65536x128.size a := fun v833 k0_hw38 => k0_hw38.2

def k0_off117 (k0_t2 : Fin k0_t2_loop.trips) (c37_i32_265 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v846 : BitVec 32 := Scalar.addi v37 c37_i32_265
  let v847 : Index := Scalar.indexCast v846
  let c0_266 : Index := 0#32
  ![v847.toNat, 0]
def k0_off118 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_267 : BitVec 32 := 512#32
  let v852 : BitVec 32 := Scalar.addi v49 c512_i32_267
  let v853 : Index := Scalar.indexCast v852
  ![v853.toNat]
def k0_mult42 (v854 : BitVec 32) : BitVec 32 :=
  v854

def k0_off119 (v854 : BitVec 32) : Fin 2 → Nat :=
  let v858 : BitVec 32 := v854
  let v859 : Index := Scalar.indexCast v858
  let c0_269 : Index := 0#32
  ![v859.toNat, 0]

def k0_chk39 (v854 : BitVec 32) : Prop :=
  (8 ∣ (k0_mult42 v854).toNat) ∧
  (∀ a, (k0_off119 v854) a + S8x128.size a ≤ S65536x128.size a)
theorem k0_mult42_dvd : ∀ (v854 : BitVec 32) (k0_hw39 : k0_chk39 v854), 8 ∣ (k0_mult42 v854).toNat := fun v854 k0_hw39 => k0_hw39.1
theorem k0_off119_inb : ∀ (v854 : BitVec 32) (k0_hw39 : k0_chk39 v854), ∀ a, (k0_off119 v854) a + S8x128.size a ≤ S65536x128.size a := fun v854 k0_hw39 => k0_hw39.2

def k0_off120 (k0_t2 : Fin k0_t2_loop.trips) (c38_i32_271 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v867 : BitVec 32 := Scalar.addi v37 c38_i32_271
  let v868 : Index := Scalar.indexCast v867
  let c0_272 : Index := 0#32
  ![v868.toNat, 0]
def k0_off121 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c512_i32_273 : BitVec 32 := 512#32
  let v873 : BitVec 32 := Scalar.addi v49 c512_i32_273
  let v874 : Index := Scalar.indexCast v873
  ![v874.toNat]
def k0_mult43 (v875 : BitVec 32) : BitVec 32 :=
  v875

def k0_off122 (v875 : BitVec 32) : Fin 2 → Nat :=
  let v879 : BitVec 32 := v875
  let v880 : Index := Scalar.indexCast v879
  let c0_275 : Index := 0#32
  ![v880.toNat, 0]

def k0_chk40 (v875 : BitVec 32) : Prop :=
  (8 ∣ (k0_mult43 v875).toNat) ∧
  (∀ a, (k0_off122 v875) a + S8x128.size a ≤ S65536x128.size a)
theorem k0_mult43_dvd : ∀ (v875 : BitVec 32) (k0_hw40 : k0_chk40 v875), 8 ∣ (k0_mult43 v875).toNat := fun v875 k0_hw40 => k0_hw40.1
theorem k0_off122_inb : ∀ (v875 : BitVec 32) (k0_hw40 : k0_chk40 v875), ∀ a, (k0_off122 v875) a + S8x128.size a ≤ S65536x128.size a := fun v875 k0_hw40 => k0_hw40.2

def k0_off123 (k0_t2 : Fin k0_t2_loop.trips) (c39_i32_277 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v888 : BitVec 32 := Scalar.addi v37 c39_i32_277
  let v889 : Index := Scalar.indexCast v888
  let c0_278 : Index := 0#32
  ![v889.toNat, 0]
def k0_off124 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32 : BitVec 32 := 640#32
  let v894 : BitVec 32 := Scalar.addi v49 c640_i32
  let v895 : Index := Scalar.indexCast v894
  ![v895.toNat]
def k0_mult44 (v896 : BitVec 32) : BitVec 32 :=
  v896

def k0_off125 (v896 : BitVec 32) : Fin 2 → Nat :=
  let v900 : BitVec 32 := v896
  let v901 : Index := Scalar.indexCast v900
  let c0_280 : Index := 0#32
  ![v901.toNat, 0]

def k0_chk41 (v896 : BitVec 32) : Prop :=
  (8 ∣ (k0_mult44 v896).toNat) ∧
  (∀ a, (k0_off125 v896) a + S8x128.size a ≤ S65536x128.size a)
theorem k0_mult44_dvd : ∀ (v896 : BitVec 32) (k0_hw41 : k0_chk41 v896), 8 ∣ (k0_mult44 v896).toNat := fun v896 k0_hw41 => k0_hw41.1
theorem k0_off125_inb : ∀ (v896 : BitVec 32) (k0_hw41 : k0_chk41 v896), ∀ a, (k0_off125 v896) a + S8x128.size a ≤ S65536x128.size a := fun v896 k0_hw41 => k0_hw41.2

def k0_off126 (k0_t2 : Fin k0_t2_loop.trips) (c40_i32_282 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v909 : BitVec 32 := Scalar.addi v37 c40_i32_282
  let v910 : Index := Scalar.indexCast v909
  let c0_283 : Index := 0#32
  ![v910.toNat, 0]
def k0_off127 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_284 : BitVec 32 := 640#32
  let v915 : BitVec 32 := Scalar.addi v49 c640_i32_284
  let v916 : Index := Scalar.indexCast v915
  ![v916.toNat]
def k0_mult45 (v917 : BitVec 32) : BitVec 32 :=
  v917

def k0_off128 (v917 : BitVec 32) : Fin 2 → Nat :=
  let v921 : BitVec 32 := v917
  let v922 : Index := Scalar.indexCast v921
  let c0_286 : Index := 0#32
  ![v922.toNat, 0]

def k0_chk42 (v917 : BitVec 32) : Prop :=
  (8 ∣ (k0_mult45 v917).toNat) ∧
  (∀ a, (k0_off128 v917) a + S8x128.size a ≤ S65536x128.size a)
theorem k0_mult45_dvd : ∀ (v917 : BitVec 32) (k0_hw42 : k0_chk42 v917), 8 ∣ (k0_mult45 v917).toNat := fun v917 k0_hw42 => k0_hw42.1
theorem k0_off128_inb : ∀ (v917 : BitVec 32) (k0_hw42 : k0_chk42 v917), ∀ a, (k0_off128 v917) a + S8x128.size a ≤ S65536x128.size a := fun v917 k0_hw42 => k0_hw42.2

def k0_off129 (k0_t2 : Fin k0_t2_loop.trips) (c41_i32_288 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v930 : BitVec 32 := Scalar.addi v37 c41_i32_288
  let v931 : Index := Scalar.indexCast v930
  let c0_289 : Index := 0#32
  ![v931.toNat, 0]
def k0_off130 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_290 : BitVec 32 := 640#32
  let v936 : BitVec 32 := Scalar.addi v49 c640_i32_290
  let v937 : Index := Scalar.indexCast v936
  ![v937.toNat]
def k0_mult46 (v938 : BitVec 32) : BitVec 32 :=
  v938

def k0_off131 (v938 : BitVec 32) : Fin 2 → Nat :=
  let v942 : BitVec 32 := v938
  let v943 : Index := Scalar.indexCast v942
  let c0_292 : Index := 0#32
  ![v943.toNat, 0]

def k0_chk43 (v938 : BitVec 32) : Prop :=
  (8 ∣ (k0_mult46 v938).toNat) ∧
  (∀ a, (k0_off131 v938) a + S8x128.size a ≤ S65536x128.size a)
theorem k0_mult46_dvd : ∀ (v938 : BitVec 32) (k0_hw43 : k0_chk43 v938), 8 ∣ (k0_mult46 v938).toNat := fun v938 k0_hw43 => k0_hw43.1
theorem k0_off131_inb : ∀ (v938 : BitVec 32) (k0_hw43 : k0_chk43 v938), ∀ a, (k0_off131 v938) a + S8x128.size a ≤ S65536x128.size a := fun v938 k0_hw43 => k0_hw43.2

def k0_off132 (k0_t2 : Fin k0_t2_loop.trips) (c42_i32_294 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v951 : BitVec 32 := Scalar.addi v37 c42_i32_294
  let v952 : Index := Scalar.indexCast v951
  let c0_295 : Index := 0#32
  ![v952.toNat, 0]
def k0_off133 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_296 : BitVec 32 := 640#32
  let v957 : BitVec 32 := Scalar.addi v49 c640_i32_296
  let v958 : Index := Scalar.indexCast v957
  ![v958.toNat]
def k0_mult47 (v959 : BitVec 32) : BitVec 32 :=
  v959

def k0_off134 (v959 : BitVec 32) : Fin 2 → Nat :=
  let v963 : BitVec 32 := v959
  let v964 : Index := Scalar.indexCast v963
  let c0_298 : Index := 0#32
  ![v964.toNat, 0]

def k0_chk44 (v959 : BitVec 32) : Prop :=
  (8 ∣ (k0_mult47 v959).toNat) ∧
  (∀ a, (k0_off134 v959) a + S8x128.size a ≤ S65536x128.size a)
theorem k0_mult47_dvd : ∀ (v959 : BitVec 32) (k0_hw44 : k0_chk44 v959), 8 ∣ (k0_mult47 v959).toNat := fun v959 k0_hw44 => k0_hw44.1
theorem k0_off134_inb : ∀ (v959 : BitVec 32) (k0_hw44 : k0_chk44 v959), ∀ a, (k0_off134 v959) a + S8x128.size a ≤ S65536x128.size a := fun v959 k0_hw44 => k0_hw44.2

def k0_off135 (k0_t2 : Fin k0_t2_loop.trips) (c43_i32_300 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v972 : BitVec 32 := Scalar.addi v37 c43_i32_300
  let v973 : Index := Scalar.indexCast v972
  let c0_301 : Index := 0#32
  ![v973.toNat, 0]
def k0_off136 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_302 : BitVec 32 := 640#32
  let v978 : BitVec 32 := Scalar.addi v49 c640_i32_302
  let v979 : Index := Scalar.indexCast v978
  ![v979.toNat]
def k0_mult48 (v980 : BitVec 32) : BitVec 32 :=
  v980

def k0_off137 (v980 : BitVec 32) : Fin 2 → Nat :=
  let v984 : BitVec 32 := v980
  let v985 : Index := Scalar.indexCast v984
  let c0_304 : Index := 0#32
  ![v985.toNat, 0]

def k0_chk45 (v980 : BitVec 32) : Prop :=
  (8 ∣ (k0_mult48 v980).toNat) ∧
  (∀ a, (k0_off137 v980) a + S8x128.size a ≤ S65536x128.size a)
theorem k0_mult48_dvd : ∀ (v980 : BitVec 32) (k0_hw45 : k0_chk45 v980), 8 ∣ (k0_mult48 v980).toNat := fun v980 k0_hw45 => k0_hw45.1
theorem k0_off137_inb : ∀ (v980 : BitVec 32) (k0_hw45 : k0_chk45 v980), ∀ a, (k0_off137 v980) a + S8x128.size a ≤ S65536x128.size a := fun v980 k0_hw45 => k0_hw45.2

def k0_off138 (k0_t2 : Fin k0_t2_loop.trips) (c44_i32_306 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v993 : BitVec 32 := Scalar.addi v37 c44_i32_306
  let v994 : Index := Scalar.indexCast v993
  let c0_307 : Index := 0#32
  ![v994.toNat, 0]
def k0_off139 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_308 : BitVec 32 := 640#32
  let v999 : BitVec 32 := Scalar.addi v49 c640_i32_308
  let v1000 : Index := Scalar.indexCast v999
  ![v1000.toNat]
def k0_mult49 (v1001 : BitVec 32) : BitVec 32 :=
  v1001

def k0_off140 (v1001 : BitVec 32) : Fin 2 → Nat :=
  let v1005 : BitVec 32 := v1001
  let v1006 : Index := Scalar.indexCast v1005
  let c0_310 : Index := 0#32
  ![v1006.toNat, 0]

def k0_chk46 (v1001 : BitVec 32) : Prop :=
  (8 ∣ (k0_mult49 v1001).toNat) ∧
  (∀ a, (k0_off140 v1001) a + S8x128.size a ≤ S65536x128.size a)
theorem k0_mult49_dvd : ∀ (v1001 : BitVec 32) (k0_hw46 : k0_chk46 v1001), 8 ∣ (k0_mult49 v1001).toNat := fun v1001 k0_hw46 => k0_hw46.1
theorem k0_off140_inb : ∀ (v1001 : BitVec 32) (k0_hw46 : k0_chk46 v1001), ∀ a, (k0_off140 v1001) a + S8x128.size a ≤ S65536x128.size a := fun v1001 k0_hw46 => k0_hw46.2

def k0_off141 (k0_t2 : Fin k0_t2_loop.trips) (c45_i32_312 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1014 : BitVec 32 := Scalar.addi v37 c45_i32_312
  let v1015 : Index := Scalar.indexCast v1014
  let c0_313 : Index := 0#32
  ![v1015.toNat, 0]
def k0_off142 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_314 : BitVec 32 := 640#32
  let v1020 : BitVec 32 := Scalar.addi v49 c640_i32_314
  let v1021 : Index := Scalar.indexCast v1020
  ![v1021.toNat]
def k0_mult50 (v1022 : BitVec 32) : BitVec 32 :=
  v1022

def k0_off143 (v1022 : BitVec 32) : Fin 2 → Nat :=
  let v1026 : BitVec 32 := v1022
  let v1027 : Index := Scalar.indexCast v1026
  let c0_316 : Index := 0#32
  ![v1027.toNat, 0]

def k0_chk47 (v1022 : BitVec 32) : Prop :=
  (8 ∣ (k0_mult50 v1022).toNat) ∧
  (∀ a, (k0_off143 v1022) a + S8x128.size a ≤ S65536x128.size a)
theorem k0_mult50_dvd : ∀ (v1022 : BitVec 32) (k0_hw47 : k0_chk47 v1022), 8 ∣ (k0_mult50 v1022).toNat := fun v1022 k0_hw47 => k0_hw47.1
theorem k0_off143_inb : ∀ (v1022 : BitVec 32) (k0_hw47 : k0_chk47 v1022), ∀ a, (k0_off143 v1022) a + S8x128.size a ≤ S65536x128.size a := fun v1022 k0_hw47 => k0_hw47.2

def k0_off144 (k0_t2 : Fin k0_t2_loop.trips) (c46_i32_318 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1035 : BitVec 32 := Scalar.addi v37 c46_i32_318
  let v1036 : Index := Scalar.indexCast v1035
  let c0_319 : Index := 0#32
  ![v1036.toNat, 0]
def k0_off145 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c640_i32_320 : BitVec 32 := 640#32
  let v1041 : BitVec 32 := Scalar.addi v49 c640_i32_320
  let v1042 : Index := Scalar.indexCast v1041
  ![v1042.toNat]
def k0_mult51 (v1043 : BitVec 32) : BitVec 32 :=
  v1043

def k0_off146 (v1043 : BitVec 32) : Fin 2 → Nat :=
  let v1047 : BitVec 32 := v1043
  let v1048 : Index := Scalar.indexCast v1047
  let c0_322 : Index := 0#32
  ![v1048.toNat, 0]

def k0_chk48 (v1043 : BitVec 32) : Prop :=
  (8 ∣ (k0_mult51 v1043).toNat) ∧
  (∀ a, (k0_off146 v1043) a + S8x128.size a ≤ S65536x128.size a)
theorem k0_mult51_dvd : ∀ (v1043 : BitVec 32) (k0_hw48 : k0_chk48 v1043), 8 ∣ (k0_mult51 v1043).toNat := fun v1043 k0_hw48 => k0_hw48.1
theorem k0_off146_inb : ∀ (v1043 : BitVec 32) (k0_hw48 : k0_chk48 v1043), ∀ a, (k0_off146 v1043) a + S8x128.size a ≤ S65536x128.size a := fun v1043 k0_hw48 => k0_hw48.2

def k0_off147 (k0_t2 : Fin k0_t2_loop.trips) (c47_i32_324 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1056 : BitVec 32 := Scalar.addi v37 c47_i32_324
  let v1057 : Index := Scalar.indexCast v1056
  let c0_325 : Index := 0#32
  ![v1057.toNat, 0]
def k0_off148 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32 : BitVec 32 := 768#32
  let v1062 : BitVec 32 := Scalar.addi v49 c768_i32
  let v1063 : Index := Scalar.indexCast v1062
  ![v1063.toNat]
def k0_mult52 (v1064 : BitVec 32) : BitVec 32 :=
  v1064

def k0_off149 (v1064 : BitVec 32) : Fin 2 → Nat :=
  let v1068 : BitVec 32 := v1064
  let v1069 : Index := Scalar.indexCast v1068
  let c0_327 : Index := 0#32
  ![v1069.toNat, 0]

def k0_chk49 (v1064 : BitVec 32) : Prop :=
  (8 ∣ (k0_mult52 v1064).toNat) ∧
  (∀ a, (k0_off149 v1064) a + S8x128.size a ≤ S65536x128.size a)
theorem k0_mult52_dvd : ∀ (v1064 : BitVec 32) (k0_hw49 : k0_chk49 v1064), 8 ∣ (k0_mult52 v1064).toNat := fun v1064 k0_hw49 => k0_hw49.1
theorem k0_off149_inb : ∀ (v1064 : BitVec 32) (k0_hw49 : k0_chk49 v1064), ∀ a, (k0_off149 v1064) a + S8x128.size a ≤ S65536x128.size a := fun v1064 k0_hw49 => k0_hw49.2

def k0_off150 (k0_t2 : Fin k0_t2_loop.trips) (c48_i32_329 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1077 : BitVec 32 := Scalar.addi v37 c48_i32_329
  let v1078 : Index := Scalar.indexCast v1077
  let c0_330 : Index := 0#32
  ![v1078.toNat, 0]
def k0_off151 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_331 : BitVec 32 := 768#32
  let v1083 : BitVec 32 := Scalar.addi v49 c768_i32_331
  let v1084 : Index := Scalar.indexCast v1083
  ![v1084.toNat]
def k0_mult53 (v1085 : BitVec 32) : BitVec 32 :=
  v1085

def k0_off152 (v1085 : BitVec 32) : Fin 2 → Nat :=
  let v1089 : BitVec 32 := v1085
  let v1090 : Index := Scalar.indexCast v1089
  let c0_333 : Index := 0#32
  ![v1090.toNat, 0]

def k0_chk50 (v1085 : BitVec 32) : Prop :=
  (8 ∣ (k0_mult53 v1085).toNat) ∧
  (∀ a, (k0_off152 v1085) a + S8x128.size a ≤ S65536x128.size a)
theorem k0_mult53_dvd : ∀ (v1085 : BitVec 32) (k0_hw50 : k0_chk50 v1085), 8 ∣ (k0_mult53 v1085).toNat := fun v1085 k0_hw50 => k0_hw50.1
theorem k0_off152_inb : ∀ (v1085 : BitVec 32) (k0_hw50 : k0_chk50 v1085), ∀ a, (k0_off152 v1085) a + S8x128.size a ≤ S65536x128.size a := fun v1085 k0_hw50 => k0_hw50.2

def k0_off153 (k0_t2 : Fin k0_t2_loop.trips) (c49_i32_335 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1098 : BitVec 32 := Scalar.addi v37 c49_i32_335
  let v1099 : Index := Scalar.indexCast v1098
  let c0_336 : Index := 0#32
  ![v1099.toNat, 0]
def k0_off154 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_337 : BitVec 32 := 768#32
  let v1104 : BitVec 32 := Scalar.addi v49 c768_i32_337
  let v1105 : Index := Scalar.indexCast v1104
  ![v1105.toNat]
def k0_mult54 (v1106 : BitVec 32) : BitVec 32 :=
  v1106

def k0_off155 (v1106 : BitVec 32) : Fin 2 → Nat :=
  let v1110 : BitVec 32 := v1106
  let v1111 : Index := Scalar.indexCast v1110
  let c0_339 : Index := 0#32
  ![v1111.toNat, 0]

def k0_chk51 (v1106 : BitVec 32) : Prop :=
  (8 ∣ (k0_mult54 v1106).toNat) ∧
  (∀ a, (k0_off155 v1106) a + S8x128.size a ≤ S65536x128.size a)
theorem k0_mult54_dvd : ∀ (v1106 : BitVec 32) (k0_hw51 : k0_chk51 v1106), 8 ∣ (k0_mult54 v1106).toNat := fun v1106 k0_hw51 => k0_hw51.1
theorem k0_off155_inb : ∀ (v1106 : BitVec 32) (k0_hw51 : k0_chk51 v1106), ∀ a, (k0_off155 v1106) a + S8x128.size a ≤ S65536x128.size a := fun v1106 k0_hw51 => k0_hw51.2

def k0_off156 (k0_t2 : Fin k0_t2_loop.trips) (c50_i32_341 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1119 : BitVec 32 := Scalar.addi v37 c50_i32_341
  let v1120 : Index := Scalar.indexCast v1119
  let c0_342 : Index := 0#32
  ![v1120.toNat, 0]
def k0_off157 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_343 : BitVec 32 := 768#32
  let v1125 : BitVec 32 := Scalar.addi v49 c768_i32_343
  let v1126 : Index := Scalar.indexCast v1125
  ![v1126.toNat]
def k0_mult55 (v1127 : BitVec 32) : BitVec 32 :=
  v1127

def k0_off158 (v1127 : BitVec 32) : Fin 2 → Nat :=
  let v1131 : BitVec 32 := v1127
  let v1132 : Index := Scalar.indexCast v1131
  let c0_345 : Index := 0#32
  ![v1132.toNat, 0]

def k0_chk52 (v1127 : BitVec 32) : Prop :=
  (8 ∣ (k0_mult55 v1127).toNat) ∧
  (∀ a, (k0_off158 v1127) a + S8x128.size a ≤ S65536x128.size a)
theorem k0_mult55_dvd : ∀ (v1127 : BitVec 32) (k0_hw52 : k0_chk52 v1127), 8 ∣ (k0_mult55 v1127).toNat := fun v1127 k0_hw52 => k0_hw52.1
theorem k0_off158_inb : ∀ (v1127 : BitVec 32) (k0_hw52 : k0_chk52 v1127), ∀ a, (k0_off158 v1127) a + S8x128.size a ≤ S65536x128.size a := fun v1127 k0_hw52 => k0_hw52.2

def k0_off159 (k0_t2 : Fin k0_t2_loop.trips) (c51_i32_347 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1140 : BitVec 32 := Scalar.addi v37 c51_i32_347
  let v1141 : Index := Scalar.indexCast v1140
  let c0_348 : Index := 0#32
  ![v1141.toNat, 0]
def k0_off160 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_349 : BitVec 32 := 768#32
  let v1146 : BitVec 32 := Scalar.addi v49 c768_i32_349
  let v1147 : Index := Scalar.indexCast v1146
  ![v1147.toNat]
def k0_mult56 (v1148 : BitVec 32) : BitVec 32 :=
  v1148

def k0_off161 (v1148 : BitVec 32) : Fin 2 → Nat :=
  let v1152 : BitVec 32 := v1148
  let v1153 : Index := Scalar.indexCast v1152
  let c0_351 : Index := 0#32
  ![v1153.toNat, 0]

def k0_chk53 (v1148 : BitVec 32) : Prop :=
  (8 ∣ (k0_mult56 v1148).toNat) ∧
  (∀ a, (k0_off161 v1148) a + S8x128.size a ≤ S65536x128.size a)
theorem k0_mult56_dvd : ∀ (v1148 : BitVec 32) (k0_hw53 : k0_chk53 v1148), 8 ∣ (k0_mult56 v1148).toNat := fun v1148 k0_hw53 => k0_hw53.1
theorem k0_off161_inb : ∀ (v1148 : BitVec 32) (k0_hw53 : k0_chk53 v1148), ∀ a, (k0_off161 v1148) a + S8x128.size a ≤ S65536x128.size a := fun v1148 k0_hw53 => k0_hw53.2

def k0_off162 (k0_t2 : Fin k0_t2_loop.trips) (c52_i32_353 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1161 : BitVec 32 := Scalar.addi v37 c52_i32_353
  let v1162 : Index := Scalar.indexCast v1161
  let c0_354 : Index := 0#32
  ![v1162.toNat, 0]
def k0_off163 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_355 : BitVec 32 := 768#32
  let v1167 : BitVec 32 := Scalar.addi v49 c768_i32_355
  let v1168 : Index := Scalar.indexCast v1167
  ![v1168.toNat]
def k0_mult57 (v1169 : BitVec 32) : BitVec 32 :=
  v1169

def k0_off164 (v1169 : BitVec 32) : Fin 2 → Nat :=
  let v1173 : BitVec 32 := v1169
  let v1174 : Index := Scalar.indexCast v1173
  let c0_357 : Index := 0#32
  ![v1174.toNat, 0]

def k0_chk54 (v1169 : BitVec 32) : Prop :=
  (8 ∣ (k0_mult57 v1169).toNat) ∧
  (∀ a, (k0_off164 v1169) a + S8x128.size a ≤ S65536x128.size a)
theorem k0_mult57_dvd : ∀ (v1169 : BitVec 32) (k0_hw54 : k0_chk54 v1169), 8 ∣ (k0_mult57 v1169).toNat := fun v1169 k0_hw54 => k0_hw54.1
theorem k0_off164_inb : ∀ (v1169 : BitVec 32) (k0_hw54 : k0_chk54 v1169), ∀ a, (k0_off164 v1169) a + S8x128.size a ≤ S65536x128.size a := fun v1169 k0_hw54 => k0_hw54.2

def k0_off165 (k0_t2 : Fin k0_t2_loop.trips) (c53_i32_359 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1182 : BitVec 32 := Scalar.addi v37 c53_i32_359
  let v1183 : Index := Scalar.indexCast v1182
  let c0_360 : Index := 0#32
  ![v1183.toNat, 0]
def k0_off166 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_361 : BitVec 32 := 768#32
  let v1188 : BitVec 32 := Scalar.addi v49 c768_i32_361
  let v1189 : Index := Scalar.indexCast v1188
  ![v1189.toNat]
def k0_mult58 (v1190 : BitVec 32) : BitVec 32 :=
  v1190

def k0_off167 (v1190 : BitVec 32) : Fin 2 → Nat :=
  let v1194 : BitVec 32 := v1190
  let v1195 : Index := Scalar.indexCast v1194
  let c0_363 : Index := 0#32
  ![v1195.toNat, 0]

def k0_chk55 (v1190 : BitVec 32) : Prop :=
  (8 ∣ (k0_mult58 v1190).toNat) ∧
  (∀ a, (k0_off167 v1190) a + S8x128.size a ≤ S65536x128.size a)
theorem k0_mult58_dvd : ∀ (v1190 : BitVec 32) (k0_hw55 : k0_chk55 v1190), 8 ∣ (k0_mult58 v1190).toNat := fun v1190 k0_hw55 => k0_hw55.1
theorem k0_off167_inb : ∀ (v1190 : BitVec 32) (k0_hw55 : k0_chk55 v1190), ∀ a, (k0_off167 v1190) a + S8x128.size a ≤ S65536x128.size a := fun v1190 k0_hw55 => k0_hw55.2

def k0_off168 (k0_t2 : Fin k0_t2_loop.trips) (c54_i32_365 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1203 : BitVec 32 := Scalar.addi v37 c54_i32_365
  let v1204 : Index := Scalar.indexCast v1203
  let c0_366 : Index := 0#32
  ![v1204.toNat, 0]
def k0_off169 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c768_i32_367 : BitVec 32 := 768#32
  let v1209 : BitVec 32 := Scalar.addi v49 c768_i32_367
  let v1210 : Index := Scalar.indexCast v1209
  ![v1210.toNat]
def k0_mult59 (v1211 : BitVec 32) : BitVec 32 :=
  v1211

def k0_off170 (v1211 : BitVec 32) : Fin 2 → Nat :=
  let v1215 : BitVec 32 := v1211
  let v1216 : Index := Scalar.indexCast v1215
  let c0_369 : Index := 0#32
  ![v1216.toNat, 0]

def k0_chk56 (v1211 : BitVec 32) : Prop :=
  (8 ∣ (k0_mult59 v1211).toNat) ∧
  (∀ a, (k0_off170 v1211) a + S8x128.size a ≤ S65536x128.size a)
theorem k0_mult59_dvd : ∀ (v1211 : BitVec 32) (k0_hw56 : k0_chk56 v1211), 8 ∣ (k0_mult59 v1211).toNat := fun v1211 k0_hw56 => k0_hw56.1
theorem k0_off170_inb : ∀ (v1211 : BitVec 32) (k0_hw56 : k0_chk56 v1211), ∀ a, (k0_off170 v1211) a + S8x128.size a ≤ S65536x128.size a := fun v1211 k0_hw56 => k0_hw56.2

def k0_off171 (k0_t2 : Fin k0_t2_loop.trips) (c55_i32_371 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1224 : BitVec 32 := Scalar.addi v37 c55_i32_371
  let v1225 : Index := Scalar.indexCast v1224
  let c0_372 : Index := 0#32
  ![v1225.toNat, 0]
def k0_off172 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32 : BitVec 32 := 896#32
  let v1230 : BitVec 32 := Scalar.addi v49 c896_i32
  let v1231 : Index := Scalar.indexCast v1230
  ![v1231.toNat]
def k0_mult60 (v1232 : BitVec 32) : BitVec 32 :=
  v1232

def k0_off173 (v1232 : BitVec 32) : Fin 2 → Nat :=
  let v1236 : BitVec 32 := v1232
  let v1237 : Index := Scalar.indexCast v1236
  let c0_374 : Index := 0#32
  ![v1237.toNat, 0]

def k0_chk57 (v1232 : BitVec 32) : Prop :=
  (8 ∣ (k0_mult60 v1232).toNat) ∧
  (∀ a, (k0_off173 v1232) a + S8x128.size a ≤ S65536x128.size a)
theorem k0_mult60_dvd : ∀ (v1232 : BitVec 32) (k0_hw57 : k0_chk57 v1232), 8 ∣ (k0_mult60 v1232).toNat := fun v1232 k0_hw57 => k0_hw57.1
theorem k0_off173_inb : ∀ (v1232 : BitVec 32) (k0_hw57 : k0_chk57 v1232), ∀ a, (k0_off173 v1232) a + S8x128.size a ≤ S65536x128.size a := fun v1232 k0_hw57 => k0_hw57.2

def k0_off174 (k0_t2 : Fin k0_t2_loop.trips) (c56_i32_376 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1245 : BitVec 32 := Scalar.addi v37 c56_i32_376
  let v1246 : Index := Scalar.indexCast v1245
  let c0_377 : Index := 0#32
  ![v1246.toNat, 0]
def k0_off175 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_378 : BitVec 32 := 896#32
  let v1251 : BitVec 32 := Scalar.addi v49 c896_i32_378
  let v1252 : Index := Scalar.indexCast v1251
  ![v1252.toNat]
def k0_mult61 (v1253 : BitVec 32) : BitVec 32 :=
  v1253

def k0_off176 (v1253 : BitVec 32) : Fin 2 → Nat :=
  let v1257 : BitVec 32 := v1253
  let v1258 : Index := Scalar.indexCast v1257
  let c0_380 : Index := 0#32
  ![v1258.toNat, 0]

def k0_chk58 (v1253 : BitVec 32) : Prop :=
  (8 ∣ (k0_mult61 v1253).toNat) ∧
  (∀ a, (k0_off176 v1253) a + S8x128.size a ≤ S65536x128.size a)
theorem k0_mult61_dvd : ∀ (v1253 : BitVec 32) (k0_hw58 : k0_chk58 v1253), 8 ∣ (k0_mult61 v1253).toNat := fun v1253 k0_hw58 => k0_hw58.1
theorem k0_off176_inb : ∀ (v1253 : BitVec 32) (k0_hw58 : k0_chk58 v1253), ∀ a, (k0_off176 v1253) a + S8x128.size a ≤ S65536x128.size a := fun v1253 k0_hw58 => k0_hw58.2

def k0_off177 (k0_t2 : Fin k0_t2_loop.trips) (c57_i32_382 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1266 : BitVec 32 := Scalar.addi v37 c57_i32_382
  let v1267 : Index := Scalar.indexCast v1266
  let c0_383 : Index := 0#32
  ![v1267.toNat, 0]
def k0_off178 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_384 : BitVec 32 := 896#32
  let v1272 : BitVec 32 := Scalar.addi v49 c896_i32_384
  let v1273 : Index := Scalar.indexCast v1272
  ![v1273.toNat]
def k0_mult62 (v1274 : BitVec 32) : BitVec 32 :=
  v1274

def k0_off179 (v1274 : BitVec 32) : Fin 2 → Nat :=
  let v1278 : BitVec 32 := v1274
  let v1279 : Index := Scalar.indexCast v1278
  let c0_386 : Index := 0#32
  ![v1279.toNat, 0]

def k0_chk59 (v1274 : BitVec 32) : Prop :=
  (8 ∣ (k0_mult62 v1274).toNat) ∧
  (∀ a, (k0_off179 v1274) a + S8x128.size a ≤ S65536x128.size a)
theorem k0_mult62_dvd : ∀ (v1274 : BitVec 32) (k0_hw59 : k0_chk59 v1274), 8 ∣ (k0_mult62 v1274).toNat := fun v1274 k0_hw59 => k0_hw59.1
theorem k0_off179_inb : ∀ (v1274 : BitVec 32) (k0_hw59 : k0_chk59 v1274), ∀ a, (k0_off179 v1274) a + S8x128.size a ≤ S65536x128.size a := fun v1274 k0_hw59 => k0_hw59.2

def k0_off180 (k0_t2 : Fin k0_t2_loop.trips) (c58_i32_388 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1287 : BitVec 32 := Scalar.addi v37 c58_i32_388
  let v1288 : Index := Scalar.indexCast v1287
  let c0_389 : Index := 0#32
  ![v1288.toNat, 0]
def k0_off181 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_390 : BitVec 32 := 896#32
  let v1293 : BitVec 32 := Scalar.addi v49 c896_i32_390
  let v1294 : Index := Scalar.indexCast v1293
  ![v1294.toNat]
def k0_mult63 (v1295 : BitVec 32) : BitVec 32 :=
  v1295

def k0_off182 (v1295 : BitVec 32) : Fin 2 → Nat :=
  let v1299 : BitVec 32 := v1295
  let v1300 : Index := Scalar.indexCast v1299
  let c0_392 : Index := 0#32
  ![v1300.toNat, 0]

def k0_chk60 (v1295 : BitVec 32) : Prop :=
  (8 ∣ (k0_mult63 v1295).toNat) ∧
  (∀ a, (k0_off182 v1295) a + S8x128.size a ≤ S65536x128.size a)
theorem k0_mult63_dvd : ∀ (v1295 : BitVec 32) (k0_hw60 : k0_chk60 v1295), 8 ∣ (k0_mult63 v1295).toNat := fun v1295 k0_hw60 => k0_hw60.1
theorem k0_off182_inb : ∀ (v1295 : BitVec 32) (k0_hw60 : k0_chk60 v1295), ∀ a, (k0_off182 v1295) a + S8x128.size a ≤ S65536x128.size a := fun v1295 k0_hw60 => k0_hw60.2

def k0_off183 (k0_t2 : Fin k0_t2_loop.trips) (c59_i32_394 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1308 : BitVec 32 := Scalar.addi v37 c59_i32_394
  let v1309 : Index := Scalar.indexCast v1308
  let c0_395 : Index := 0#32
  ![v1309.toNat, 0]
def k0_off184 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_396 : BitVec 32 := 896#32
  let v1314 : BitVec 32 := Scalar.addi v49 c896_i32_396
  let v1315 : Index := Scalar.indexCast v1314
  ![v1315.toNat]
def k0_mult64 (v1316 : BitVec 32) : BitVec 32 :=
  v1316

def k0_off185 (v1316 : BitVec 32) : Fin 2 → Nat :=
  let v1320 : BitVec 32 := v1316
  let v1321 : Index := Scalar.indexCast v1320
  let c0_398 : Index := 0#32
  ![v1321.toNat, 0]

def k0_chk61 (v1316 : BitVec 32) : Prop :=
  (8 ∣ (k0_mult64 v1316).toNat) ∧
  (∀ a, (k0_off185 v1316) a + S8x128.size a ≤ S65536x128.size a)
theorem k0_mult64_dvd : ∀ (v1316 : BitVec 32) (k0_hw61 : k0_chk61 v1316), 8 ∣ (k0_mult64 v1316).toNat := fun v1316 k0_hw61 => k0_hw61.1
theorem k0_off185_inb : ∀ (v1316 : BitVec 32) (k0_hw61 : k0_chk61 v1316), ∀ a, (k0_off185 v1316) a + S8x128.size a ≤ S65536x128.size a := fun v1316 k0_hw61 => k0_hw61.2

def k0_off186 (k0_t2 : Fin k0_t2_loop.trips) (c60_i32_400 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1329 : BitVec 32 := Scalar.addi v37 c60_i32_400
  let v1330 : Index := Scalar.indexCast v1329
  let c0_401 : Index := 0#32
  ![v1330.toNat, 0]
def k0_off187 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_402 : BitVec 32 := 896#32
  let v1335 : BitVec 32 := Scalar.addi v49 c896_i32_402
  let v1336 : Index := Scalar.indexCast v1335
  ![v1336.toNat]
def k0_mult65 (v1337 : BitVec 32) : BitVec 32 :=
  v1337

def k0_off188 (v1337 : BitVec 32) : Fin 2 → Nat :=
  let v1341 : BitVec 32 := v1337
  let v1342 : Index := Scalar.indexCast v1341
  let c0_404 : Index := 0#32
  ![v1342.toNat, 0]

def k0_chk62 (v1337 : BitVec 32) : Prop :=
  (8 ∣ (k0_mult65 v1337).toNat) ∧
  (∀ a, (k0_off188 v1337) a + S8x128.size a ≤ S65536x128.size a)
theorem k0_mult65_dvd : ∀ (v1337 : BitVec 32) (k0_hw62 : k0_chk62 v1337), 8 ∣ (k0_mult65 v1337).toNat := fun v1337 k0_hw62 => k0_hw62.1
theorem k0_off188_inb : ∀ (v1337 : BitVec 32) (k0_hw62 : k0_chk62 v1337), ∀ a, (k0_off188 v1337) a + S8x128.size a ≤ S65536x128.size a := fun v1337 k0_hw62 => k0_hw62.2

def k0_off189 (k0_t2 : Fin k0_t2_loop.trips) (c61_i32_406 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1350 : BitVec 32 := Scalar.addi v37 c61_i32_406
  let v1351 : Index := Scalar.indexCast v1350
  let c0_407 : Index := 0#32
  ![v1351.toNat, 0]
def k0_off190 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_408 : BitVec 32 := 896#32
  let v1356 : BitVec 32 := Scalar.addi v49 c896_i32_408
  let v1357 : Index := Scalar.indexCast v1356
  ![v1357.toNat]
def k0_mult66 (v1358 : BitVec 32) : BitVec 32 :=
  v1358

def k0_off191 (v1358 : BitVec 32) : Fin 2 → Nat :=
  let v1362 : BitVec 32 := v1358
  let v1363 : Index := Scalar.indexCast v1362
  let c0_410 : Index := 0#32
  ![v1363.toNat, 0]

def k0_chk63 (v1358 : BitVec 32) : Prop :=
  (8 ∣ (k0_mult66 v1358).toNat) ∧
  (∀ a, (k0_off191 v1358) a + S8x128.size a ≤ S65536x128.size a)
theorem k0_mult66_dvd : ∀ (v1358 : BitVec 32) (k0_hw63 : k0_chk63 v1358), 8 ∣ (k0_mult66 v1358).toNat := fun v1358 k0_hw63 => k0_hw63.1
theorem k0_off191_inb : ∀ (v1358 : BitVec 32) (k0_hw63 : k0_chk63 v1358), ∀ a, (k0_off191 v1358) a + S8x128.size a ≤ S65536x128.size a := fun v1358 k0_hw63 => k0_hw63.2

def k0_off192 (k0_t2 : Fin k0_t2_loop.trips) (c62_i32_412 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1371 : BitVec 32 := Scalar.addi v37 c62_i32_412
  let v1372 : Index := Scalar.indexCast v1371
  let c0_413 : Index := 0#32
  ![v1372.toNat, 0]
def k0_off193 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c896_i32_414 : BitVec 32 := 896#32
  let v1377 : BitVec 32 := Scalar.addi v49 c896_i32_414
  let v1378 : Index := Scalar.indexCast v1377
  ![v1378.toNat]
def k0_mult67 (v1379 : BitVec 32) : BitVec 32 :=
  v1379

def k0_off194 (v1379 : BitVec 32) : Fin 2 → Nat :=
  let v1383 : BitVec 32 := v1379
  let v1384 : Index := Scalar.indexCast v1383
  let c0_416 : Index := 0#32
  ![v1384.toNat, 0]

def k0_chk64 (v1379 : BitVec 32) : Prop :=
  (8 ∣ (k0_mult67 v1379).toNat) ∧
  (∀ a, (k0_off194 v1379) a + S8x128.size a ≤ S65536x128.size a)
theorem k0_mult67_dvd : ∀ (v1379 : BitVec 32) (k0_hw64 : k0_chk64 v1379), 8 ∣ (k0_mult67 v1379).toNat := fun v1379 k0_hw64 => k0_hw64.1
theorem k0_off194_inb : ∀ (v1379 : BitVec 32) (k0_hw64 : k0_chk64 v1379), ∀ a, (k0_off194 v1379) a + S8x128.size a ≤ S65536x128.size a := fun v1379 k0_hw64 => k0_hw64.2

def k0_off195 (k0_t2 : Fin k0_t2_loop.trips) (c63_i32_418 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1392 : BitVec 32 := Scalar.addi v37 c63_i32_418
  let v1393 : Index := Scalar.indexCast v1392
  let c0_419 : Index := 0#32
  ![v1393.toNat, 0]
def k0_off196 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32 : BitVec 32 := 1024#32
  let v1398 : BitVec 32 := Scalar.addi v49 c1024_i32
  let v1399 : Index := Scalar.indexCast v1398
  ![v1399.toNat]
def k0_mult68 (v1400 : BitVec 32) : BitVec 32 :=
  v1400

def k0_off197 (v1400 : BitVec 32) : Fin 2 → Nat :=
  let v1404 : BitVec 32 := v1400
  let v1405 : Index := Scalar.indexCast v1404
  let c0_421 : Index := 0#32
  ![v1405.toNat, 0]

def k0_chk65 (v1400 : BitVec 32) : Prop :=
  (8 ∣ (k0_mult68 v1400).toNat) ∧
  (∀ a, (k0_off197 v1400) a + S8x128.size a ≤ S65536x128.size a)
theorem k0_mult68_dvd : ∀ (v1400 : BitVec 32) (k0_hw65 : k0_chk65 v1400), 8 ∣ (k0_mult68 v1400).toNat := fun v1400 k0_hw65 => k0_hw65.1
theorem k0_off197_inb : ∀ (v1400 : BitVec 32) (k0_hw65 : k0_chk65 v1400), ∀ a, (k0_off197 v1400) a + S8x128.size a ≤ S65536x128.size a := fun v1400 k0_hw65 => k0_hw65.2

def k0_off198 (k0_t2 : Fin k0_t2_loop.trips) (c64_i32_423 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1413 : BitVec 32 := Scalar.addi v37 c64_i32_423
  let v1414 : Index := Scalar.indexCast v1413
  let c0_424 : Index := 0#32
  ![v1414.toNat, 0]
def k0_off199 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_425 : BitVec 32 := 1024#32
  let v1419 : BitVec 32 := Scalar.addi v49 c1024_i32_425
  let v1420 : Index := Scalar.indexCast v1419
  ![v1420.toNat]
def k0_mult69 (v1421 : BitVec 32) : BitVec 32 :=
  v1421

def k0_off200 (v1421 : BitVec 32) : Fin 2 → Nat :=
  let v1425 : BitVec 32 := v1421
  let v1426 : Index := Scalar.indexCast v1425
  let c0_427 : Index := 0#32
  ![v1426.toNat, 0]

def k0_chk66 (v1421 : BitVec 32) : Prop :=
  (8 ∣ (k0_mult69 v1421).toNat) ∧
  (∀ a, (k0_off200 v1421) a + S8x128.size a ≤ S65536x128.size a)
theorem k0_mult69_dvd : ∀ (v1421 : BitVec 32) (k0_hw66 : k0_chk66 v1421), 8 ∣ (k0_mult69 v1421).toNat := fun v1421 k0_hw66 => k0_hw66.1
theorem k0_off200_inb : ∀ (v1421 : BitVec 32) (k0_hw66 : k0_chk66 v1421), ∀ a, (k0_off200 v1421) a + S8x128.size a ≤ S65536x128.size a := fun v1421 k0_hw66 => k0_hw66.2

def k0_off201 (k0_t2 : Fin k0_t2_loop.trips) (c65_i32_429 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1434 : BitVec 32 := Scalar.addi v37 c65_i32_429
  let v1435 : Index := Scalar.indexCast v1434
  let c0_430 : Index := 0#32
  ![v1435.toNat, 0]
def k0_off202 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_431 : BitVec 32 := 1024#32
  let v1440 : BitVec 32 := Scalar.addi v49 c1024_i32_431
  let v1441 : Index := Scalar.indexCast v1440
  ![v1441.toNat]
def k0_mult70 (v1442 : BitVec 32) : BitVec 32 :=
  v1442

def k0_off203 (v1442 : BitVec 32) : Fin 2 → Nat :=
  let v1446 : BitVec 32 := v1442
  let v1447 : Index := Scalar.indexCast v1446
  let c0_433 : Index := 0#32
  ![v1447.toNat, 0]

def k0_chk67 (v1442 : BitVec 32) : Prop :=
  (8 ∣ (k0_mult70 v1442).toNat) ∧
  (∀ a, (k0_off203 v1442) a + S8x128.size a ≤ S65536x128.size a)
theorem k0_mult70_dvd : ∀ (v1442 : BitVec 32) (k0_hw67 : k0_chk67 v1442), 8 ∣ (k0_mult70 v1442).toNat := fun v1442 k0_hw67 => k0_hw67.1
theorem k0_off203_inb : ∀ (v1442 : BitVec 32) (k0_hw67 : k0_chk67 v1442), ∀ a, (k0_off203 v1442) a + S8x128.size a ≤ S65536x128.size a := fun v1442 k0_hw67 => k0_hw67.2

def k0_off204 (k0_t2 : Fin k0_t2_loop.trips) (c66_i32_435 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1455 : BitVec 32 := Scalar.addi v37 c66_i32_435
  let v1456 : Index := Scalar.indexCast v1455
  let c0_436 : Index := 0#32
  ![v1456.toNat, 0]
def k0_off205 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_437 : BitVec 32 := 1024#32
  let v1461 : BitVec 32 := Scalar.addi v49 c1024_i32_437
  let v1462 : Index := Scalar.indexCast v1461
  ![v1462.toNat]
def k0_mult71 (v1463 : BitVec 32) : BitVec 32 :=
  v1463

def k0_off206 (v1463 : BitVec 32) : Fin 2 → Nat :=
  let v1467 : BitVec 32 := v1463
  let v1468 : Index := Scalar.indexCast v1467
  let c0_439 : Index := 0#32
  ![v1468.toNat, 0]

def k0_chk68 (v1463 : BitVec 32) : Prop :=
  (8 ∣ (k0_mult71 v1463).toNat) ∧
  (∀ a, (k0_off206 v1463) a + S8x128.size a ≤ S65536x128.size a)
theorem k0_mult71_dvd : ∀ (v1463 : BitVec 32) (k0_hw68 : k0_chk68 v1463), 8 ∣ (k0_mult71 v1463).toNat := fun v1463 k0_hw68 => k0_hw68.1
theorem k0_off206_inb : ∀ (v1463 : BitVec 32) (k0_hw68 : k0_chk68 v1463), ∀ a, (k0_off206 v1463) a + S8x128.size a ≤ S65536x128.size a := fun v1463 k0_hw68 => k0_hw68.2

def k0_off207 (k0_t2 : Fin k0_t2_loop.trips) (c67_i32_441 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1476 : BitVec 32 := Scalar.addi v37 c67_i32_441
  let v1477 : Index := Scalar.indexCast v1476
  let c0_442 : Index := 0#32
  ![v1477.toNat, 0]
def k0_off208 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_443 : BitVec 32 := 1024#32
  let v1482 : BitVec 32 := Scalar.addi v49 c1024_i32_443
  let v1483 : Index := Scalar.indexCast v1482
  ![v1483.toNat]
def k0_mult72 (v1484 : BitVec 32) : BitVec 32 :=
  v1484

def k0_off209 (v1484 : BitVec 32) : Fin 2 → Nat :=
  let v1488 : BitVec 32 := v1484
  let v1489 : Index := Scalar.indexCast v1488
  let c0_445 : Index := 0#32
  ![v1489.toNat, 0]

def k0_chk69 (v1484 : BitVec 32) : Prop :=
  (8 ∣ (k0_mult72 v1484).toNat) ∧
  (∀ a, (k0_off209 v1484) a + S8x128.size a ≤ S65536x128.size a)
theorem k0_mult72_dvd : ∀ (v1484 : BitVec 32) (k0_hw69 : k0_chk69 v1484), 8 ∣ (k0_mult72 v1484).toNat := fun v1484 k0_hw69 => k0_hw69.1
theorem k0_off209_inb : ∀ (v1484 : BitVec 32) (k0_hw69 : k0_chk69 v1484), ∀ a, (k0_off209 v1484) a + S8x128.size a ≤ S65536x128.size a := fun v1484 k0_hw69 => k0_hw69.2

def k0_off210 (k0_t2 : Fin k0_t2_loop.trips) (c68_i32_447 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1497 : BitVec 32 := Scalar.addi v37 c68_i32_447
  let v1498 : Index := Scalar.indexCast v1497
  let c0_448 : Index := 0#32
  ![v1498.toNat, 0]
def k0_off211 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_449 : BitVec 32 := 1024#32
  let v1503 : BitVec 32 := Scalar.addi v49 c1024_i32_449
  let v1504 : Index := Scalar.indexCast v1503
  ![v1504.toNat]
def k0_mult73 (v1505 : BitVec 32) : BitVec 32 :=
  v1505

def k0_off212 (v1505 : BitVec 32) : Fin 2 → Nat :=
  let v1509 : BitVec 32 := v1505
  let v1510 : Index := Scalar.indexCast v1509
  let c0_451 : Index := 0#32
  ![v1510.toNat, 0]

def k0_chk70 (v1505 : BitVec 32) : Prop :=
  (8 ∣ (k0_mult73 v1505).toNat) ∧
  (∀ a, (k0_off212 v1505) a + S8x128.size a ≤ S65536x128.size a)
theorem k0_mult73_dvd : ∀ (v1505 : BitVec 32) (k0_hw70 : k0_chk70 v1505), 8 ∣ (k0_mult73 v1505).toNat := fun v1505 k0_hw70 => k0_hw70.1
theorem k0_off212_inb : ∀ (v1505 : BitVec 32) (k0_hw70 : k0_chk70 v1505), ∀ a, (k0_off212 v1505) a + S8x128.size a ≤ S65536x128.size a := fun v1505 k0_hw70 => k0_hw70.2

def k0_off213 (k0_t2 : Fin k0_t2_loop.trips) (c69_i32_453 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1518 : BitVec 32 := Scalar.addi v37 c69_i32_453
  let v1519 : Index := Scalar.indexCast v1518
  let c0_454 : Index := 0#32
  ![v1519.toNat, 0]
def k0_off214 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_455 : BitVec 32 := 1024#32
  let v1524 : BitVec 32 := Scalar.addi v49 c1024_i32_455
  let v1525 : Index := Scalar.indexCast v1524
  ![v1525.toNat]
def k0_mult74 (v1526 : BitVec 32) : BitVec 32 :=
  v1526

def k0_off215 (v1526 : BitVec 32) : Fin 2 → Nat :=
  let v1530 : BitVec 32 := v1526
  let v1531 : Index := Scalar.indexCast v1530
  let c0_457 : Index := 0#32
  ![v1531.toNat, 0]

def k0_chk71 (v1526 : BitVec 32) : Prop :=
  (8 ∣ (k0_mult74 v1526).toNat) ∧
  (∀ a, (k0_off215 v1526) a + S8x128.size a ≤ S65536x128.size a)
theorem k0_mult74_dvd : ∀ (v1526 : BitVec 32) (k0_hw71 : k0_chk71 v1526), 8 ∣ (k0_mult74 v1526).toNat := fun v1526 k0_hw71 => k0_hw71.1
theorem k0_off215_inb : ∀ (v1526 : BitVec 32) (k0_hw71 : k0_chk71 v1526), ∀ a, (k0_off215 v1526) a + S8x128.size a ≤ S65536x128.size a := fun v1526 k0_hw71 => k0_hw71.2

def k0_off216 (k0_t2 : Fin k0_t2_loop.trips) (c70_i32_459 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1539 : BitVec 32 := Scalar.addi v37 c70_i32_459
  let v1540 : Index := Scalar.indexCast v1539
  let c0_460 : Index := 0#32
  ![v1540.toNat, 0]
def k0_off217 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1024_i32_461 : BitVec 32 := 1024#32
  let v1545 : BitVec 32 := Scalar.addi v49 c1024_i32_461
  let v1546 : Index := Scalar.indexCast v1545
  ![v1546.toNat]
def k0_mult75 (v1547 : BitVec 32) : BitVec 32 :=
  v1547

def k0_off218 (v1547 : BitVec 32) : Fin 2 → Nat :=
  let v1551 : BitVec 32 := v1547
  let v1552 : Index := Scalar.indexCast v1551
  let c0_463 : Index := 0#32
  ![v1552.toNat, 0]

def k0_chk72 (v1547 : BitVec 32) : Prop :=
  (8 ∣ (k0_mult75 v1547).toNat) ∧
  (∀ a, (k0_off218 v1547) a + S8x128.size a ≤ S65536x128.size a)
theorem k0_mult75_dvd : ∀ (v1547 : BitVec 32) (k0_hw72 : k0_chk72 v1547), 8 ∣ (k0_mult75 v1547).toNat := fun v1547 k0_hw72 => k0_hw72.1
theorem k0_off218_inb : ∀ (v1547 : BitVec 32) (k0_hw72 : k0_chk72 v1547), ∀ a, (k0_off218 v1547) a + S8x128.size a ≤ S65536x128.size a := fun v1547 k0_hw72 => k0_hw72.2

def k0_off219 (k0_t2 : Fin k0_t2_loop.trips) (c71_i32_465 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1560 : BitVec 32 := Scalar.addi v37 c71_i32_465
  let v1561 : Index := Scalar.indexCast v1560
  let c0_466 : Index := 0#32
  ![v1561.toNat, 0]
def k0_off220 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32 : BitVec 32 := 1152#32
  let v1566 : BitVec 32 := Scalar.addi v49 c1152_i32
  let v1567 : Index := Scalar.indexCast v1566
  ![v1567.toNat]
def k0_mult76 (v1568 : BitVec 32) : BitVec 32 :=
  v1568

def k0_off221 (v1568 : BitVec 32) : Fin 2 → Nat :=
  let v1572 : BitVec 32 := v1568
  let v1573 : Index := Scalar.indexCast v1572
  let c0_468 : Index := 0#32
  ![v1573.toNat, 0]

def k0_chk73 (v1568 : BitVec 32) : Prop :=
  (8 ∣ (k0_mult76 v1568).toNat) ∧
  (∀ a, (k0_off221 v1568) a + S8x128.size a ≤ S65536x128.size a)
theorem k0_mult76_dvd : ∀ (v1568 : BitVec 32) (k0_hw73 : k0_chk73 v1568), 8 ∣ (k0_mult76 v1568).toNat := fun v1568 k0_hw73 => k0_hw73.1
theorem k0_off221_inb : ∀ (v1568 : BitVec 32) (k0_hw73 : k0_chk73 v1568), ∀ a, (k0_off221 v1568) a + S8x128.size a ≤ S65536x128.size a := fun v1568 k0_hw73 => k0_hw73.2

def k0_off222 (k0_t2 : Fin k0_t2_loop.trips) (c72_i32_470 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1581 : BitVec 32 := Scalar.addi v37 c72_i32_470
  let v1582 : Index := Scalar.indexCast v1581
  let c0_471 : Index := 0#32
  ![v1582.toNat, 0]
def k0_off223 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_472 : BitVec 32 := 1152#32
  let v1587 : BitVec 32 := Scalar.addi v49 c1152_i32_472
  let v1588 : Index := Scalar.indexCast v1587
  ![v1588.toNat]
def k0_mult77 (v1589 : BitVec 32) : BitVec 32 :=
  v1589

def k0_off224 (v1589 : BitVec 32) : Fin 2 → Nat :=
  let v1593 : BitVec 32 := v1589
  let v1594 : Index := Scalar.indexCast v1593
  let c0_474 : Index := 0#32
  ![v1594.toNat, 0]

def k0_chk74 (v1589 : BitVec 32) : Prop :=
  (8 ∣ (k0_mult77 v1589).toNat) ∧
  (∀ a, (k0_off224 v1589) a + S8x128.size a ≤ S65536x128.size a)
theorem k0_mult77_dvd : ∀ (v1589 : BitVec 32) (k0_hw74 : k0_chk74 v1589), 8 ∣ (k0_mult77 v1589).toNat := fun v1589 k0_hw74 => k0_hw74.1
theorem k0_off224_inb : ∀ (v1589 : BitVec 32) (k0_hw74 : k0_chk74 v1589), ∀ a, (k0_off224 v1589) a + S8x128.size a ≤ S65536x128.size a := fun v1589 k0_hw74 => k0_hw74.2

def k0_off225 (k0_t2 : Fin k0_t2_loop.trips) (c73_i32_476 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1602 : BitVec 32 := Scalar.addi v37 c73_i32_476
  let v1603 : Index := Scalar.indexCast v1602
  let c0_477 : Index := 0#32
  ![v1603.toNat, 0]
def k0_off226 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_478 : BitVec 32 := 1152#32
  let v1608 : BitVec 32 := Scalar.addi v49 c1152_i32_478
  let v1609 : Index := Scalar.indexCast v1608
  ![v1609.toNat]
def k0_mult78 (v1610 : BitVec 32) : BitVec 32 :=
  v1610

def k0_off227 (v1610 : BitVec 32) : Fin 2 → Nat :=
  let v1614 : BitVec 32 := v1610
  let v1615 : Index := Scalar.indexCast v1614
  let c0_480 : Index := 0#32
  ![v1615.toNat, 0]

def k0_chk75 (v1610 : BitVec 32) : Prop :=
  (8 ∣ (k0_mult78 v1610).toNat) ∧
  (∀ a, (k0_off227 v1610) a + S8x128.size a ≤ S65536x128.size a)
theorem k0_mult78_dvd : ∀ (v1610 : BitVec 32) (k0_hw75 : k0_chk75 v1610), 8 ∣ (k0_mult78 v1610).toNat := fun v1610 k0_hw75 => k0_hw75.1
theorem k0_off227_inb : ∀ (v1610 : BitVec 32) (k0_hw75 : k0_chk75 v1610), ∀ a, (k0_off227 v1610) a + S8x128.size a ≤ S65536x128.size a := fun v1610 k0_hw75 => k0_hw75.2

def k0_off228 (k0_t2 : Fin k0_t2_loop.trips) (c74_i32_482 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1623 : BitVec 32 := Scalar.addi v37 c74_i32_482
  let v1624 : Index := Scalar.indexCast v1623
  let c0_483 : Index := 0#32
  ![v1624.toNat, 0]
def k0_off229 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_484 : BitVec 32 := 1152#32
  let v1629 : BitVec 32 := Scalar.addi v49 c1152_i32_484
  let v1630 : Index := Scalar.indexCast v1629
  ![v1630.toNat]
def k0_mult79 (v1631 : BitVec 32) : BitVec 32 :=
  v1631

def k0_off230 (v1631 : BitVec 32) : Fin 2 → Nat :=
  let v1635 : BitVec 32 := v1631
  let v1636 : Index := Scalar.indexCast v1635
  let c0_486 : Index := 0#32
  ![v1636.toNat, 0]

def k0_chk76 (v1631 : BitVec 32) : Prop :=
  (8 ∣ (k0_mult79 v1631).toNat) ∧
  (∀ a, (k0_off230 v1631) a + S8x128.size a ≤ S65536x128.size a)
theorem k0_mult79_dvd : ∀ (v1631 : BitVec 32) (k0_hw76 : k0_chk76 v1631), 8 ∣ (k0_mult79 v1631).toNat := fun v1631 k0_hw76 => k0_hw76.1
theorem k0_off230_inb : ∀ (v1631 : BitVec 32) (k0_hw76 : k0_chk76 v1631), ∀ a, (k0_off230 v1631) a + S8x128.size a ≤ S65536x128.size a := fun v1631 k0_hw76 => k0_hw76.2

def k0_off231 (k0_t2 : Fin k0_t2_loop.trips) (c75_i32_488 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1644 : BitVec 32 := Scalar.addi v37 c75_i32_488
  let v1645 : Index := Scalar.indexCast v1644
  let c0_489 : Index := 0#32
  ![v1645.toNat, 0]
def k0_off232 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_490 : BitVec 32 := 1152#32
  let v1650 : BitVec 32 := Scalar.addi v49 c1152_i32_490
  let v1651 : Index := Scalar.indexCast v1650
  ![v1651.toNat]
def k0_mult80 (v1652 : BitVec 32) : BitVec 32 :=
  v1652

def k0_off233 (v1652 : BitVec 32) : Fin 2 → Nat :=
  let v1656 : BitVec 32 := v1652
  let v1657 : Index := Scalar.indexCast v1656
  let c0_492 : Index := 0#32
  ![v1657.toNat, 0]

def k0_chk77 (v1652 : BitVec 32) : Prop :=
  (8 ∣ (k0_mult80 v1652).toNat) ∧
  (∀ a, (k0_off233 v1652) a + S8x128.size a ≤ S65536x128.size a)
theorem k0_mult80_dvd : ∀ (v1652 : BitVec 32) (k0_hw77 : k0_chk77 v1652), 8 ∣ (k0_mult80 v1652).toNat := fun v1652 k0_hw77 => k0_hw77.1
theorem k0_off233_inb : ∀ (v1652 : BitVec 32) (k0_hw77 : k0_chk77 v1652), ∀ a, (k0_off233 v1652) a + S8x128.size a ≤ S65536x128.size a := fun v1652 k0_hw77 => k0_hw77.2

def k0_off234 (k0_t2 : Fin k0_t2_loop.trips) (c76_i32_494 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1665 : BitVec 32 := Scalar.addi v37 c76_i32_494
  let v1666 : Index := Scalar.indexCast v1665
  let c0_495 : Index := 0#32
  ![v1666.toNat, 0]
def k0_off235 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_496 : BitVec 32 := 1152#32
  let v1671 : BitVec 32 := Scalar.addi v49 c1152_i32_496
  let v1672 : Index := Scalar.indexCast v1671
  ![v1672.toNat]
def k0_mult81 (v1673 : BitVec 32) : BitVec 32 :=
  v1673

def k0_off236 (v1673 : BitVec 32) : Fin 2 → Nat :=
  let v1677 : BitVec 32 := v1673
  let v1678 : Index := Scalar.indexCast v1677
  let c0_498 : Index := 0#32
  ![v1678.toNat, 0]

def k0_chk78 (v1673 : BitVec 32) : Prop :=
  (8 ∣ (k0_mult81 v1673).toNat) ∧
  (∀ a, (k0_off236 v1673) a + S8x128.size a ≤ S65536x128.size a)
theorem k0_mult81_dvd : ∀ (v1673 : BitVec 32) (k0_hw78 : k0_chk78 v1673), 8 ∣ (k0_mult81 v1673).toNat := fun v1673 k0_hw78 => k0_hw78.1
theorem k0_off236_inb : ∀ (v1673 : BitVec 32) (k0_hw78 : k0_chk78 v1673), ∀ a, (k0_off236 v1673) a + S8x128.size a ≤ S65536x128.size a := fun v1673 k0_hw78 => k0_hw78.2

def k0_off237 (k0_t2 : Fin k0_t2_loop.trips) (c77_i32_500 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1686 : BitVec 32 := Scalar.addi v37 c77_i32_500
  let v1687 : Index := Scalar.indexCast v1686
  let c0_501 : Index := 0#32
  ![v1687.toNat, 0]
def k0_off238 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_502 : BitVec 32 := 1152#32
  let v1692 : BitVec 32 := Scalar.addi v49 c1152_i32_502
  let v1693 : Index := Scalar.indexCast v1692
  ![v1693.toNat]
def k0_mult82 (v1694 : BitVec 32) : BitVec 32 :=
  v1694

def k0_off239 (v1694 : BitVec 32) : Fin 2 → Nat :=
  let v1698 : BitVec 32 := v1694
  let v1699 : Index := Scalar.indexCast v1698
  let c0_504 : Index := 0#32
  ![v1699.toNat, 0]

def k0_chk79 (v1694 : BitVec 32) : Prop :=
  (8 ∣ (k0_mult82 v1694).toNat) ∧
  (∀ a, (k0_off239 v1694) a + S8x128.size a ≤ S65536x128.size a)
theorem k0_mult82_dvd : ∀ (v1694 : BitVec 32) (k0_hw79 : k0_chk79 v1694), 8 ∣ (k0_mult82 v1694).toNat := fun v1694 k0_hw79 => k0_hw79.1
theorem k0_off239_inb : ∀ (v1694 : BitVec 32) (k0_hw79 : k0_chk79 v1694), ∀ a, (k0_off239 v1694) a + S8x128.size a ≤ S65536x128.size a := fun v1694 k0_hw79 => k0_hw79.2

def k0_off240 (k0_t2 : Fin k0_t2_loop.trips) (c78_i32_506 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1707 : BitVec 32 := Scalar.addi v37 c78_i32_506
  let v1708 : Index := Scalar.indexCast v1707
  let c0_507 : Index := 0#32
  ![v1708.toNat, 0]
def k0_off241 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1152_i32_508 : BitVec 32 := 1152#32
  let v1713 : BitVec 32 := Scalar.addi v49 c1152_i32_508
  let v1714 : Index := Scalar.indexCast v1713
  ![v1714.toNat]
def k0_mult83 (v1715 : BitVec 32) : BitVec 32 :=
  v1715

def k0_off242 (v1715 : BitVec 32) : Fin 2 → Nat :=
  let v1719 : BitVec 32 := v1715
  let v1720 : Index := Scalar.indexCast v1719
  let c0_510 : Index := 0#32
  ![v1720.toNat, 0]

def k0_chk80 (v1715 : BitVec 32) : Prop :=
  (8 ∣ (k0_mult83 v1715).toNat) ∧
  (∀ a, (k0_off242 v1715) a + S8x128.size a ≤ S65536x128.size a)
theorem k0_mult83_dvd : ∀ (v1715 : BitVec 32) (k0_hw80 : k0_chk80 v1715), 8 ∣ (k0_mult83 v1715).toNat := fun v1715 k0_hw80 => k0_hw80.1
theorem k0_off242_inb : ∀ (v1715 : BitVec 32) (k0_hw80 : k0_chk80 v1715), ∀ a, (k0_off242 v1715) a + S8x128.size a ≤ S65536x128.size a := fun v1715 k0_hw80 => k0_hw80.2

def k0_off243 (k0_t2 : Fin k0_t2_loop.trips) (c79_i32_512 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1728 : BitVec 32 := Scalar.addi v37 c79_i32_512
  let v1729 : Index := Scalar.indexCast v1728
  let c0_513 : Index := 0#32
  ![v1729.toNat, 0]
def k0_off244 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32 : BitVec 32 := 1280#32
  let v1734 : BitVec 32 := Scalar.addi v49 c1280_i32
  let v1735 : Index := Scalar.indexCast v1734
  ![v1735.toNat]
def k0_mult84 (v1736 : BitVec 32) : BitVec 32 :=
  v1736

def k0_off245 (v1736 : BitVec 32) : Fin 2 → Nat :=
  let v1740 : BitVec 32 := v1736
  let v1741 : Index := Scalar.indexCast v1740
  let c0_515 : Index := 0#32
  ![v1741.toNat, 0]

def k0_chk81 (v1736 : BitVec 32) : Prop :=
  (8 ∣ (k0_mult84 v1736).toNat) ∧
  (∀ a, (k0_off245 v1736) a + S8x128.size a ≤ S65536x128.size a)
theorem k0_mult84_dvd : ∀ (v1736 : BitVec 32) (k0_hw81 : k0_chk81 v1736), 8 ∣ (k0_mult84 v1736).toNat := fun v1736 k0_hw81 => k0_hw81.1
theorem k0_off245_inb : ∀ (v1736 : BitVec 32) (k0_hw81 : k0_chk81 v1736), ∀ a, (k0_off245 v1736) a + S8x128.size a ≤ S65536x128.size a := fun v1736 k0_hw81 => k0_hw81.2

def k0_off246 (k0_t2 : Fin k0_t2_loop.trips) (c80_i32_517 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1749 : BitVec 32 := Scalar.addi v37 c80_i32_517
  let v1750 : Index := Scalar.indexCast v1749
  let c0_518 : Index := 0#32
  ![v1750.toNat, 0]
def k0_off247 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_519 : BitVec 32 := 1280#32
  let v1755 : BitVec 32 := Scalar.addi v49 c1280_i32_519
  let v1756 : Index := Scalar.indexCast v1755
  ![v1756.toNat]
def k0_mult85 (v1757 : BitVec 32) : BitVec 32 :=
  v1757

def k0_off248 (v1757 : BitVec 32) : Fin 2 → Nat :=
  let v1761 : BitVec 32 := v1757
  let v1762 : Index := Scalar.indexCast v1761
  let c0_521 : Index := 0#32
  ![v1762.toNat, 0]

def k0_chk82 (v1757 : BitVec 32) : Prop :=
  (8 ∣ (k0_mult85 v1757).toNat) ∧
  (∀ a, (k0_off248 v1757) a + S8x128.size a ≤ S65536x128.size a)
theorem k0_mult85_dvd : ∀ (v1757 : BitVec 32) (k0_hw82 : k0_chk82 v1757), 8 ∣ (k0_mult85 v1757).toNat := fun v1757 k0_hw82 => k0_hw82.1
theorem k0_off248_inb : ∀ (v1757 : BitVec 32) (k0_hw82 : k0_chk82 v1757), ∀ a, (k0_off248 v1757) a + S8x128.size a ≤ S65536x128.size a := fun v1757 k0_hw82 => k0_hw82.2

def k0_off249 (k0_t2 : Fin k0_t2_loop.trips) (c81_i32_523 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1770 : BitVec 32 := Scalar.addi v37 c81_i32_523
  let v1771 : Index := Scalar.indexCast v1770
  let c0_524 : Index := 0#32
  ![v1771.toNat, 0]
def k0_off250 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_525 : BitVec 32 := 1280#32
  let v1776 : BitVec 32 := Scalar.addi v49 c1280_i32_525
  let v1777 : Index := Scalar.indexCast v1776
  ![v1777.toNat]
def k0_mult86 (v1778 : BitVec 32) : BitVec 32 :=
  v1778

def k0_off251 (v1778 : BitVec 32) : Fin 2 → Nat :=
  let v1782 : BitVec 32 := v1778
  let v1783 : Index := Scalar.indexCast v1782
  let c0_527 : Index := 0#32
  ![v1783.toNat, 0]

def k0_chk83 (v1778 : BitVec 32) : Prop :=
  (8 ∣ (k0_mult86 v1778).toNat) ∧
  (∀ a, (k0_off251 v1778) a + S8x128.size a ≤ S65536x128.size a)
theorem k0_mult86_dvd : ∀ (v1778 : BitVec 32) (k0_hw83 : k0_chk83 v1778), 8 ∣ (k0_mult86 v1778).toNat := fun v1778 k0_hw83 => k0_hw83.1
theorem k0_off251_inb : ∀ (v1778 : BitVec 32) (k0_hw83 : k0_chk83 v1778), ∀ a, (k0_off251 v1778) a + S8x128.size a ≤ S65536x128.size a := fun v1778 k0_hw83 => k0_hw83.2

def k0_off252 (k0_t2 : Fin k0_t2_loop.trips) (c82_i32_529 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1791 : BitVec 32 := Scalar.addi v37 c82_i32_529
  let v1792 : Index := Scalar.indexCast v1791
  let c0_530 : Index := 0#32
  ![v1792.toNat, 0]
def k0_off253 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_531 : BitVec 32 := 1280#32
  let v1797 : BitVec 32 := Scalar.addi v49 c1280_i32_531
  let v1798 : Index := Scalar.indexCast v1797
  ![v1798.toNat]
def k0_mult87 (v1799 : BitVec 32) : BitVec 32 :=
  v1799

def k0_off254 (v1799 : BitVec 32) : Fin 2 → Nat :=
  let v1803 : BitVec 32 := v1799
  let v1804 : Index := Scalar.indexCast v1803
  let c0_533 : Index := 0#32
  ![v1804.toNat, 0]

def k0_chk84 (v1799 : BitVec 32) : Prop :=
  (8 ∣ (k0_mult87 v1799).toNat) ∧
  (∀ a, (k0_off254 v1799) a + S8x128.size a ≤ S65536x128.size a)
theorem k0_mult87_dvd : ∀ (v1799 : BitVec 32) (k0_hw84 : k0_chk84 v1799), 8 ∣ (k0_mult87 v1799).toNat := fun v1799 k0_hw84 => k0_hw84.1
theorem k0_off254_inb : ∀ (v1799 : BitVec 32) (k0_hw84 : k0_chk84 v1799), ∀ a, (k0_off254 v1799) a + S8x128.size a ≤ S65536x128.size a := fun v1799 k0_hw84 => k0_hw84.2

def k0_off255 (k0_t2 : Fin k0_t2_loop.trips) (c83_i32_535 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1812 : BitVec 32 := Scalar.addi v37 c83_i32_535
  let v1813 : Index := Scalar.indexCast v1812
  let c0_536 : Index := 0#32
  ![v1813.toNat, 0]
def k0_off256 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_537 : BitVec 32 := 1280#32
  let v1818 : BitVec 32 := Scalar.addi v49 c1280_i32_537
  let v1819 : Index := Scalar.indexCast v1818
  ![v1819.toNat]
def k0_mult88 (v1820 : BitVec 32) : BitVec 32 :=
  v1820

def k0_off257 (v1820 : BitVec 32) : Fin 2 → Nat :=
  let v1824 : BitVec 32 := v1820
  let v1825 : Index := Scalar.indexCast v1824
  let c0_539 : Index := 0#32
  ![v1825.toNat, 0]

def k0_chk85 (v1820 : BitVec 32) : Prop :=
  (8 ∣ (k0_mult88 v1820).toNat) ∧
  (∀ a, (k0_off257 v1820) a + S8x128.size a ≤ S65536x128.size a)
theorem k0_mult88_dvd : ∀ (v1820 : BitVec 32) (k0_hw85 : k0_chk85 v1820), 8 ∣ (k0_mult88 v1820).toNat := fun v1820 k0_hw85 => k0_hw85.1
theorem k0_off257_inb : ∀ (v1820 : BitVec 32) (k0_hw85 : k0_chk85 v1820), ∀ a, (k0_off257 v1820) a + S8x128.size a ≤ S65536x128.size a := fun v1820 k0_hw85 => k0_hw85.2

def k0_off258 (k0_t2 : Fin k0_t2_loop.trips) (c84_i32_541 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1833 : BitVec 32 := Scalar.addi v37 c84_i32_541
  let v1834 : Index := Scalar.indexCast v1833
  let c0_542 : Index := 0#32
  ![v1834.toNat, 0]
def k0_off259 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_543 : BitVec 32 := 1280#32
  let v1839 : BitVec 32 := Scalar.addi v49 c1280_i32_543
  let v1840 : Index := Scalar.indexCast v1839
  ![v1840.toNat]
def k0_mult89 (v1841 : BitVec 32) : BitVec 32 :=
  v1841

def k0_off260 (v1841 : BitVec 32) : Fin 2 → Nat :=
  let v1845 : BitVec 32 := v1841
  let v1846 : Index := Scalar.indexCast v1845
  let c0_545 : Index := 0#32
  ![v1846.toNat, 0]

def k0_chk86 (v1841 : BitVec 32) : Prop :=
  (8 ∣ (k0_mult89 v1841).toNat) ∧
  (∀ a, (k0_off260 v1841) a + S8x128.size a ≤ S65536x128.size a)
theorem k0_mult89_dvd : ∀ (v1841 : BitVec 32) (k0_hw86 : k0_chk86 v1841), 8 ∣ (k0_mult89 v1841).toNat := fun v1841 k0_hw86 => k0_hw86.1
theorem k0_off260_inb : ∀ (v1841 : BitVec 32) (k0_hw86 : k0_chk86 v1841), ∀ a, (k0_off260 v1841) a + S8x128.size a ≤ S65536x128.size a := fun v1841 k0_hw86 => k0_hw86.2

def k0_off261 (k0_t2 : Fin k0_t2_loop.trips) (c85_i32_547 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1854 : BitVec 32 := Scalar.addi v37 c85_i32_547
  let v1855 : Index := Scalar.indexCast v1854
  let c0_548 : Index := 0#32
  ![v1855.toNat, 0]
def k0_off262 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_549 : BitVec 32 := 1280#32
  let v1860 : BitVec 32 := Scalar.addi v49 c1280_i32_549
  let v1861 : Index := Scalar.indexCast v1860
  ![v1861.toNat]
def k0_mult90 (v1862 : BitVec 32) : BitVec 32 :=
  v1862

def k0_off263 (v1862 : BitVec 32) : Fin 2 → Nat :=
  let v1866 : BitVec 32 := v1862
  let v1867 : Index := Scalar.indexCast v1866
  let c0_551 : Index := 0#32
  ![v1867.toNat, 0]

def k0_chk87 (v1862 : BitVec 32) : Prop :=
  (8 ∣ (k0_mult90 v1862).toNat) ∧
  (∀ a, (k0_off263 v1862) a + S8x128.size a ≤ S65536x128.size a)
theorem k0_mult90_dvd : ∀ (v1862 : BitVec 32) (k0_hw87 : k0_chk87 v1862), 8 ∣ (k0_mult90 v1862).toNat := fun v1862 k0_hw87 => k0_hw87.1
theorem k0_off263_inb : ∀ (v1862 : BitVec 32) (k0_hw87 : k0_chk87 v1862), ∀ a, (k0_off263 v1862) a + S8x128.size a ≤ S65536x128.size a := fun v1862 k0_hw87 => k0_hw87.2

def k0_off264 (k0_t2 : Fin k0_t2_loop.trips) (c86_i32_553 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1875 : BitVec 32 := Scalar.addi v37 c86_i32_553
  let v1876 : Index := Scalar.indexCast v1875
  let c0_554 : Index := 0#32
  ![v1876.toNat, 0]
def k0_off265 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1280_i32_555 : BitVec 32 := 1280#32
  let v1881 : BitVec 32 := Scalar.addi v49 c1280_i32_555
  let v1882 : Index := Scalar.indexCast v1881
  ![v1882.toNat]
def k0_mult91 (v1883 : BitVec 32) : BitVec 32 :=
  v1883

def k0_off266 (v1883 : BitVec 32) : Fin 2 → Nat :=
  let v1887 : BitVec 32 := v1883
  let v1888 : Index := Scalar.indexCast v1887
  let c0_557 : Index := 0#32
  ![v1888.toNat, 0]

def k0_chk88 (v1883 : BitVec 32) : Prop :=
  (8 ∣ (k0_mult91 v1883).toNat) ∧
  (∀ a, (k0_off266 v1883) a + S8x128.size a ≤ S65536x128.size a)
theorem k0_mult91_dvd : ∀ (v1883 : BitVec 32) (k0_hw88 : k0_chk88 v1883), 8 ∣ (k0_mult91 v1883).toNat := fun v1883 k0_hw88 => k0_hw88.1
theorem k0_off266_inb : ∀ (v1883 : BitVec 32) (k0_hw88 : k0_chk88 v1883), ∀ a, (k0_off266 v1883) a + S8x128.size a ≤ S65536x128.size a := fun v1883 k0_hw88 => k0_hw88.2

def k0_off267 (k0_t2 : Fin k0_t2_loop.trips) (c87_i32_559 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1896 : BitVec 32 := Scalar.addi v37 c87_i32_559
  let v1897 : Index := Scalar.indexCast v1896
  let c0_560 : Index := 0#32
  ![v1897.toNat, 0]
def k0_off268 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32 : BitVec 32 := 1408#32
  let v1902 : BitVec 32 := Scalar.addi v49 c1408_i32
  let v1903 : Index := Scalar.indexCast v1902
  ![v1903.toNat]
def k0_mult92 (v1904 : BitVec 32) : BitVec 32 :=
  v1904

def k0_off269 (v1904 : BitVec 32) : Fin 2 → Nat :=
  let v1908 : BitVec 32 := v1904
  let v1909 : Index := Scalar.indexCast v1908
  let c0_562 : Index := 0#32
  ![v1909.toNat, 0]

def k0_chk89 (v1904 : BitVec 32) : Prop :=
  (8 ∣ (k0_mult92 v1904).toNat) ∧
  (∀ a, (k0_off269 v1904) a + S8x128.size a ≤ S65536x128.size a)
theorem k0_mult92_dvd : ∀ (v1904 : BitVec 32) (k0_hw89 : k0_chk89 v1904), 8 ∣ (k0_mult92 v1904).toNat := fun v1904 k0_hw89 => k0_hw89.1
theorem k0_off269_inb : ∀ (v1904 : BitVec 32) (k0_hw89 : k0_chk89 v1904), ∀ a, (k0_off269 v1904) a + S8x128.size a ≤ S65536x128.size a := fun v1904 k0_hw89 => k0_hw89.2

def k0_off270 (k0_t2 : Fin k0_t2_loop.trips) (c88_i32_564 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1917 : BitVec 32 := Scalar.addi v37 c88_i32_564
  let v1918 : Index := Scalar.indexCast v1917
  let c0_565 : Index := 0#32
  ![v1918.toNat, 0]
def k0_off271 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_566 : BitVec 32 := 1408#32
  let v1923 : BitVec 32 := Scalar.addi v49 c1408_i32_566
  let v1924 : Index := Scalar.indexCast v1923
  ![v1924.toNat]
def k0_mult93 (v1925 : BitVec 32) : BitVec 32 :=
  v1925

def k0_off272 (v1925 : BitVec 32) : Fin 2 → Nat :=
  let v1929 : BitVec 32 := v1925
  let v1930 : Index := Scalar.indexCast v1929
  let c0_568 : Index := 0#32
  ![v1930.toNat, 0]

def k0_chk90 (v1925 : BitVec 32) : Prop :=
  (8 ∣ (k0_mult93 v1925).toNat) ∧
  (∀ a, (k0_off272 v1925) a + S8x128.size a ≤ S65536x128.size a)
theorem k0_mult93_dvd : ∀ (v1925 : BitVec 32) (k0_hw90 : k0_chk90 v1925), 8 ∣ (k0_mult93 v1925).toNat := fun v1925 k0_hw90 => k0_hw90.1
theorem k0_off272_inb : ∀ (v1925 : BitVec 32) (k0_hw90 : k0_chk90 v1925), ∀ a, (k0_off272 v1925) a + S8x128.size a ≤ S65536x128.size a := fun v1925 k0_hw90 => k0_hw90.2

def k0_off273 (k0_t2 : Fin k0_t2_loop.trips) (c89_i32_570 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1938 : BitVec 32 := Scalar.addi v37 c89_i32_570
  let v1939 : Index := Scalar.indexCast v1938
  let c0_571 : Index := 0#32
  ![v1939.toNat, 0]
def k0_off274 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_572 : BitVec 32 := 1408#32
  let v1944 : BitVec 32 := Scalar.addi v49 c1408_i32_572
  let v1945 : Index := Scalar.indexCast v1944
  ![v1945.toNat]
def k0_mult94 (v1946 : BitVec 32) : BitVec 32 :=
  v1946

def k0_off275 (v1946 : BitVec 32) : Fin 2 → Nat :=
  let v1950 : BitVec 32 := v1946
  let v1951 : Index := Scalar.indexCast v1950
  let c0_574 : Index := 0#32
  ![v1951.toNat, 0]

def k0_chk91 (v1946 : BitVec 32) : Prop :=
  (8 ∣ (k0_mult94 v1946).toNat) ∧
  (∀ a, (k0_off275 v1946) a + S8x128.size a ≤ S65536x128.size a)
theorem k0_mult94_dvd : ∀ (v1946 : BitVec 32) (k0_hw91 : k0_chk91 v1946), 8 ∣ (k0_mult94 v1946).toNat := fun v1946 k0_hw91 => k0_hw91.1
theorem k0_off275_inb : ∀ (v1946 : BitVec 32) (k0_hw91 : k0_chk91 v1946), ∀ a, (k0_off275 v1946) a + S8x128.size a ≤ S65536x128.size a := fun v1946 k0_hw91 => k0_hw91.2

def k0_off276 (k0_t2 : Fin k0_t2_loop.trips) (c90_i32_576 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1959 : BitVec 32 := Scalar.addi v37 c90_i32_576
  let v1960 : Index := Scalar.indexCast v1959
  let c0_577 : Index := 0#32
  ![v1960.toNat, 0]
def k0_off277 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_578 : BitVec 32 := 1408#32
  let v1965 : BitVec 32 := Scalar.addi v49 c1408_i32_578
  let v1966 : Index := Scalar.indexCast v1965
  ![v1966.toNat]
def k0_mult95 (v1967 : BitVec 32) : BitVec 32 :=
  v1967

def k0_off278 (v1967 : BitVec 32) : Fin 2 → Nat :=
  let v1971 : BitVec 32 := v1967
  let v1972 : Index := Scalar.indexCast v1971
  let c0_580 : Index := 0#32
  ![v1972.toNat, 0]

def k0_chk92 (v1967 : BitVec 32) : Prop :=
  (8 ∣ (k0_mult95 v1967).toNat) ∧
  (∀ a, (k0_off278 v1967) a + S8x128.size a ≤ S65536x128.size a)
theorem k0_mult95_dvd : ∀ (v1967 : BitVec 32) (k0_hw92 : k0_chk92 v1967), 8 ∣ (k0_mult95 v1967).toNat := fun v1967 k0_hw92 => k0_hw92.1
theorem k0_off278_inb : ∀ (v1967 : BitVec 32) (k0_hw92 : k0_chk92 v1967), ∀ a, (k0_off278 v1967) a + S8x128.size a ≤ S65536x128.size a := fun v1967 k0_hw92 => k0_hw92.2

def k0_off279 (k0_t2 : Fin k0_t2_loop.trips) (c91_i32_582 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v1980 : BitVec 32 := Scalar.addi v37 c91_i32_582
  let v1981 : Index := Scalar.indexCast v1980
  let c0_583 : Index := 0#32
  ![v1981.toNat, 0]
def k0_off280 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_584 : BitVec 32 := 1408#32
  let v1986 : BitVec 32 := Scalar.addi v49 c1408_i32_584
  let v1987 : Index := Scalar.indexCast v1986
  ![v1987.toNat]
def k0_mult96 (v1988 : BitVec 32) : BitVec 32 :=
  v1988

def k0_off281 (v1988 : BitVec 32) : Fin 2 → Nat :=
  let v1992 : BitVec 32 := v1988
  let v1993 : Index := Scalar.indexCast v1992
  let c0_586 : Index := 0#32
  ![v1993.toNat, 0]

def k0_chk93 (v1988 : BitVec 32) : Prop :=
  (8 ∣ (k0_mult96 v1988).toNat) ∧
  (∀ a, (k0_off281 v1988) a + S8x128.size a ≤ S65536x128.size a)
theorem k0_mult96_dvd : ∀ (v1988 : BitVec 32) (k0_hw93 : k0_chk93 v1988), 8 ∣ (k0_mult96 v1988).toNat := fun v1988 k0_hw93 => k0_hw93.1
theorem k0_off281_inb : ∀ (v1988 : BitVec 32) (k0_hw93 : k0_chk93 v1988), ∀ a, (k0_off281 v1988) a + S8x128.size a ≤ S65536x128.size a := fun v1988 k0_hw93 => k0_hw93.2

def k0_off282 (k0_t2 : Fin k0_t2_loop.trips) (c92_i32_588 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2001 : BitVec 32 := Scalar.addi v37 c92_i32_588
  let v2002 : Index := Scalar.indexCast v2001
  let c0_589 : Index := 0#32
  ![v2002.toNat, 0]
def k0_off283 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_590 : BitVec 32 := 1408#32
  let v2007 : BitVec 32 := Scalar.addi v49 c1408_i32_590
  let v2008 : Index := Scalar.indexCast v2007
  ![v2008.toNat]
def k0_mult97 (v2009 : BitVec 32) : BitVec 32 :=
  v2009

def k0_off284 (v2009 : BitVec 32) : Fin 2 → Nat :=
  let v2013 : BitVec 32 := v2009
  let v2014 : Index := Scalar.indexCast v2013
  let c0_592 : Index := 0#32
  ![v2014.toNat, 0]

def k0_chk94 (v2009 : BitVec 32) : Prop :=
  (8 ∣ (k0_mult97 v2009).toNat) ∧
  (∀ a, (k0_off284 v2009) a + S8x128.size a ≤ S65536x128.size a)
theorem k0_mult97_dvd : ∀ (v2009 : BitVec 32) (k0_hw94 : k0_chk94 v2009), 8 ∣ (k0_mult97 v2009).toNat := fun v2009 k0_hw94 => k0_hw94.1
theorem k0_off284_inb : ∀ (v2009 : BitVec 32) (k0_hw94 : k0_chk94 v2009), ∀ a, (k0_off284 v2009) a + S8x128.size a ≤ S65536x128.size a := fun v2009 k0_hw94 => k0_hw94.2

def k0_off285 (k0_t2 : Fin k0_t2_loop.trips) (c93_i32_594 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2022 : BitVec 32 := Scalar.addi v37 c93_i32_594
  let v2023 : Index := Scalar.indexCast v2022
  let c0_595 : Index := 0#32
  ![v2023.toNat, 0]
def k0_off286 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_596 : BitVec 32 := 1408#32
  let v2028 : BitVec 32 := Scalar.addi v49 c1408_i32_596
  let v2029 : Index := Scalar.indexCast v2028
  ![v2029.toNat]
def k0_mult98 (v2030 : BitVec 32) : BitVec 32 :=
  v2030

def k0_off287 (v2030 : BitVec 32) : Fin 2 → Nat :=
  let v2034 : BitVec 32 := v2030
  let v2035 : Index := Scalar.indexCast v2034
  let c0_598 : Index := 0#32
  ![v2035.toNat, 0]

def k0_chk95 (v2030 : BitVec 32) : Prop :=
  (8 ∣ (k0_mult98 v2030).toNat) ∧
  (∀ a, (k0_off287 v2030) a + S8x128.size a ≤ S65536x128.size a)
theorem k0_mult98_dvd : ∀ (v2030 : BitVec 32) (k0_hw95 : k0_chk95 v2030), 8 ∣ (k0_mult98 v2030).toNat := fun v2030 k0_hw95 => k0_hw95.1
theorem k0_off287_inb : ∀ (v2030 : BitVec 32) (k0_hw95 : k0_chk95 v2030), ∀ a, (k0_off287 v2030) a + S8x128.size a ≤ S65536x128.size a := fun v2030 k0_hw95 => k0_hw95.2

def k0_off288 (k0_t2 : Fin k0_t2_loop.trips) (c94_i32_600 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2043 : BitVec 32 := Scalar.addi v37 c94_i32_600
  let v2044 : Index := Scalar.indexCast v2043
  let c0_601 : Index := 0#32
  ![v2044.toNat, 0]
def k0_off289 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1408_i32_602 : BitVec 32 := 1408#32
  let v2049 : BitVec 32 := Scalar.addi v49 c1408_i32_602
  let v2050 : Index := Scalar.indexCast v2049
  ![v2050.toNat]
def k0_mult99 (v2051 : BitVec 32) : BitVec 32 :=
  v2051

def k0_off290 (v2051 : BitVec 32) : Fin 2 → Nat :=
  let v2055 : BitVec 32 := v2051
  let v2056 : Index := Scalar.indexCast v2055
  let c0_604 : Index := 0#32
  ![v2056.toNat, 0]

def k0_chk96 (v2051 : BitVec 32) : Prop :=
  (8 ∣ (k0_mult99 v2051).toNat) ∧
  (∀ a, (k0_off290 v2051) a + S8x128.size a ≤ S65536x128.size a)
theorem k0_mult99_dvd : ∀ (v2051 : BitVec 32) (k0_hw96 : k0_chk96 v2051), 8 ∣ (k0_mult99 v2051).toNat := fun v2051 k0_hw96 => k0_hw96.1
theorem k0_off290_inb : ∀ (v2051 : BitVec 32) (k0_hw96 : k0_chk96 v2051), ∀ a, (k0_off290 v2051) a + S8x128.size a ≤ S65536x128.size a := fun v2051 k0_hw96 => k0_hw96.2

def k0_off291 (k0_t2 : Fin k0_t2_loop.trips) (c95_i32_606 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2064 : BitVec 32 := Scalar.addi v37 c95_i32_606
  let v2065 : Index := Scalar.indexCast v2064
  let c0_607 : Index := 0#32
  ![v2065.toNat, 0]
def k0_off292 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32 : BitVec 32 := 1536#32
  let v2070 : BitVec 32 := Scalar.addi v49 c1536_i32
  let v2071 : Index := Scalar.indexCast v2070
  ![v2071.toNat]
def k0_mult100 (v2072 : BitVec 32) : BitVec 32 :=
  v2072

def k0_off293 (v2072 : BitVec 32) : Fin 2 → Nat :=
  let v2076 : BitVec 32 := v2072
  let v2077 : Index := Scalar.indexCast v2076
  let c0_609 : Index := 0#32
  ![v2077.toNat, 0]

def k0_chk97 (v2072 : BitVec 32) : Prop :=
  (8 ∣ (k0_mult100 v2072).toNat) ∧
  (∀ a, (k0_off293 v2072) a + S8x128.size a ≤ S65536x128.size a)
theorem k0_mult100_dvd : ∀ (v2072 : BitVec 32) (k0_hw97 : k0_chk97 v2072), 8 ∣ (k0_mult100 v2072).toNat := fun v2072 k0_hw97 => k0_hw97.1
theorem k0_off293_inb : ∀ (v2072 : BitVec 32) (k0_hw97 : k0_chk97 v2072), ∀ a, (k0_off293 v2072) a + S8x128.size a ≤ S65536x128.size a := fun v2072 k0_hw97 => k0_hw97.2

def k0_off294 (k0_t2 : Fin k0_t2_loop.trips) (c96_i32_611 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2085 : BitVec 32 := Scalar.addi v37 c96_i32_611
  let v2086 : Index := Scalar.indexCast v2085
  let c0_612 : Index := 0#32
  ![v2086.toNat, 0]
def k0_off295 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_613 : BitVec 32 := 1536#32
  let v2091 : BitVec 32 := Scalar.addi v49 c1536_i32_613
  let v2092 : Index := Scalar.indexCast v2091
  ![v2092.toNat]
def k0_mult101 (v2093 : BitVec 32) : BitVec 32 :=
  v2093

def k0_off296 (v2093 : BitVec 32) : Fin 2 → Nat :=
  let v2097 : BitVec 32 := v2093
  let v2098 : Index := Scalar.indexCast v2097
  let c0_615 : Index := 0#32
  ![v2098.toNat, 0]

def k0_chk98 (v2093 : BitVec 32) : Prop :=
  (8 ∣ (k0_mult101 v2093).toNat) ∧
  (∀ a, (k0_off296 v2093) a + S8x128.size a ≤ S65536x128.size a)
theorem k0_mult101_dvd : ∀ (v2093 : BitVec 32) (k0_hw98 : k0_chk98 v2093), 8 ∣ (k0_mult101 v2093).toNat := fun v2093 k0_hw98 => k0_hw98.1
theorem k0_off296_inb : ∀ (v2093 : BitVec 32) (k0_hw98 : k0_chk98 v2093), ∀ a, (k0_off296 v2093) a + S8x128.size a ≤ S65536x128.size a := fun v2093 k0_hw98 => k0_hw98.2

def k0_off297 (k0_t2 : Fin k0_t2_loop.trips) (c97_i32_617 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2106 : BitVec 32 := Scalar.addi v37 c97_i32_617
  let v2107 : Index := Scalar.indexCast v2106
  let c0_618 : Index := 0#32
  ![v2107.toNat, 0]
def k0_off298 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_619 : BitVec 32 := 1536#32
  let v2112 : BitVec 32 := Scalar.addi v49 c1536_i32_619
  let v2113 : Index := Scalar.indexCast v2112
  ![v2113.toNat]
def k0_mult102 (v2114 : BitVec 32) : BitVec 32 :=
  v2114

def k0_off299 (v2114 : BitVec 32) : Fin 2 → Nat :=
  let v2118 : BitVec 32 := v2114
  let v2119 : Index := Scalar.indexCast v2118
  let c0_621 : Index := 0#32
  ![v2119.toNat, 0]

def k0_chk99 (v2114 : BitVec 32) : Prop :=
  (8 ∣ (k0_mult102 v2114).toNat) ∧
  (∀ a, (k0_off299 v2114) a + S8x128.size a ≤ S65536x128.size a)
theorem k0_mult102_dvd : ∀ (v2114 : BitVec 32) (k0_hw99 : k0_chk99 v2114), 8 ∣ (k0_mult102 v2114).toNat := fun v2114 k0_hw99 => k0_hw99.1
theorem k0_off299_inb : ∀ (v2114 : BitVec 32) (k0_hw99 : k0_chk99 v2114), ∀ a, (k0_off299 v2114) a + S8x128.size a ≤ S65536x128.size a := fun v2114 k0_hw99 => k0_hw99.2

def k0_off300 (k0_t2 : Fin k0_t2_loop.trips) (c98_i32_623 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2127 : BitVec 32 := Scalar.addi v37 c98_i32_623
  let v2128 : Index := Scalar.indexCast v2127
  let c0_624 : Index := 0#32
  ![v2128.toNat, 0]
def k0_off301 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_625 : BitVec 32 := 1536#32
  let v2133 : BitVec 32 := Scalar.addi v49 c1536_i32_625
  let v2134 : Index := Scalar.indexCast v2133
  ![v2134.toNat]
def k0_mult103 (v2135 : BitVec 32) : BitVec 32 :=
  v2135

def k0_off302 (v2135 : BitVec 32) : Fin 2 → Nat :=
  let v2139 : BitVec 32 := v2135
  let v2140 : Index := Scalar.indexCast v2139
  let c0_627 : Index := 0#32
  ![v2140.toNat, 0]

def k0_chk100 (v2135 : BitVec 32) : Prop :=
  (8 ∣ (k0_mult103 v2135).toNat) ∧
  (∀ a, (k0_off302 v2135) a + S8x128.size a ≤ S65536x128.size a)
theorem k0_mult103_dvd : ∀ (v2135 : BitVec 32) (k0_hw100 : k0_chk100 v2135), 8 ∣ (k0_mult103 v2135).toNat := fun v2135 k0_hw100 => k0_hw100.1
theorem k0_off302_inb : ∀ (v2135 : BitVec 32) (k0_hw100 : k0_chk100 v2135), ∀ a, (k0_off302 v2135) a + S8x128.size a ≤ S65536x128.size a := fun v2135 k0_hw100 => k0_hw100.2

def k0_off303 (k0_t2 : Fin k0_t2_loop.trips) (c99_i32_629 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2148 : BitVec 32 := Scalar.addi v37 c99_i32_629
  let v2149 : Index := Scalar.indexCast v2148
  let c0_630 : Index := 0#32
  ![v2149.toNat, 0]
def k0_off304 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_631 : BitVec 32 := 1536#32
  let v2154 : BitVec 32 := Scalar.addi v49 c1536_i32_631
  let v2155 : Index := Scalar.indexCast v2154
  ![v2155.toNat]
def k0_mult104 (v2156 : BitVec 32) : BitVec 32 :=
  v2156

def k0_off305 (v2156 : BitVec 32) : Fin 2 → Nat :=
  let v2160 : BitVec 32 := v2156
  let v2161 : Index := Scalar.indexCast v2160
  let c0_633 : Index := 0#32
  ![v2161.toNat, 0]

def k0_chk101 (v2156 : BitVec 32) : Prop :=
  (8 ∣ (k0_mult104 v2156).toNat) ∧
  (∀ a, (k0_off305 v2156) a + S8x128.size a ≤ S65536x128.size a)
theorem k0_mult104_dvd : ∀ (v2156 : BitVec 32) (k0_hw101 : k0_chk101 v2156), 8 ∣ (k0_mult104 v2156).toNat := fun v2156 k0_hw101 => k0_hw101.1
theorem k0_off305_inb : ∀ (v2156 : BitVec 32) (k0_hw101 : k0_chk101 v2156), ∀ a, (k0_off305 v2156) a + S8x128.size a ≤ S65536x128.size a := fun v2156 k0_hw101 => k0_hw101.2

def k0_off306 (k0_t2 : Fin k0_t2_loop.trips) (c100_i32_635 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2169 : BitVec 32 := Scalar.addi v37 c100_i32_635
  let v2170 : Index := Scalar.indexCast v2169
  let c0_636 : Index := 0#32
  ![v2170.toNat, 0]
def k0_off307 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_637 : BitVec 32 := 1536#32
  let v2175 : BitVec 32 := Scalar.addi v49 c1536_i32_637
  let v2176 : Index := Scalar.indexCast v2175
  ![v2176.toNat]
def k0_mult105 (v2177 : BitVec 32) : BitVec 32 :=
  v2177

def k0_off308 (v2177 : BitVec 32) : Fin 2 → Nat :=
  let v2181 : BitVec 32 := v2177
  let v2182 : Index := Scalar.indexCast v2181
  let c0_639 : Index := 0#32
  ![v2182.toNat, 0]

def k0_chk102 (v2177 : BitVec 32) : Prop :=
  (8 ∣ (k0_mult105 v2177).toNat) ∧
  (∀ a, (k0_off308 v2177) a + S8x128.size a ≤ S65536x128.size a)
theorem k0_mult105_dvd : ∀ (v2177 : BitVec 32) (k0_hw102 : k0_chk102 v2177), 8 ∣ (k0_mult105 v2177).toNat := fun v2177 k0_hw102 => k0_hw102.1
theorem k0_off308_inb : ∀ (v2177 : BitVec 32) (k0_hw102 : k0_chk102 v2177), ∀ a, (k0_off308 v2177) a + S8x128.size a ≤ S65536x128.size a := fun v2177 k0_hw102 => k0_hw102.2

def k0_off309 (k0_t2 : Fin k0_t2_loop.trips) (c101_i32_641 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2190 : BitVec 32 := Scalar.addi v37 c101_i32_641
  let v2191 : Index := Scalar.indexCast v2190
  let c0_642 : Index := 0#32
  ![v2191.toNat, 0]
def k0_off310 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_643 : BitVec 32 := 1536#32
  let v2196 : BitVec 32 := Scalar.addi v49 c1536_i32_643
  let v2197 : Index := Scalar.indexCast v2196
  ![v2197.toNat]
def k0_mult106 (v2198 : BitVec 32) : BitVec 32 :=
  v2198

def k0_off311 (v2198 : BitVec 32) : Fin 2 → Nat :=
  let v2202 : BitVec 32 := v2198
  let v2203 : Index := Scalar.indexCast v2202
  let c0_645 : Index := 0#32
  ![v2203.toNat, 0]

def k0_chk103 (v2198 : BitVec 32) : Prop :=
  (8 ∣ (k0_mult106 v2198).toNat) ∧
  (∀ a, (k0_off311 v2198) a + S8x128.size a ≤ S65536x128.size a)
theorem k0_mult106_dvd : ∀ (v2198 : BitVec 32) (k0_hw103 : k0_chk103 v2198), 8 ∣ (k0_mult106 v2198).toNat := fun v2198 k0_hw103 => k0_hw103.1
theorem k0_off311_inb : ∀ (v2198 : BitVec 32) (k0_hw103 : k0_chk103 v2198), ∀ a, (k0_off311 v2198) a + S8x128.size a ≤ S65536x128.size a := fun v2198 k0_hw103 => k0_hw103.2

def k0_off312 (k0_t2 : Fin k0_t2_loop.trips) (c102_i32_647 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2211 : BitVec 32 := Scalar.addi v37 c102_i32_647
  let v2212 : Index := Scalar.indexCast v2211
  let c0_648 : Index := 0#32
  ![v2212.toNat, 0]
def k0_off313 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1536_i32_649 : BitVec 32 := 1536#32
  let v2217 : BitVec 32 := Scalar.addi v49 c1536_i32_649
  let v2218 : Index := Scalar.indexCast v2217
  ![v2218.toNat]
def k0_mult107 (v2219 : BitVec 32) : BitVec 32 :=
  v2219

def k0_off314 (v2219 : BitVec 32) : Fin 2 → Nat :=
  let v2223 : BitVec 32 := v2219
  let v2224 : Index := Scalar.indexCast v2223
  let c0_651 : Index := 0#32
  ![v2224.toNat, 0]

def k0_chk104 (v2219 : BitVec 32) : Prop :=
  (8 ∣ (k0_mult107 v2219).toNat) ∧
  (∀ a, (k0_off314 v2219) a + S8x128.size a ≤ S65536x128.size a)
theorem k0_mult107_dvd : ∀ (v2219 : BitVec 32) (k0_hw104 : k0_chk104 v2219), 8 ∣ (k0_mult107 v2219).toNat := fun v2219 k0_hw104 => k0_hw104.1
theorem k0_off314_inb : ∀ (v2219 : BitVec 32) (k0_hw104 : k0_chk104 v2219), ∀ a, (k0_off314 v2219) a + S8x128.size a ≤ S65536x128.size a := fun v2219 k0_hw104 => k0_hw104.2

def k0_off315 (k0_t2 : Fin k0_t2_loop.trips) (c103_i32_653 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2232 : BitVec 32 := Scalar.addi v37 c103_i32_653
  let v2233 : Index := Scalar.indexCast v2232
  let c0_654 : Index := 0#32
  ![v2233.toNat, 0]
def k0_off316 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32 : BitVec 32 := 1664#32
  let v2238 : BitVec 32 := Scalar.addi v49 c1664_i32
  let v2239 : Index := Scalar.indexCast v2238
  ![v2239.toNat]
def k0_mult108 (v2240 : BitVec 32) : BitVec 32 :=
  v2240

def k0_off317 (v2240 : BitVec 32) : Fin 2 → Nat :=
  let v2244 : BitVec 32 := v2240
  let v2245 : Index := Scalar.indexCast v2244
  let c0_656 : Index := 0#32
  ![v2245.toNat, 0]

def k0_chk105 (v2240 : BitVec 32) : Prop :=
  (8 ∣ (k0_mult108 v2240).toNat) ∧
  (∀ a, (k0_off317 v2240) a + S8x128.size a ≤ S65536x128.size a)
theorem k0_mult108_dvd : ∀ (v2240 : BitVec 32) (k0_hw105 : k0_chk105 v2240), 8 ∣ (k0_mult108 v2240).toNat := fun v2240 k0_hw105 => k0_hw105.1
theorem k0_off317_inb : ∀ (v2240 : BitVec 32) (k0_hw105 : k0_chk105 v2240), ∀ a, (k0_off317 v2240) a + S8x128.size a ≤ S65536x128.size a := fun v2240 k0_hw105 => k0_hw105.2

def k0_off318 (k0_t2 : Fin k0_t2_loop.trips) (c104_i32_658 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2253 : BitVec 32 := Scalar.addi v37 c104_i32_658
  let v2254 : Index := Scalar.indexCast v2253
  let c0_659 : Index := 0#32
  ![v2254.toNat, 0]
def k0_off319 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_660 : BitVec 32 := 1664#32
  let v2259 : BitVec 32 := Scalar.addi v49 c1664_i32_660
  let v2260 : Index := Scalar.indexCast v2259
  ![v2260.toNat]
def k0_mult109 (v2261 : BitVec 32) : BitVec 32 :=
  v2261

def k0_off320 (v2261 : BitVec 32) : Fin 2 → Nat :=
  let v2265 : BitVec 32 := v2261
  let v2266 : Index := Scalar.indexCast v2265
  let c0_662 : Index := 0#32
  ![v2266.toNat, 0]

def k0_chk106 (v2261 : BitVec 32) : Prop :=
  (8 ∣ (k0_mult109 v2261).toNat) ∧
  (∀ a, (k0_off320 v2261) a + S8x128.size a ≤ S65536x128.size a)
theorem k0_mult109_dvd : ∀ (v2261 : BitVec 32) (k0_hw106 : k0_chk106 v2261), 8 ∣ (k0_mult109 v2261).toNat := fun v2261 k0_hw106 => k0_hw106.1
theorem k0_off320_inb : ∀ (v2261 : BitVec 32) (k0_hw106 : k0_chk106 v2261), ∀ a, (k0_off320 v2261) a + S8x128.size a ≤ S65536x128.size a := fun v2261 k0_hw106 => k0_hw106.2

def k0_off321 (k0_t2 : Fin k0_t2_loop.trips) (c105_i32_664 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2274 : BitVec 32 := Scalar.addi v37 c105_i32_664
  let v2275 : Index := Scalar.indexCast v2274
  let c0_665 : Index := 0#32
  ![v2275.toNat, 0]
def k0_off322 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_666 : BitVec 32 := 1664#32
  let v2280 : BitVec 32 := Scalar.addi v49 c1664_i32_666
  let v2281 : Index := Scalar.indexCast v2280
  ![v2281.toNat]
def k0_mult110 (v2282 : BitVec 32) : BitVec 32 :=
  v2282

def k0_off323 (v2282 : BitVec 32) : Fin 2 → Nat :=
  let v2286 : BitVec 32 := v2282
  let v2287 : Index := Scalar.indexCast v2286
  let c0_668 : Index := 0#32
  ![v2287.toNat, 0]

def k0_chk107 (v2282 : BitVec 32) : Prop :=
  (8 ∣ (k0_mult110 v2282).toNat) ∧
  (∀ a, (k0_off323 v2282) a + S8x128.size a ≤ S65536x128.size a)
theorem k0_mult110_dvd : ∀ (v2282 : BitVec 32) (k0_hw107 : k0_chk107 v2282), 8 ∣ (k0_mult110 v2282).toNat := fun v2282 k0_hw107 => k0_hw107.1
theorem k0_off323_inb : ∀ (v2282 : BitVec 32) (k0_hw107 : k0_chk107 v2282), ∀ a, (k0_off323 v2282) a + S8x128.size a ≤ S65536x128.size a := fun v2282 k0_hw107 => k0_hw107.2

def k0_off324 (k0_t2 : Fin k0_t2_loop.trips) (c106_i32_670 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2295 : BitVec 32 := Scalar.addi v37 c106_i32_670
  let v2296 : Index := Scalar.indexCast v2295
  let c0_671 : Index := 0#32
  ![v2296.toNat, 0]
def k0_off325 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_672 : BitVec 32 := 1664#32
  let v2301 : BitVec 32 := Scalar.addi v49 c1664_i32_672
  let v2302 : Index := Scalar.indexCast v2301
  ![v2302.toNat]
def k0_mult111 (v2303 : BitVec 32) : BitVec 32 :=
  v2303

def k0_off326 (v2303 : BitVec 32) : Fin 2 → Nat :=
  let v2307 : BitVec 32 := v2303
  let v2308 : Index := Scalar.indexCast v2307
  let c0_674 : Index := 0#32
  ![v2308.toNat, 0]

def k0_chk108 (v2303 : BitVec 32) : Prop :=
  (8 ∣ (k0_mult111 v2303).toNat) ∧
  (∀ a, (k0_off326 v2303) a + S8x128.size a ≤ S65536x128.size a)
theorem k0_mult111_dvd : ∀ (v2303 : BitVec 32) (k0_hw108 : k0_chk108 v2303), 8 ∣ (k0_mult111 v2303).toNat := fun v2303 k0_hw108 => k0_hw108.1
theorem k0_off326_inb : ∀ (v2303 : BitVec 32) (k0_hw108 : k0_chk108 v2303), ∀ a, (k0_off326 v2303) a + S8x128.size a ≤ S65536x128.size a := fun v2303 k0_hw108 => k0_hw108.2

def k0_off327 (k0_t2 : Fin k0_t2_loop.trips) (c107_i32_676 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2316 : BitVec 32 := Scalar.addi v37 c107_i32_676
  let v2317 : Index := Scalar.indexCast v2316
  let c0_677 : Index := 0#32
  ![v2317.toNat, 0]
def k0_off328 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_678 : BitVec 32 := 1664#32
  let v2322 : BitVec 32 := Scalar.addi v49 c1664_i32_678
  let v2323 : Index := Scalar.indexCast v2322
  ![v2323.toNat]
def k0_mult112 (v2324 : BitVec 32) : BitVec 32 :=
  v2324

def k0_off329 (v2324 : BitVec 32) : Fin 2 → Nat :=
  let v2328 : BitVec 32 := v2324
  let v2329 : Index := Scalar.indexCast v2328
  let c0_680 : Index := 0#32
  ![v2329.toNat, 0]

def k0_chk109 (v2324 : BitVec 32) : Prop :=
  (8 ∣ (k0_mult112 v2324).toNat) ∧
  (∀ a, (k0_off329 v2324) a + S8x128.size a ≤ S65536x128.size a)
theorem k0_mult112_dvd : ∀ (v2324 : BitVec 32) (k0_hw109 : k0_chk109 v2324), 8 ∣ (k0_mult112 v2324).toNat := fun v2324 k0_hw109 => k0_hw109.1
theorem k0_off329_inb : ∀ (v2324 : BitVec 32) (k0_hw109 : k0_chk109 v2324), ∀ a, (k0_off329 v2324) a + S8x128.size a ≤ S65536x128.size a := fun v2324 k0_hw109 => k0_hw109.2

def k0_off330 (k0_t2 : Fin k0_t2_loop.trips) (c108_i32_682 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2337 : BitVec 32 := Scalar.addi v37 c108_i32_682
  let v2338 : Index := Scalar.indexCast v2337
  let c0_683 : Index := 0#32
  ![v2338.toNat, 0]
def k0_off331 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_684 : BitVec 32 := 1664#32
  let v2343 : BitVec 32 := Scalar.addi v49 c1664_i32_684
  let v2344 : Index := Scalar.indexCast v2343
  ![v2344.toNat]
def k0_mult113 (v2345 : BitVec 32) : BitVec 32 :=
  v2345

def k0_off332 (v2345 : BitVec 32) : Fin 2 → Nat :=
  let v2349 : BitVec 32 := v2345
  let v2350 : Index := Scalar.indexCast v2349
  let c0_686 : Index := 0#32
  ![v2350.toNat, 0]

def k0_chk110 (v2345 : BitVec 32) : Prop :=
  (8 ∣ (k0_mult113 v2345).toNat) ∧
  (∀ a, (k0_off332 v2345) a + S8x128.size a ≤ S65536x128.size a)
theorem k0_mult113_dvd : ∀ (v2345 : BitVec 32) (k0_hw110 : k0_chk110 v2345), 8 ∣ (k0_mult113 v2345).toNat := fun v2345 k0_hw110 => k0_hw110.1
theorem k0_off332_inb : ∀ (v2345 : BitVec 32) (k0_hw110 : k0_chk110 v2345), ∀ a, (k0_off332 v2345) a + S8x128.size a ≤ S65536x128.size a := fun v2345 k0_hw110 => k0_hw110.2

def k0_off333 (k0_t2 : Fin k0_t2_loop.trips) (c109_i32_688 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2358 : BitVec 32 := Scalar.addi v37 c109_i32_688
  let v2359 : Index := Scalar.indexCast v2358
  let c0_689 : Index := 0#32
  ![v2359.toNat, 0]
def k0_off334 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_690 : BitVec 32 := 1664#32
  let v2364 : BitVec 32 := Scalar.addi v49 c1664_i32_690
  let v2365 : Index := Scalar.indexCast v2364
  ![v2365.toNat]
def k0_mult114 (v2366 : BitVec 32) : BitVec 32 :=
  v2366

def k0_off335 (v2366 : BitVec 32) : Fin 2 → Nat :=
  let v2370 : BitVec 32 := v2366
  let v2371 : Index := Scalar.indexCast v2370
  let c0_692 : Index := 0#32
  ![v2371.toNat, 0]

def k0_chk111 (v2366 : BitVec 32) : Prop :=
  (8 ∣ (k0_mult114 v2366).toNat) ∧
  (∀ a, (k0_off335 v2366) a + S8x128.size a ≤ S65536x128.size a)
theorem k0_mult114_dvd : ∀ (v2366 : BitVec 32) (k0_hw111 : k0_chk111 v2366), 8 ∣ (k0_mult114 v2366).toNat := fun v2366 k0_hw111 => k0_hw111.1
theorem k0_off335_inb : ∀ (v2366 : BitVec 32) (k0_hw111 : k0_chk111 v2366), ∀ a, (k0_off335 v2366) a + S8x128.size a ≤ S65536x128.size a := fun v2366 k0_hw111 => k0_hw111.2

def k0_off336 (k0_t2 : Fin k0_t2_loop.trips) (c110_i32_694 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2379 : BitVec 32 := Scalar.addi v37 c110_i32_694
  let v2380 : Index := Scalar.indexCast v2379
  let c0_695 : Index := 0#32
  ![v2380.toNat, 0]
def k0_off337 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1664_i32_696 : BitVec 32 := 1664#32
  let v2385 : BitVec 32 := Scalar.addi v49 c1664_i32_696
  let v2386 : Index := Scalar.indexCast v2385
  ![v2386.toNat]
def k0_mult115 (v2387 : BitVec 32) : BitVec 32 :=
  v2387

def k0_off338 (v2387 : BitVec 32) : Fin 2 → Nat :=
  let v2391 : BitVec 32 := v2387
  let v2392 : Index := Scalar.indexCast v2391
  let c0_698 : Index := 0#32
  ![v2392.toNat, 0]

def k0_chk112 (v2387 : BitVec 32) : Prop :=
  (8 ∣ (k0_mult115 v2387).toNat) ∧
  (∀ a, (k0_off338 v2387) a + S8x128.size a ≤ S65536x128.size a)
theorem k0_mult115_dvd : ∀ (v2387 : BitVec 32) (k0_hw112 : k0_chk112 v2387), 8 ∣ (k0_mult115 v2387).toNat := fun v2387 k0_hw112 => k0_hw112.1
theorem k0_off338_inb : ∀ (v2387 : BitVec 32) (k0_hw112 : k0_chk112 v2387), ∀ a, (k0_off338 v2387) a + S8x128.size a ≤ S65536x128.size a := fun v2387 k0_hw112 => k0_hw112.2

def k0_off339 (k0_t2 : Fin k0_t2_loop.trips) (c111_i32_700 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2400 : BitVec 32 := Scalar.addi v37 c111_i32_700
  let v2401 : Index := Scalar.indexCast v2400
  let c0_701 : Index := 0#32
  ![v2401.toNat, 0]
def k0_off340 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32 : BitVec 32 := 1792#32
  let v2406 : BitVec 32 := Scalar.addi v49 c1792_i32
  let v2407 : Index := Scalar.indexCast v2406
  ![v2407.toNat]
def k0_mult116 (v2408 : BitVec 32) : BitVec 32 :=
  v2408

def k0_off341 (v2408 : BitVec 32) : Fin 2 → Nat :=
  let v2412 : BitVec 32 := v2408
  let v2413 : Index := Scalar.indexCast v2412
  let c0_703 : Index := 0#32
  ![v2413.toNat, 0]

def k0_chk113 (v2408 : BitVec 32) : Prop :=
  (8 ∣ (k0_mult116 v2408).toNat) ∧
  (∀ a, (k0_off341 v2408) a + S8x128.size a ≤ S65536x128.size a)
theorem k0_mult116_dvd : ∀ (v2408 : BitVec 32) (k0_hw113 : k0_chk113 v2408), 8 ∣ (k0_mult116 v2408).toNat := fun v2408 k0_hw113 => k0_hw113.1
theorem k0_off341_inb : ∀ (v2408 : BitVec 32) (k0_hw113 : k0_chk113 v2408), ∀ a, (k0_off341 v2408) a + S8x128.size a ≤ S65536x128.size a := fun v2408 k0_hw113 => k0_hw113.2

def k0_off342 (k0_t2 : Fin k0_t2_loop.trips) (c112_i32_705 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2421 : BitVec 32 := Scalar.addi v37 c112_i32_705
  let v2422 : Index := Scalar.indexCast v2421
  let c0_706 : Index := 0#32
  ![v2422.toNat, 0]
def k0_off343 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_707 : BitVec 32 := 1792#32
  let v2427 : BitVec 32 := Scalar.addi v49 c1792_i32_707
  let v2428 : Index := Scalar.indexCast v2427
  ![v2428.toNat]
def k0_mult117 (v2429 : BitVec 32) : BitVec 32 :=
  v2429

def k0_off344 (v2429 : BitVec 32) : Fin 2 → Nat :=
  let v2433 : BitVec 32 := v2429
  let v2434 : Index := Scalar.indexCast v2433
  let c0_709 : Index := 0#32
  ![v2434.toNat, 0]

def k0_chk114 (v2429 : BitVec 32) : Prop :=
  (8 ∣ (k0_mult117 v2429).toNat) ∧
  (∀ a, (k0_off344 v2429) a + S8x128.size a ≤ S65536x128.size a)
theorem k0_mult117_dvd : ∀ (v2429 : BitVec 32) (k0_hw114 : k0_chk114 v2429), 8 ∣ (k0_mult117 v2429).toNat := fun v2429 k0_hw114 => k0_hw114.1
theorem k0_off344_inb : ∀ (v2429 : BitVec 32) (k0_hw114 : k0_chk114 v2429), ∀ a, (k0_off344 v2429) a + S8x128.size a ≤ S65536x128.size a := fun v2429 k0_hw114 => k0_hw114.2

def k0_off345 (k0_t2 : Fin k0_t2_loop.trips) (c113_i32_711 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2442 : BitVec 32 := Scalar.addi v37 c113_i32_711
  let v2443 : Index := Scalar.indexCast v2442
  let c0_712 : Index := 0#32
  ![v2443.toNat, 0]
def k0_off346 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_713 : BitVec 32 := 1792#32
  let v2448 : BitVec 32 := Scalar.addi v49 c1792_i32_713
  let v2449 : Index := Scalar.indexCast v2448
  ![v2449.toNat]
def k0_mult118 (v2450 : BitVec 32) : BitVec 32 :=
  v2450

def k0_off347 (v2450 : BitVec 32) : Fin 2 → Nat :=
  let v2454 : BitVec 32 := v2450
  let v2455 : Index := Scalar.indexCast v2454
  let c0_715 : Index := 0#32
  ![v2455.toNat, 0]

def k0_chk115 (v2450 : BitVec 32) : Prop :=
  (8 ∣ (k0_mult118 v2450).toNat) ∧
  (∀ a, (k0_off347 v2450) a + S8x128.size a ≤ S65536x128.size a)
theorem k0_mult118_dvd : ∀ (v2450 : BitVec 32) (k0_hw115 : k0_chk115 v2450), 8 ∣ (k0_mult118 v2450).toNat := fun v2450 k0_hw115 => k0_hw115.1
theorem k0_off347_inb : ∀ (v2450 : BitVec 32) (k0_hw115 : k0_chk115 v2450), ∀ a, (k0_off347 v2450) a + S8x128.size a ≤ S65536x128.size a := fun v2450 k0_hw115 => k0_hw115.2

def k0_off348 (k0_t2 : Fin k0_t2_loop.trips) (c114_i32_717 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2463 : BitVec 32 := Scalar.addi v37 c114_i32_717
  let v2464 : Index := Scalar.indexCast v2463
  let c0_718 : Index := 0#32
  ![v2464.toNat, 0]
def k0_off349 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_719 : BitVec 32 := 1792#32
  let v2469 : BitVec 32 := Scalar.addi v49 c1792_i32_719
  let v2470 : Index := Scalar.indexCast v2469
  ![v2470.toNat]
def k0_mult119 (v2471 : BitVec 32) : BitVec 32 :=
  v2471

def k0_off350 (v2471 : BitVec 32) : Fin 2 → Nat :=
  let v2475 : BitVec 32 := v2471
  let v2476 : Index := Scalar.indexCast v2475
  let c0_721 : Index := 0#32
  ![v2476.toNat, 0]

def k0_chk116 (v2471 : BitVec 32) : Prop :=
  (8 ∣ (k0_mult119 v2471).toNat) ∧
  (∀ a, (k0_off350 v2471) a + S8x128.size a ≤ S65536x128.size a)
theorem k0_mult119_dvd : ∀ (v2471 : BitVec 32) (k0_hw116 : k0_chk116 v2471), 8 ∣ (k0_mult119 v2471).toNat := fun v2471 k0_hw116 => k0_hw116.1
theorem k0_off350_inb : ∀ (v2471 : BitVec 32) (k0_hw116 : k0_chk116 v2471), ∀ a, (k0_off350 v2471) a + S8x128.size a ≤ S65536x128.size a := fun v2471 k0_hw116 => k0_hw116.2

def k0_off351 (k0_t2 : Fin k0_t2_loop.trips) (c115_i32_723 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2484 : BitVec 32 := Scalar.addi v37 c115_i32_723
  let v2485 : Index := Scalar.indexCast v2484
  let c0_724 : Index := 0#32
  ![v2485.toNat, 0]
def k0_off352 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_725 : BitVec 32 := 1792#32
  let v2490 : BitVec 32 := Scalar.addi v49 c1792_i32_725
  let v2491 : Index := Scalar.indexCast v2490
  ![v2491.toNat]
def k0_mult120 (v2492 : BitVec 32) : BitVec 32 :=
  v2492

def k0_off353 (v2492 : BitVec 32) : Fin 2 → Nat :=
  let v2496 : BitVec 32 := v2492
  let v2497 : Index := Scalar.indexCast v2496
  let c0_727 : Index := 0#32
  ![v2497.toNat, 0]

def k0_chk117 (v2492 : BitVec 32) : Prop :=
  (8 ∣ (k0_mult120 v2492).toNat) ∧
  (∀ a, (k0_off353 v2492) a + S8x128.size a ≤ S65536x128.size a)
theorem k0_mult120_dvd : ∀ (v2492 : BitVec 32) (k0_hw117 : k0_chk117 v2492), 8 ∣ (k0_mult120 v2492).toNat := fun v2492 k0_hw117 => k0_hw117.1
theorem k0_off353_inb : ∀ (v2492 : BitVec 32) (k0_hw117 : k0_chk117 v2492), ∀ a, (k0_off353 v2492) a + S8x128.size a ≤ S65536x128.size a := fun v2492 k0_hw117 => k0_hw117.2

def k0_off354 (k0_t2 : Fin k0_t2_loop.trips) (c116_i32_729 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2505 : BitVec 32 := Scalar.addi v37 c116_i32_729
  let v2506 : Index := Scalar.indexCast v2505
  let c0_730 : Index := 0#32
  ![v2506.toNat, 0]
def k0_off355 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_731 : BitVec 32 := 1792#32
  let v2511 : BitVec 32 := Scalar.addi v49 c1792_i32_731
  let v2512 : Index := Scalar.indexCast v2511
  ![v2512.toNat]
def k0_mult121 (v2513 : BitVec 32) : BitVec 32 :=
  v2513

def k0_off356 (v2513 : BitVec 32) : Fin 2 → Nat :=
  let v2517 : BitVec 32 := v2513
  let v2518 : Index := Scalar.indexCast v2517
  let c0_733 : Index := 0#32
  ![v2518.toNat, 0]

def k0_chk118 (v2513 : BitVec 32) : Prop :=
  (8 ∣ (k0_mult121 v2513).toNat) ∧
  (∀ a, (k0_off356 v2513) a + S8x128.size a ≤ S65536x128.size a)
theorem k0_mult121_dvd : ∀ (v2513 : BitVec 32) (k0_hw118 : k0_chk118 v2513), 8 ∣ (k0_mult121 v2513).toNat := fun v2513 k0_hw118 => k0_hw118.1
theorem k0_off356_inb : ∀ (v2513 : BitVec 32) (k0_hw118 : k0_chk118 v2513), ∀ a, (k0_off356 v2513) a + S8x128.size a ≤ S65536x128.size a := fun v2513 k0_hw118 => k0_hw118.2

def k0_off357 (k0_t2 : Fin k0_t2_loop.trips) (c117_i32_735 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2526 : BitVec 32 := Scalar.addi v37 c117_i32_735
  let v2527 : Index := Scalar.indexCast v2526
  let c0_736 : Index := 0#32
  ![v2527.toNat, 0]
def k0_off358 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_737 : BitVec 32 := 1792#32
  let v2532 : BitVec 32 := Scalar.addi v49 c1792_i32_737
  let v2533 : Index := Scalar.indexCast v2532
  ![v2533.toNat]
def k0_mult122 (v2534 : BitVec 32) : BitVec 32 :=
  v2534

def k0_off359 (v2534 : BitVec 32) : Fin 2 → Nat :=
  let v2538 : BitVec 32 := v2534
  let v2539 : Index := Scalar.indexCast v2538
  let c0_739 : Index := 0#32
  ![v2539.toNat, 0]

def k0_chk119 (v2534 : BitVec 32) : Prop :=
  (8 ∣ (k0_mult122 v2534).toNat) ∧
  (∀ a, (k0_off359 v2534) a + S8x128.size a ≤ S65536x128.size a)
theorem k0_mult122_dvd : ∀ (v2534 : BitVec 32) (k0_hw119 : k0_chk119 v2534), 8 ∣ (k0_mult122 v2534).toNat := fun v2534 k0_hw119 => k0_hw119.1
theorem k0_off359_inb : ∀ (v2534 : BitVec 32) (k0_hw119 : k0_chk119 v2534), ∀ a, (k0_off359 v2534) a + S8x128.size a ≤ S65536x128.size a := fun v2534 k0_hw119 => k0_hw119.2

def k0_off360 (k0_t2 : Fin k0_t2_loop.trips) (c118_i32_741 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2547 : BitVec 32 := Scalar.addi v37 c118_i32_741
  let v2548 : Index := Scalar.indexCast v2547
  let c0_742 : Index := 0#32
  ![v2548.toNat, 0]
def k0_off361 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1792_i32_743 : BitVec 32 := 1792#32
  let v2553 : BitVec 32 := Scalar.addi v49 c1792_i32_743
  let v2554 : Index := Scalar.indexCast v2553
  ![v2554.toNat]
def k0_mult123 (v2555 : BitVec 32) : BitVec 32 :=
  v2555

def k0_off362 (v2555 : BitVec 32) : Fin 2 → Nat :=
  let v2559 : BitVec 32 := v2555
  let v2560 : Index := Scalar.indexCast v2559
  let c0_745 : Index := 0#32
  ![v2560.toNat, 0]

def k0_chk120 (v2555 : BitVec 32) : Prop :=
  (8 ∣ (k0_mult123 v2555).toNat) ∧
  (∀ a, (k0_off362 v2555) a + S8x128.size a ≤ S65536x128.size a)
theorem k0_mult123_dvd : ∀ (v2555 : BitVec 32) (k0_hw120 : k0_chk120 v2555), 8 ∣ (k0_mult123 v2555).toNat := fun v2555 k0_hw120 => k0_hw120.1
theorem k0_off362_inb : ∀ (v2555 : BitVec 32) (k0_hw120 : k0_chk120 v2555), ∀ a, (k0_off362 v2555) a + S8x128.size a ≤ S65536x128.size a := fun v2555 k0_hw120 => k0_hw120.2

def k0_off363 (k0_t2 : Fin k0_t2_loop.trips) (c119_i32_747 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2568 : BitVec 32 := Scalar.addi v37 c119_i32_747
  let v2569 : Index := Scalar.indexCast v2568
  let c0_748 : Index := 0#32
  ![v2569.toNat, 0]
def k0_off364 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32 : BitVec 32 := 1920#32
  let v2574 : BitVec 32 := Scalar.addi v49 c1920_i32
  let v2575 : Index := Scalar.indexCast v2574
  ![v2575.toNat]
def k0_mult124 (v2576 : BitVec 32) : BitVec 32 :=
  v2576

def k0_off365 (v2576 : BitVec 32) : Fin 2 → Nat :=
  let v2580 : BitVec 32 := v2576
  let v2581 : Index := Scalar.indexCast v2580
  let c0_750 : Index := 0#32
  ![v2581.toNat, 0]

def k0_chk121 (v2576 : BitVec 32) : Prop :=
  (8 ∣ (k0_mult124 v2576).toNat) ∧
  (∀ a, (k0_off365 v2576) a + S8x128.size a ≤ S65536x128.size a)
theorem k0_mult124_dvd : ∀ (v2576 : BitVec 32) (k0_hw121 : k0_chk121 v2576), 8 ∣ (k0_mult124 v2576).toNat := fun v2576 k0_hw121 => k0_hw121.1
theorem k0_off365_inb : ∀ (v2576 : BitVec 32) (k0_hw121 : k0_chk121 v2576), ∀ a, (k0_off365 v2576) a + S8x128.size a ≤ S65536x128.size a := fun v2576 k0_hw121 => k0_hw121.2

def k0_off366 (k0_t2 : Fin k0_t2_loop.trips) (c120_i32_752 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2589 : BitVec 32 := Scalar.addi v37 c120_i32_752
  let v2590 : Index := Scalar.indexCast v2589
  let c0_753 : Index := 0#32
  ![v2590.toNat, 0]
def k0_off367 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_754 : BitVec 32 := 1920#32
  let v2595 : BitVec 32 := Scalar.addi v49 c1920_i32_754
  let v2596 : Index := Scalar.indexCast v2595
  ![v2596.toNat]
def k0_mult125 (v2597 : BitVec 32) : BitVec 32 :=
  v2597

def k0_off368 (v2597 : BitVec 32) : Fin 2 → Nat :=
  let v2601 : BitVec 32 := v2597
  let v2602 : Index := Scalar.indexCast v2601
  let c0_756 : Index := 0#32
  ![v2602.toNat, 0]

def k0_chk122 (v2597 : BitVec 32) : Prop :=
  (8 ∣ (k0_mult125 v2597).toNat) ∧
  (∀ a, (k0_off368 v2597) a + S8x128.size a ≤ S65536x128.size a)
theorem k0_mult125_dvd : ∀ (v2597 : BitVec 32) (k0_hw122 : k0_chk122 v2597), 8 ∣ (k0_mult125 v2597).toNat := fun v2597 k0_hw122 => k0_hw122.1
theorem k0_off368_inb : ∀ (v2597 : BitVec 32) (k0_hw122 : k0_chk122 v2597), ∀ a, (k0_off368 v2597) a + S8x128.size a ≤ S65536x128.size a := fun v2597 k0_hw122 => k0_hw122.2

def k0_off369 (k0_t2 : Fin k0_t2_loop.trips) (c121_i32_758 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2610 : BitVec 32 := Scalar.addi v37 c121_i32_758
  let v2611 : Index := Scalar.indexCast v2610
  let c0_759 : Index := 0#32
  ![v2611.toNat, 0]
def k0_off370 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_760 : BitVec 32 := 1920#32
  let v2616 : BitVec 32 := Scalar.addi v49 c1920_i32_760
  let v2617 : Index := Scalar.indexCast v2616
  ![v2617.toNat]
def k0_mult126 (v2618 : BitVec 32) : BitVec 32 :=
  v2618

def k0_off371 (v2618 : BitVec 32) : Fin 2 → Nat :=
  let v2622 : BitVec 32 := v2618
  let v2623 : Index := Scalar.indexCast v2622
  let c0_762 : Index := 0#32
  ![v2623.toNat, 0]

def k0_chk123 (v2618 : BitVec 32) : Prop :=
  (8 ∣ (k0_mult126 v2618).toNat) ∧
  (∀ a, (k0_off371 v2618) a + S8x128.size a ≤ S65536x128.size a)
theorem k0_mult126_dvd : ∀ (v2618 : BitVec 32) (k0_hw123 : k0_chk123 v2618), 8 ∣ (k0_mult126 v2618).toNat := fun v2618 k0_hw123 => k0_hw123.1
theorem k0_off371_inb : ∀ (v2618 : BitVec 32) (k0_hw123 : k0_chk123 v2618), ∀ a, (k0_off371 v2618) a + S8x128.size a ≤ S65536x128.size a := fun v2618 k0_hw123 => k0_hw123.2

def k0_off372 (k0_t2 : Fin k0_t2_loop.trips) (c122_i32_764 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2631 : BitVec 32 := Scalar.addi v37 c122_i32_764
  let v2632 : Index := Scalar.indexCast v2631
  let c0_765 : Index := 0#32
  ![v2632.toNat, 0]
def k0_off373 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_766 : BitVec 32 := 1920#32
  let v2637 : BitVec 32 := Scalar.addi v49 c1920_i32_766
  let v2638 : Index := Scalar.indexCast v2637
  ![v2638.toNat]
def k0_mult127 (v2639 : BitVec 32) : BitVec 32 :=
  v2639

def k0_off374 (v2639 : BitVec 32) : Fin 2 → Nat :=
  let v2643 : BitVec 32 := v2639
  let v2644 : Index := Scalar.indexCast v2643
  let c0_768 : Index := 0#32
  ![v2644.toNat, 0]

def k0_chk124 (v2639 : BitVec 32) : Prop :=
  (8 ∣ (k0_mult127 v2639).toNat) ∧
  (∀ a, (k0_off374 v2639) a + S8x128.size a ≤ S65536x128.size a)
theorem k0_mult127_dvd : ∀ (v2639 : BitVec 32) (k0_hw124 : k0_chk124 v2639), 8 ∣ (k0_mult127 v2639).toNat := fun v2639 k0_hw124 => k0_hw124.1
theorem k0_off374_inb : ∀ (v2639 : BitVec 32) (k0_hw124 : k0_chk124 v2639), ∀ a, (k0_off374 v2639) a + S8x128.size a ≤ S65536x128.size a := fun v2639 k0_hw124 => k0_hw124.2

def k0_off375 (k0_t2 : Fin k0_t2_loop.trips) (c123_i32_770 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2652 : BitVec 32 := Scalar.addi v37 c123_i32_770
  let v2653 : Index := Scalar.indexCast v2652
  let c0_771 : Index := 0#32
  ![v2653.toNat, 0]
def k0_off376 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_772 : BitVec 32 := 1920#32
  let v2658 : BitVec 32 := Scalar.addi v49 c1920_i32_772
  let v2659 : Index := Scalar.indexCast v2658
  ![v2659.toNat]
def k0_mult128 (v2660 : BitVec 32) : BitVec 32 :=
  v2660

def k0_off377 (v2660 : BitVec 32) : Fin 2 → Nat :=
  let v2664 : BitVec 32 := v2660
  let v2665 : Index := Scalar.indexCast v2664
  let c0_774 : Index := 0#32
  ![v2665.toNat, 0]

def k0_chk125 (v2660 : BitVec 32) : Prop :=
  (8 ∣ (k0_mult128 v2660).toNat) ∧
  (∀ a, (k0_off377 v2660) a + S8x128.size a ≤ S65536x128.size a)
theorem k0_mult128_dvd : ∀ (v2660 : BitVec 32) (k0_hw125 : k0_chk125 v2660), 8 ∣ (k0_mult128 v2660).toNat := fun v2660 k0_hw125 => k0_hw125.1
theorem k0_off377_inb : ∀ (v2660 : BitVec 32) (k0_hw125 : k0_chk125 v2660), ∀ a, (k0_off377 v2660) a + S8x128.size a ≤ S65536x128.size a := fun v2660 k0_hw125 => k0_hw125.2

def k0_off378 (k0_t2 : Fin k0_t2_loop.trips) (c124_i32_776 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2673 : BitVec 32 := Scalar.addi v37 c124_i32_776
  let v2674 : Index := Scalar.indexCast v2673
  let c0_777 : Index := 0#32
  ![v2674.toNat, 0]
def k0_off379 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_778 : BitVec 32 := 1920#32
  let v2679 : BitVec 32 := Scalar.addi v49 c1920_i32_778
  let v2680 : Index := Scalar.indexCast v2679
  ![v2680.toNat]
def k0_mult129 (v2681 : BitVec 32) : BitVec 32 :=
  v2681

def k0_off380 (v2681 : BitVec 32) : Fin 2 → Nat :=
  let v2685 : BitVec 32 := v2681
  let v2686 : Index := Scalar.indexCast v2685
  let c0_780 : Index := 0#32
  ![v2686.toNat, 0]

def k0_chk126 (v2681 : BitVec 32) : Prop :=
  (8 ∣ (k0_mult129 v2681).toNat) ∧
  (∀ a, (k0_off380 v2681) a + S8x128.size a ≤ S65536x128.size a)
theorem k0_mult129_dvd : ∀ (v2681 : BitVec 32) (k0_hw126 : k0_chk126 v2681), 8 ∣ (k0_mult129 v2681).toNat := fun v2681 k0_hw126 => k0_hw126.1
theorem k0_off380_inb : ∀ (v2681 : BitVec 32) (k0_hw126 : k0_chk126 v2681), ∀ a, (k0_off380 v2681) a + S8x128.size a ≤ S65536x128.size a := fun v2681 k0_hw126 => k0_hw126.2

def k0_off381 (k0_t2 : Fin k0_t2_loop.trips) (c125_i32_782 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2694 : BitVec 32 := Scalar.addi v37 c125_i32_782
  let v2695 : Index := Scalar.indexCast v2694
  let c0_783 : Index := 0#32
  ![v2695.toNat, 0]
def k0_off382 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_784 : BitVec 32 := 1920#32
  let v2700 : BitVec 32 := Scalar.addi v49 c1920_i32_784
  let v2701 : Index := Scalar.indexCast v2700
  ![v2701.toNat]
def k0_mult130 (v2702 : BitVec 32) : BitVec 32 :=
  v2702

def k0_off383 (v2702 : BitVec 32) : Fin 2 → Nat :=
  let v2706 : BitVec 32 := v2702
  let v2707 : Index := Scalar.indexCast v2706
  let c0_786 : Index := 0#32
  ![v2707.toNat, 0]

def k0_chk127 (v2702 : BitVec 32) : Prop :=
  (8 ∣ (k0_mult130 v2702).toNat) ∧
  (∀ a, (k0_off383 v2702) a + S8x128.size a ≤ S65536x128.size a)
theorem k0_mult130_dvd : ∀ (v2702 : BitVec 32) (k0_hw127 : k0_chk127 v2702), 8 ∣ (k0_mult130 v2702).toNat := fun v2702 k0_hw127 => k0_hw127.1
theorem k0_off383_inb : ∀ (v2702 : BitVec 32) (k0_hw127 : k0_chk127 v2702), ∀ a, (k0_off383 v2702) a + S8x128.size a ≤ S65536x128.size a := fun v2702 k0_hw127 => k0_hw127.2

def k0_off384 (k0_t2 : Fin k0_t2_loop.trips) (c126_i32_788 : BitVec 32) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let v2715 : BitVec 32 := Scalar.addi v37 c126_i32_788
  let v2716 : Index := Scalar.indexCast v2715
  let c0_789 : Index := 0#32
  ![v2716.toNat, 0]
def k0_off385 (i : grid0.Coords) (k0_t2 : Fin k0_t2_loop.trips) : Fin 1 → Nat :=
  let arg0 : BitVec 32 := BitVec.ofNat 32 (i 0).val
  let c1_i32_30 : BitVec 32 := 1#32
  let c0_i32_31 : BitVec 32 := 0#32
  let v38 : BitVec 1 := Scalar.cmpi .eq c1_i32_30 c0_i32_31
  let c1_i32_32 : BitVec 32 := 1#32
  let v39 : BitVec 32 := Scalar.select v38 c1_i32_32 c1_i32_30
  let v40 : BitVec 32 := Scalar.remsi arg0 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c128_i32_36 : BitVec 32 := 128#32
  let v48 : BitVec 32 := Scalar.muli v47 c128_i32_36
  let c0_i32_1 : BitVec 32 := 0#32
  let c1_i32_3 : BitVec 32 := 1#32
  let arg18 : BitVec 32 := Scf.iv c0_i32_1 c1_i32_3 k0_t2
  let v49 : BitVec 32 := Scalar.addi v48 arg18
  let c1920_i32_790 : BitVec 32 := 1920#32
  let v2721 : BitVec 32 := Scalar.addi v49 c1920_i32_790
  let v2722 : Index := Scalar.indexCast v2721
  ![v2722.toNat]
def k0_mult131 (v2723 : BitVec 32) : BitVec 32 :=
  v2723

def k0_off386 (v2723 : BitVec 32) : Fin 2 → Nat :=
  let v2727 : BitVec 32 := v2723
  let v2728 : Index := Scalar.indexCast v2727
  let c0_792 : Index := 0#32
  ![v2728.toNat, 0]

def k0_chk128 (v2723 : BitVec 32) : Prop :=
  (8 ∣ (k0_mult131 v2723).toNat) ∧
  (∀ a, (k0_off386 v2723) a + S8x128.size a ≤ S65536x128.size a)
theorem k0_mult131_dvd : ∀ (v2723 : BitVec 32) (k0_hw128 : k0_chk128 v2723), 8 ∣ (k0_mult131 v2723).toNat := fun v2723 k0_hw128 => k0_hw128.1
theorem k0_off386_inb : ∀ (v2723 : BitVec 32) (k0_hw128 : k0_chk128 v2723), ∀ a, (k0_off386 v2723) a + S8x128.size a ≤ S65536x128.size a := fun v2723 k0_hw128 => k0_hw128.2

def k0_off387 (k0_t2 : Fin k0_t2_loop.trips) : Fin 2 → Nat :=
  let c0_i32_1 : BitVec 32 := 0#32
  let c1_i32_3 : BitVec 32 := 1#32
  let arg18 : BitVec 32 := Scf.iv c0_i32_1 c1_i32_3 k0_t2
  let c128_i32_29 : BitVec 32 := 128#32
  let v36 : BitVec 32 := Scalar.muli arg18 c128_i32_29
  let v37 : BitVec 32 := v36
  let c127_i32_794 : BitVec 32 := 127#32
  let v2736 : BitVec 32 := Scalar.addi v37 c127_i32_794
  let v2737 : Index := Scalar.indexCast v2736
  let c0_795 : Index := 0#32
  ![v2737.toNat, 0]
def k0_off388 (k0_t2 : Fin k0_t2_loop.trips) : Fin 3 → Nat :=
  let c0_i32_1 : BitVec 32 := 0#32
  let c1_i32_3 : BitVec 32 := 1#32
  let arg18 : BitVec 32 := Scf.iv c0_i32_1 c1_i32_3 k0_t2
  let v2745 : Index := Scalar.indexCast arg18
  let c0_796 : Index := 0#32
  let c0_797 : Index := 0#32
  ![v2745.toNat, 0, 0]
def cc0_transform_0 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c0_i32_5 : BitVec 32 := 0#32
  let v18 : BitVec 32 := Scalar.addi v17 c0_i32_5
  let c0_i32_6 : BitVec 32 := 0#32
  ![v18.toNat]

def cc0_transform_1 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c1_i32_5 : BitVec 32 := 1#32
  let v18 : BitVec 32 := Scalar.addi v17 c1_i32_5
  let c0_i32_6 : BitVec 32 := 0#32
  ![v18.toNat]

def cc0_transform_2 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c2_i32 : BitVec 32 := 2#32
  let v18 : BitVec 32 := Scalar.addi v17 c2_i32
  let c0_i32_5 : BitVec 32 := 0#32
  ![v18.toNat]

def cc0_transform_3 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c3_i32 : BitVec 32 := 3#32
  let v18 : BitVec 32 := Scalar.addi v17 c3_i32
  let c0_i32_5 : BitVec 32 := 0#32
  ![v18.toNat]

def cc0_transform_4 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c4_i32 : BitVec 32 := 4#32
  let v18 : BitVec 32 := Scalar.addi v17 c4_i32
  let c0_i32_5 : BitVec 32 := 0#32
  ![v18.toNat]

def cc0_transform_5 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c5_i32 : BitVec 32 := 5#32
  let v18 : BitVec 32 := Scalar.addi v17 c5_i32
  let c0_i32_5 : BitVec 32 := 0#32
  ![v18.toNat]

def cc0_transform_6 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c6_i32 : BitVec 32 := 6#32
  let v18 : BitVec 32 := Scalar.addi v17 c6_i32
  let c0_i32_5 : BitVec 32 := 0#32
  ![v18.toNat]

def cc0_transform_7 (i : grid0.Coords) : Fin 1 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c7_i32 : BitVec 32 := 7#32
  let v18 : BitVec 32 := Scalar.addi v17 c7_i32
  let c0_i32_5 : BitVec 32 := 0#32
  ![v18.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4224_i32 : BitVec 32 := 4224#32
  let v17 : BitVec 32 := Scalar.muli v16 c4224_i32
  let c16_i32 : BitVec 32 := 16#32
  let v18 : BitVec 32 := Scalar.addi v17 c16_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .smem S2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .smem S2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S65536x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32768x8x16 : Shape := ⟨3, ![32768, 8, 16]⟩
abbrev S33792x1024 : Shape := ⟨2, ![33792, 1024]⟩
abbrev S1024 : Shape := ⟨1, ![1024]⟩
abbrev S16384x1024 : Shape := ⟨2, ![16384, 1024]⟩
abbrev S_ : Shape := ⟨0, ![]⟩
abbrev S8x4224x1024 : Shape := ⟨3, ![8, 4224, 1024]⟩
abbrev S8x4096x1024 : Shape := ⟨3, ![8, 4096, 1024]⟩
abbrev S32768x1024 : Shape := ⟨2, ![32768, 1024]⟩
abbrev S32768x8x16x1 : Shape := ⟨4, ![32768, 8, 16, 1]⟩
abbrev S32768x8x16x1024 : Shape := ⟨4, ![32768, 8, 16, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x8x16, .i32⟩
  | .hbm, ⟨1, _⟩ => ⟨S32768x8x16, .f32⟩
  | .hbm, ⟨2, _⟩ => ⟨S33792x1024, .f32⟩
  | .hbm, ⟨3, _⟩ => ⟨S1024, .f32⟩
  | .hbm, ⟨4, _⟩ => ⟨S16384x1024, .i32⟩
  | .hbm, ⟨5, _⟩ => ⟨S_, .i32⟩
  | .hbm, ⟨6, _⟩ => ⟨S16384x1024, .i32⟩
  | .hbm, ⟨7, _⟩ => ⟨S16384x1024, .i32⟩
  | .hbm, ⟨8, _⟩ => ⟨S16384x1024, .f32⟩
  | .hbm, ⟨9, _⟩ => ⟨S8x4224x1024, .f32⟩
  | .hbm, ⟨10, _⟩ => ⟨S8x4096x1024, .f32⟩
  | .hbm, ⟨11, _⟩ => ⟨S32768x1024, .f32⟩
  | .hbm, ⟨12, _⟩ => ⟨S_, .i32⟩
  | .hbm, ⟨13, _⟩ => ⟨S32768x8x16, .i32⟩
  | .hbm, ⟨14, _⟩ => ⟨S32768x8x16, .i1⟩
  | .hbm, ⟨15, _⟩ => ⟨S_, .i32⟩
  | .hbm, ⟨16, _⟩ => ⟨S32768x8x16, .i32⟩
  | .hbm, ⟨17, _⟩ => ⟨S32768x8x16, .i32⟩
  | .hbm, ⟨18, _⟩ => ⟨S32768x8x16, .i32⟩
  | .hbm, ⟨19, _⟩ => ⟨S32768x8x16x1, .i32⟩
  | .hbm, ⟨20, _⟩ => ⟨S32768x8x16x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | _, _ => ⟨S32768x8x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel2.lean ====
abbrev S33792x512 : Shape := ⟨2, ![33792, 512]⟩
abbrev S33792x1024 : Shape := ⟨2, ![33792, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S33792x8x128 : Shape := ⟨3, ![33792, 8, 128]⟩
abbrev S16x33792x128 : Shape := ⟨3, ![16, 33792, 128]⟩
abbrev S512x512 : Shape := ⟨2, ![512, 512]⟩
abbrev S512x1024 : Shape := ⟨2, ![512, 1024]⟩
abbrev S512x8x128 : Shape := ⟨3, ![512, 8, 128]⟩
abbrev S16x512x128 : Shape := ⟨3, ![16, 512, 128]⟩
abbrev S512 : Shape := ⟨1, ![512]⟩
abbrev S512x1 : Shape := ⟨2, ![512, 1]⟩
abbrev S512x128 : Shape := ⟨2, ![512, 128]⟩
abbrev S512x1x128 : Shape := ⟨3, ![512, 1, 128]⟩
abbrev S512x2048 : Shape := ⟨2, ![512, 2048]⟩
abbrev S1x512x128 : Shape := ⟨3, ![1, 512, 128]⟩

abbrev nBuf : Space → Nat
  | .hbm => 12
  | .vmem => 15
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S33792x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S1024x1024, .bf16⟩
  | .hbm, ⟨7, _⟩ => ⟨S1x1024, .f32⟩
  | .hbm, ⟨8, _⟩ => ⟨S1024x2048, .bf16⟩
  | .hbm, ⟨9, _⟩ => ⟨S33792x1024, .f32⟩
  | .hbm, ⟨10, _⟩ => ⟨S33792x8x128, .f32⟩
  | .hbm, ⟨11, _⟩ => ⟨S16x33792x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x8x128, .f32⟩
  | .local _ .vmem, ⟨12, _⟩ => ⟨S512x8x128, .f32⟩
  | .local _ .vmem, ⟨13, _⟩ => ⟨S16x512x128, .bf16⟩
  | .local _ .vmem, ⟨14, _⟩ => ⟨S16x512x128, .bf16⟩
  | _, _ => ⟨S33792x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S33792x512 : Shape := ⟨2, ![33792, 512]⟩
abbrev S33792x1024 : Shape := ⟨2, ![33792, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x2048 : Shape := ⟨2, ![33792, 2048]⟩
abbrev S33792x16x128 : Shape := ⟨3, ![33792, 16, 128]⟩
abbrev S16x33792x128 : Shape := ⟨3, ![16, 33792, 128]⟩
abbrev S33792x8x128 : Shape := ⟨3, ![33792, 8, 128]⟩

abbrev nBuf : Space → Nat
  | .hbm => 31
  | .vmem => 0
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S33792x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S33792x1024, .bf16⟩
  | .hbm, ⟨7, _⟩ => ⟨S33792x1024, .f32⟩
  | .hbm, ⟨8, _⟩ => ⟨S33792x1024, .f32⟩
  | .hbm, ⟨9, _⟩ => ⟨S33792x1024, .f32⟩
  | .hbm, ⟨10, _⟩ => ⟨S33792x1024, .f32⟩
  | .hbm, ⟨11, _⟩ => ⟨S_, .f32⟩
  | .hbm, ⟨12, _⟩ => ⟨S33792, .f32⟩
  | .hbm, ⟨13, _⟩ => ⟨S33792x1, .f32⟩
  | .hbm, ⟨14, _⟩ => ⟨S_, .f32⟩
  | .hbm, ⟨15, _⟩ => ⟨S33792x1, .f32⟩
  | .hbm, ⟨16, _⟩ => ⟨S33792x1, .f32⟩
  | .hbm, ⟨17, _⟩ => ⟨S_, .f32⟩
  | .hbm, ⟨18, _⟩ => ⟨S33792x1, .f32⟩
  | .hbm, ⟨19, _⟩ => ⟨S33792x1, .f32⟩
  | .hbm, ⟨20, _⟩ => ⟨S33792x1, .f32⟩
  | .hbm, ⟨21, _⟩ => ⟨S33792x1024, .f32⟩
  | .hbm, ⟨22, _⟩ => ⟨S33792x1024, .f32⟩
  | .hbm, ⟨23, _⟩ => ⟨S1x1024, .f32⟩
  | .hbm, ⟨24, _⟩ => ⟨S33792x1024, .f32⟩
  | .hbm, ⟨25, _⟩ => ⟨S33792x1024, .f32⟩
  | .hbm, ⟨26, _⟩ => ⟨S33792x2048, .f32⟩
  | .hbm, ⟨27, _⟩ => ⟨S33792x16x128, .f32⟩
  | .hbm, ⟨28, _⟩ => ⟨S16x33792x128, .f32⟩
  | .hbm, ⟨29, _⟩ => ⟨S33792x8x128, .f32⟩
  | .hbm, ⟨30, _⟩ => ⟨S16x33792x128, .bf16⟩
  | _, _ => ⟨S33792x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S33792x1024 : Shape := ⟨2, ![33792, 1024]⟩
abbrev S1024 : Shape := ⟨1, ![1024]⟩
abbrev S1024x2560 : Shape := ⟨2, ![1024, 2560]⟩
abbrev S1x1024 : Shape := ⟨2, ![1, 1024]⟩
abbrev S33792x512 : Shape := ⟨2, ![33792, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2560 : Shape := ⟨2, ![512, 2560]⟩

abbrev nBuf : Space → Nat
  | .hbm => 9
  | .vmem => 12
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S1024x2560, .bf16⟩
  | .hbm, ⟨5, _⟩ => ⟨S33792x512, .bf16⟩
  | .hbm, ⟨6, _⟩ => ⟨S33792x512, .bf16⟩
  | .hbm, ⟨7, _⟩ => ⟨S33792x512, .bf16⟩
  | .hbm, ⟨8, _⟩ => ⟨S33792x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
variable {F : FTy → Type} [FloatOps F] [Named F]
def κ : String → Option EReal := fun
  | "scale" => some (((8 * (Real.log 2))⁻¹ : ℝ) : EReal)
  | _ => none
-- ==== Reference3Ideal.lean ====
abbrev S33792x1024 : Shape := ⟨2, ![33792, 1024]⟩
abbrev S1024 : Shape := ⟨1, ![1024]⟩
abbrev S1024x2560 : Shape := ⟨2, ![1024, 2560]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x2560 : Shape := ⟨2, ![33792, 2560]⟩
abbrev S33792x512 : Shape := ⟨2, ![33792, 512]⟩

abbrev nBuf : Space → Nat
  | .hbm => 44
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x2560, .f32⟩
  | .hbm, ⟨3, _⟩ => ⟨S33792x1024, .f32⟩
  | .hbm, ⟨4, _⟩ => ⟨S_, .f32⟩
  | .hbm, ⟨5, _⟩ => ⟨S33792, .f32⟩
  | .hbm, ⟨6, _⟩ => ⟨S33792x1, .f32⟩
  | .hbm, ⟨7, _⟩ => ⟨S_, .f32⟩
  | .hbm, ⟨8, _⟩ => ⟨S33792x1, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S33792x1, .f32⟩
  | .hbm, ⟨14, _⟩ => ⟨S33792x1024, .f32⟩
  | .hbm, ⟨15, _⟩ => ⟨S33792x1024, .f32⟩
  | .hbm, ⟨16, _⟩ => ⟨S1x1024, .f32⟩
  | .hbm, ⟨17, _⟩ => ⟨S33792x1024, .f32⟩
  | .hbm, ⟨18, _⟩ => ⟨S33792x1024, .f32⟩
  | .hbm, ⟨19, _⟩ => ⟨S33792x2560, .f32⟩
  | .hbm, ⟨20, _⟩ => ⟨S33792x512, .f32⟩
  | .hbm, ⟨21, _⟩ => ⟨S33792x512, .f32⟩
  | .hbm, ⟨22, _⟩ => ⟨S33792x512, .f32⟩
  | .hbm, ⟨23, _⟩ => ⟨S33792x512, .f32⟩
  | .hbm, ⟨24, _⟩ => ⟨S33792x512, .f32⟩
  | .hbm, ⟨25, _⟩ => ⟨S_, .f32⟩
  | .hbm, ⟨26, _⟩ => ⟨S33792x512, .f32⟩
  | .hbm, ⟨27, _⟩ => ⟨S33792x512, .f32⟩
  | .hbm, ⟨28, _⟩ => ⟨S_, .f32⟩
  | .hbm, ⟨29, _⟩ => ⟨S_, .f32⟩
  | .hbm, ⟨30, _⟩ => ⟨S33792x512, .f32⟩
  | .hbm, ⟨31, _⟩ => ⟨S33792x512, .f32⟩
  | .hbm, ⟨32, _⟩ => ⟨S33792x512, .bf16⟩
  | .hbm, ⟨33, _⟩ => ⟨S33792x512, .bf16⟩
  | .hbm, ⟨34, _⟩ => ⟨S33792x512, .bf16⟩
  | .hbm, ⟨35, _⟩ => ⟨S33792x512, .f32⟩
  | .hbm, ⟨36, _⟩ => ⟨S33792x512, .f32⟩
  | .hbm, ⟨37, _⟩ => ⟨S_, .f32⟩
  | .hbm, ⟨38, _⟩ => ⟨S33792x512, .f32⟩
  | .hbm, ⟨39, _⟩ => ⟨S33792x512, .f32⟩
  | .hbm, ⟨40, _⟩ => ⟨S_, .f32⟩
  | .hbm, ⟨41, _⟩ => ⟨S33792x512, .f32⟩
  | .hbm, ⟨42, _⟩ => ⟨S33792x512, .f32⟩
  | .hbm, ⟨43, _⟩ => ⟨S33792x512, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel4.lean ====
abbrev S8x4224x512 : Shape := ⟨3, ![8, 4224, 512]⟩
abbrev S4 : Shape := ⟨1, ![4]⟩
abbrev S64 : Shape := ⟨1, ![64]⟩
abbrev S128 : Shape := ⟨1, ![128]⟩
abbrev S1x64 : Shape := ⟨2, ![1, 64]⟩
abbrev S1x128 : Shape := ⟨2, ![1, 128]⟩
abbrev S1x384x128 : Shape := ⟨3, ![1, 384, 128]⟩
abbrev S1x4224x128 : Shape := ⟨3, ![1, 4224, 128]⟩
abbrev S1 : Shape := ⟨1, ![1]⟩
abbrev S1x1x64 : Shape := ⟨3, ![1, 1, 64]⟩
abbrev S1x1x1 : Shape := ⟨3, ![1, 1, 1]⟩
abbrev S1x1 : Shape := ⟨2, ![1, 1]⟩
abbrev S384x128 : Shape := ⟨2, ![384, 128]⟩
abbrev S768x128 : Shape := ⟨2, ![768, 128]⟩
abbrev S1x384 : Shape := ⟨2, ![1, 384]⟩
abbrev S768x1 : Shape := ⟨2, ![768, 1]⟩
abbrev S768x384 : Shape := ⟨2, ![768, 384]⟩
abbrev S768 : Shape := ⟨1, ![768]⟩
abbrev S384 : Shape := ⟨1, ![384]⟩
abbrev S384x1 : Shape := ⟨2, ![384, 1]⟩

abbrev nBuf : Space → Nat
  | .hbm => 15
  | .vmem => 13
  | .smem => 1
  | _ => 0

abbrev bufTy : (tb : Table) → Fin (tcTables nBuf tb) → BufTy
  | .hbm, ⟨0, _⟩ => ⟨S8x4224x512, .bf16⟩
  | .hbm, ⟨1, _⟩ => ⟨S8x4224x512, .bf16⟩
  | .hbm, ⟨2, _⟩ => ⟨S8x4224x512, .bf16⟩
  | .hbm, ⟨3, _⟩ => ⟨S4, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x128, .f32⟩
  | .hbm, ⟨14, _⟩ => ⟨S8x4224x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x384x128, .bf16⟩
  | .local _ .vmem, ⟨6, _⟩ => ⟨S1x384x128, .bf16⟩
  | .local _ .vmem, ⟨7, _⟩ => ⟨S1x4224x128, .bf16⟩
  | .local _ .vmem, ⟨8, _⟩ => ⟨S1x4224x128, .bf16⟩
  | .local _ .vmem, ⟨9, _⟩ => ⟨S1x4224x128, .bf16⟩
  | .local _ .vmem, ⟨10, _⟩ => ⟨S1x4224x128, .bf16⟩
  | .local _ .vmem, ⟨11, _⟩ => ⟨S1x384x128, .bf16⟩
  | .local _ .vmem, ⟨12, _⟩ => ⟨S1x384x128, .bf16⟩
  | .local _ .smem, ⟨0, _⟩ => ⟨S4, .f32⟩
  | _, _ => ⟨S8x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![8, 4, 11], ![false, false, false]⟩

def k0_off1 (i : grid0.Coords) : Fin 1 → Nat :=
  let arg1 : BitVec 32 := BitVec.ofNat 32 (i 1).val
  let v0 : Index := Scalar.indexCast arg1
  ![v0.toNat]
@[reducible] def k0_t1_loop (i : grid0.Coords) : Scf.Loop 32 :=
  let c0_i32 : BitVec 32 := 0#32
  let arg2 : BitVec 32 := BitVec.ofNat 32 (i 2).val
  let v43 : BitVec 32 := Scalar.subi arg2 c0_i32
  let c1_i32 : BitVec 32 := 1#32
  let v45 : BitVec 32 := Scalar.divsi v43 c1_i32
  let v46 : BitVec 32 := Scalar.muli v45 c1_i32
  let v47 : BitVec 32 := Scalar.addi c0_i32 v46
  let c1_i32_17 : BitVec 32 := 1#32
  ⟨c0_i32, v47, c1_i32_17⟩
def k0_mult1 (i : grid0.Coords) (k0_t1 : Fin (k0_t1_loop i).trips) : BitVec 32 :=
  let c0_i32 : BitVec 32 := 0#32
  let c1_i32_17 : BitVec 32 := 1#32
  let arg13 : BitVec 32 := Scf.iv c0_i32 c1_i32_17 k0_t1
  let c384_i32_41 : BitVec 32 := 384#32
  let v122 : BitVec 32 := Scalar.muli arg13 c384_i32_41
  v122
def k0_off2 (i : grid0.Coords) (k0_t1 : Fin (k0_t1_loop i).trips) : Fin 3 → Nat :=
  let c0_42 : Index := 0#32
  let c0_i32 : BitVec 32 := 0#32
  let c1_i32_17 : BitVec 32 := 1#32
  let arg13 : BitVec 32 := Scf.iv c0_i32 c1_i32_17 k0_t1
  let c384_i32_41 : BitVec 32 := 384#32
  let v122 : BitVec 32 := Scalar.muli arg13 c384_i32_41
  let v123 : BitVec 32 := v122
  let v124 : Index := Scalar.indexCast v123
  let c0_43 : Index := 0#32
  ![0, v124.toNat, 0]
@[reducible] def k0_t2_loop (i : grid0.Coords) : Scf.Loop 32 :=
  let c0_i32 : BitVec 32 := 0#32
  let arg2 : BitVec 32 := BitVec.ofNat 32 (i 2).val
  let v43 : BitVec 32 := Scalar.subi arg2 c0_i32
  let c1_i32 : BitVec 32 := 1#32
  let v45 : BitVec 32 := Scalar.divsi v43 c1_i32
  let v46 : BitVec 32 := Scalar.muli v45 c1_i32
  let v47 : BitVec 32 := Scalar.addi c0_i32 v46
  let v44 : BitVec 32 := Scalar.addi c0_i32 v43
  let c1_i32_18 : BitVec 32 := 1#32
  ⟨v47, v44, c1_i32_18⟩
def k0_mult2 (i : grid0.Coords) (k0_t2 : Fin (k0_t2_loop i).trips) : BitVec 32 :=
  let c0_i32 : BitVec 32 := 0#32
  let arg2 : BitVec 32 := BitVec.ofNat 32 (i 2).val
  let v43 : BitVec 32 := Scalar.subi arg2 c0_i32
  let c1_i32 : BitVec 32 := 1#32
  let v45 : BitVec 32 := Scalar.divsi v43 c1_i32
  let v46 : BitVec 32 := Scalar.muli v45 c1_i32
  let v47 : BitVec 32 := Scalar.addi c0_i32 v46
  let c1_i32_18 : BitVec 32 := 1#32
  let arg13 : BitVec 32 := Scf.iv v47 c1_i32_18 k0_t2
  let c384_i32_41 : BitVec 32 := 384#32
  let v122 : BitVec 32 := Scalar.muli arg13 c384_i32_41
  v122
def k0_off3 (i : grid0.Coords) (k0_t2 : Fin (k0_t2_loop i).trips) : Fin 3 → Nat :=
  let c0_42 : Index := 0#32
  let c0_i32 : BitVec 32 := 0#32
  let arg2 : BitVec 32 := BitVec.ofNat 32 (i 2).val
  let v43 : BitVec 32 := Scalar.subi arg2 c0_i32
  let c1_i32 : BitVec 32 := 1#32
  let v45 : BitVec 32 := Scalar.divsi v43 c1_i32
  let v46 : BitVec 32 := Scalar.muli v45 c1_i32
  let v47 : BitVec 32 := Scalar.addi c0_i32 v46
  let c1_i32_18 : BitVec 32 := 1#32
  let arg13 : BitVec 32 := Scf.iv v47 c1_i32_18 k0_t2
  let c384_i32_41 : BitVec 32 := 384#32
  let v122 : BitVec 32 := Scalar.muli arg13 c384_i32_41
  let v123 : BitVec 32 := v122
  let v124 : Index := Scalar.indexCast v123
  let c0_43 : Index := 0#32
  ![0, v124.toNat, 0]
def k0_mult3 (i : grid0.Coords) : BitVec 32 :=
  let arg2 : BitVec 32 := BitVec.ofNat 32 (i 2).val
  let c384_i32_19 : BitVec 32 := 384#32
  let v50 : BitVec 32 := Scalar.muli arg2 c384_i32_19
  v50
def k0_off4 (i : grid0.Coords) : Fin 3 → Nat :=
  let c0_20 : Index := 0#32
  let arg2 : BitVec 32 := BitVec.ofNat 32 (i 2).val
  let c384_i32_19 : BitVec 32 := 384#32
  let v50 : BitVec 32 := Scalar.muli arg2 c384_i32_19
  let v51 : BitVec 32 := v50
  let v52 : Index := Scalar.indexCast v51
  let c0_21 : Index := 0#32
  ![0, v52.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4224x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4224x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel4Ideal.lean ====
variable {F : FTy → Type} [FloatOps F] [Named F]
def κ : String → Option EReal := fun
  | "log2e" => some (((Real.log 2)⁻¹ : ℝ) : EReal)
  | "mask" => some ⊥
  | _ => none
-- ==== Reference4Ideal.lean ====
abbrev S8x4224x512 : Shape := ⟨3, ![8, 4224, 512]⟩
abbrev S4 : Shape := ⟨1, ![4]⟩
abbrev S64 : Shape := ⟨1, ![64]⟩
abbrev S128 : Shape := ⟨1, ![128]⟩
abbrev S_ : Shape := ⟨0, ![]⟩
abbrev S8x4224x4x2x64 : Shape := ⟨5, ![8, 4224, 4, 2, 64]⟩
abbrev S8x4x2x4224x4224 : Shape := ⟨5, ![8, 4, 2, 4224, 4224]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S4x1x1 : Shape := ⟨3, ![4, 1, 1]⟩
abbrev S1x4224x4224 : Shape := ⟨3, ![1, 4224, 4224]⟩
abbrev S4x4224x4224 : Shape := ⟨3, ![4, 4224, 4224]⟩
abbrev S1x4x1x4224x4224 : Shape := ⟨5, ![1, 4, 1, 4224, 4224]⟩
abbrev S8x4x2x4224 : Shape := ⟨4, ![8, 4, 2, 4224]⟩
abbrev S8x4x2x4224x1 : Shape := ⟨5, ![8, 4, 2, 4224, 1]⟩
abbrev S8x4x1x4224x4224 : Shape := ⟨5, ![8, 4, 1, 4224, 4224]⟩
abbrev S8x4x4224x4224 : Shape := ⟨4, ![8, 4, 4224, 4224]⟩
abbrev S8x4224x4x128 : Shape := ⟨4, ![8, 4224, 4, 128]⟩
abbrev S8x4x128x4224 : Shape := ⟨4, ![8, 4, 128, 4224]⟩
abbrev S8x4224x4 : Shape := ⟨3, ![8, 4224, 4]⟩
abbrev S8x4224x4x1 : Shape := ⟨4, ![8, 4224, 4, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x4224x512, .bf16⟩
  | .hbm, ⟨1, _⟩ => ⟨S8x4224x512, .bf16⟩
  | .hbm, ⟨2, _⟩ => ⟨S8x4224x512, .bf16⟩
  | .hbm, ⟨3, _⟩ => ⟨S4, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x4224x4x2x64, .bf16⟩
  | .hbm, ⟨21, _⟩ => ⟨S8x4224x4x2x64, .f32⟩
  | .hbm, ⟨22, _⟩ => ⟨S_, .f32⟩
  | .hbm, ⟨23, _⟩ => ⟨S_, .f32⟩
  | .hbm, ⟨24, _⟩ => ⟨S8x4224x4x2x64, .f32⟩
  | .hbm, ⟨25, _⟩ => ⟨S8x4224x4x2x64, .f32⟩
  | .hbm, ⟨26, _⟩ => ⟨S8x4224x4x2x64, .bf16⟩
  | .hbm, ⟨27, _⟩ => ⟨S8x4x2x4224x4224, .f32⟩
  | .hbm, ⟨28, _⟩ => ⟨S4224, .i32⟩
  | .hbm, ⟨29, _⟩ => ⟨S4224x1, .i32⟩
  | .hbm, ⟨30, _⟩ => ⟨S4224, .i32⟩
  | .hbm, ⟨31, _⟩ => ⟨S1x4224, .i32⟩
  | .hbm, ⟨32, _⟩ => ⟨S4224x4224, .i32⟩
  | .hbm, ⟨33, _⟩ => ⟨S4224x4224, .i32⟩
  | .hbm, ⟨34, _⟩ => ⟨S4224x4224, .i32⟩
  | .hbm, ⟨35, _⟩ => ⟨S4x1x1, .f32⟩
  | .hbm, ⟨36, _⟩ => ⟨S4x1x1, .f32⟩
  | .hbm, ⟨37, _⟩ => ⟨S1x4224x4224, .i32⟩
  | .hbm, ⟨38, _⟩ => ⟨S1x4224x4224, .f32⟩
  | .hbm, ⟨39, _⟩ => ⟨S4x4224x4224, .f32⟩
  | .hbm, ⟨40, _⟩ => ⟨S4x4224x4224, .f32⟩
  | .hbm, ⟨41, _⟩ => ⟨S4x4224x4224, .f32⟩
  | .hbm, ⟨42, _⟩ => ⟨S_, .i32⟩
  | .hbm, ⟨43, _⟩ => ⟨S4224x4224, .i32⟩
  | .hbm, ⟨44, _⟩ => ⟨S4224x4224, .i1⟩
  | .hbm, ⟨45, _⟩ => ⟨S4x4224x4224, .i1⟩
  | .hbm, ⟨46, _⟩ => ⟨S_, .f32⟩
  | .hbm, ⟨47, _⟩ => ⟨S4x4224x4224, .f32⟩
  | .hbm, ⟨48, _⟩ => ⟨S4x4224x4224, .f32⟩
  | .hbm, ⟨49, _⟩ => ⟨S1x4x1x4224x4224, .f32⟩
  | .hbm, ⟨50, _⟩ => ⟨S8x4x2x4224x4224, .f32⟩
  | .hbm, ⟨51, _⟩ => ⟨S8x4x2x4224x4224, .f32⟩
  | .hbm, ⟨52, _⟩ => ⟨S8x4x2x4224x4224, .f32⟩
  | .hbm, ⟨53, _⟩ => ⟨S_, .f32⟩
  | .hbm, ⟨54, _⟩ => ⟨S8x4x2x4224, .f32⟩
  | .hbm, ⟨55, _⟩ => ⟨S8x4x2x4224x1, .f32⟩
  | .hbm, ⟨56, _⟩ => ⟨S8x4x2x4224x4224, .f32⟩
  | .hbm, ⟨57, _⟩ => ⟨S8x4x2x4224x4224, .f32⟩
  | .hbm, ⟨58, _⟩ => ⟨S8x4x1x4224x4224, .f32⟩
  | .hbm, ⟨59, _⟩ => ⟨S8x4x4224x4224, .f32⟩
  | .hbm, ⟨60, _⟩ => ⟨S8x4x1x4224x4224, .f32⟩
  | .hbm, ⟨61, _⟩ => ⟨S8x4x4224x4224, .f32⟩
  | .hbm, ⟨62, _⟩ => ⟨S8x4x4224x4224, .f32⟩
  | .hbm, ⟨63, _⟩ => ⟨S8x4x4224x4224, .f32⟩
  | .hbm, ⟨64, _⟩ => ⟨S8x4x4224x4224, .f32⟩
  | .hbm, ⟨65, _⟩ => ⟨S8x4224x4x128, .bf16⟩
  | .hbm, ⟨66, _⟩ => ⟨S8x4x128x4224, .f32⟩
  | .hbm, ⟨67, _⟩ => ⟨S8x4224x4x128, .f32⟩
  | .hbm, ⟨68, _⟩ => ⟨S8x4224x4x128, .f32⟩
  | .hbm, ⟨69, _⟩ => ⟨S_, .f32⟩
  | .hbm, ⟨70, _⟩ => ⟨S8x4224x4, .f32⟩
  | .hbm, ⟨71, _⟩ => ⟨S8x4224x4x1, .f32⟩
  | .hbm, ⟨72, _⟩ => ⟨S_, .f32⟩
  | .hbm, ⟨73, _⟩ => ⟨S8x4224x4x1, .f32⟩
  | .hbm, ⟨74, _⟩ => ⟨S8x4224x4x1, .f32⟩
  | .hbm, ⟨75, _⟩ => ⟨S_, .f32⟩
  | .hbm, ⟨76, _⟩ => ⟨S8x4224x4x1, .f32⟩
  | .hbm, ⟨77, _⟩ => ⟨S8x4224x4x1, .f32⟩
  | .hbm, ⟨78, _⟩ => ⟨S8x4224x4x1, .f32⟩
  | .hbm, ⟨79, _⟩ => ⟨S8x4224x4x128, .f32⟩
  | .hbm, ⟨80, _⟩ => ⟨S8x4224x4x128, .f32⟩
  | .hbm, ⟨81, _⟩ => ⟨S1x1x1x128, .f32⟩
  | .hbm, ⟨82, _⟩ => ⟨S8x4224x4x128, .f32⟩
  | .hbm, ⟨83, _⟩ => ⟨S8x4224x4x128, .f32⟩
  | .hbm, ⟨84, _⟩ => ⟨S_, .f32⟩
  | .hbm, ⟨85, _⟩ => ⟨S8x4224x4x128, .f32⟩
  | .hbm, ⟨86, _⟩ => ⟨S8x4224x4x128, .f32⟩
  | .hbm, ⟨87, _⟩ => ⟨S8x4224x512, .f32⟩
  | .hbm, ⟨88, _⟩ => ⟨S8x4224x512, .bf16⟩
  | _, _ => ⟨S8x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Proof.Trip.lean ====
module

public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One trip of the loop over tokens: 128 gathered rows, each times its weight, added up -/

/-- The word of scalar memory that a trip reads for a pair: the trip's number plus the pair's place in its stream. -/
def wordOff (i : grid0.Coords) (k : Fin k0_t2_loop.trips) (w : BitVec 32) : Fin 1 → ℕ :=
  let arg0 : BitVec 32 := BitVec.ofNat 32 (i 0).val
  let arg18 : BitVec 32 := Scf.iv 0#32 1#32 k
  let v39 : BitVec 32 := Scalar.select (Scalar.cmpi .eq 1#32 0#32) 1#32 1#32
  let v40 : BitVec 32 := Scalar.remsi arg0 v39
  let v45 : BitVec 1 := Scalar.andi (Scalar.xori (Scalar.cmpi .slt v40 0#32) (Scalar.cmpi .slt v39 0#32)) (Scalar.cmpi .ne v40 0#32)
  let v47 : BitVec 32 := Scalar.select v45 (Scalar.addi v40 v39) v40
  ![(Scalar.indexCast (Scalar.addi (Scalar.addi (Scalar.muli v47 128#32) arg18) w)).toNat]

/-- The row of the two repeated tables that belongs to pair `r` of the trip's token. -/
def rowOff (k : Fin k0_t2_loop.trips) (r : BitVec 32) : Fin 2 → ℕ :=
  ![(Scalar.indexCast (Scalar.addi (Scalar.muli (Scf.iv 0#32 1#32 k) 128#32) r)).toNat, 0]

theorem trips_lt (k : Fin k0_t2_loop.trips) : k.val < 128 := Nat.lt_of_lt_of_le k.isLt k0_t2_abs.2.1

theorem iv_eq (k : Fin k0_t2_loop.trips) : (Scf.iv 0#32 1#32 k : BitVec 32) = BitVec.ofNat 32 k.val := by
  simp [Scf.iv]

theorem rowOff_eq (k : Fin k0_t2_loop.trips) (r : ℕ) (hr : r < 128) :
    rowOff k (BitVec.ofNat 32 r) = ![128 * k.val + r, 0] := by
  have hk := trips_lt k
  have e : (BitVec.ofNat 32 k.val * 128#32 + BitVec.ofNat 32 r).toNat = 128 * k.val + r := by
    simp only [BitVec.toNat_add, BitVec.toNat_mul, BitVec.toNat_ofNat]
    omega
  simp only [rowOff, iv_eq]
  exact congrArg (fun n => ![n, 0]) e

theorem rem_one (n : Fin 256) : Scalar.remsi (BitVec.ofNat 32 n.val) 1#32 = 0#32 := by
  revert n; decide

theorem wordOff_eq (i : grid0.Coords) (k : Fin k0_t2_loop.trips) (w : ℕ) (hw : w < 1921) :
    wordOff i k (BitVec.ofNat 32 w) = ![w + k.val] := by
  have hk := trips_lt k
  have hi : (i 0).val < 256 := (i 0).isLt
  have e : (0#32 * 128#32 + BitVec.ofNat 32 k.val + BitVec.ofNat 32 w).toNat = w + k.val := by
    simp only [BitVec.toNat_add, BitVec.toNat_mul, BitVec.toNat_ofNat]
    omega
  have h1 : (Scalar.select (Scalar.cmpi .eq 1#32 0#32) 1#32 1#32 : BitVec 32) = 1#32 := by decide
  have h2 := rem_one ⟨(i 0).val, hi⟩
  have h3 : (Scalar.select (Scalar.andi (Scalar.xori (Scalar.cmpi .slt 0#32 0#32) (Scalar.cmpi .slt 1#32 0#32)) (Scalar.cmpi .ne 0#32 0#32)) (Scalar.addi 0#32 1#32) 0#32 : BitVec 32) = 0#32 := by decide
  simp only [wordOff, iv_eq, h1]
  simp only [] at h2
  rw [h2, h3]
  exact congrArg (fun n => ![n]) e

theorem rowOff_inb (k : Fin k0_t2_loop.trips) (j : Fin 128) :
    ∀ a, (rowOff k (BitVec.ofNat 32 j.val)) a + S1x128.size a ≤ S16384x128.size a := by
  have hk := trips_lt k
  have hj := j.isLt
  rw [rowOff_eq k j.val j.isLt]
  intro a
  fin_cases a
  · show 128 * k.val + j.val + 1 ≤ 16384
    omega
  · show 0 + 128 ≤ 128
    omega

theorem wordOff_inb (i : grid0.Coords) (k : Fin k0_t2_loop.trips) (g : Fin 16) :
    ∀ a, (wordOff i k (BitVec.ofNat 32 (128 * g.val))) a + S1.size a ≤ S2048.size a := by
  have hk := trips_lt k
  have hg := g.isLt
  rw [wordOff_eq i k (128 * g.val) (by omega)]
  intro a
  fin_cases a
  show 128 * g.val + k.val + 1 ≤ 2048
  omega

/-- A word naming the first of eight consecutive rows of the packed table: a multiple of eight inside it. -/
def Good (v : BitVec 32) : Prop := 8 ∣ v.toNat ∧ v.toNat + 8 ≤ 65536

theorem Good.chk {v : BitVec 32} (h : Good v) :
    (8 ∣ v.toNat) ∧ (∀ a, (![v.toNat, 0] : Fin 2 → ℕ) a + S8x128.size a ≤ S65536x128.size a) := by
  refine ⟨h.1, fun a => ?_⟩
  fin_cases a
  · exact h.2
  · show 0 + 128 ≤ 128
    omega

/-! ### What a trip reads and leaves, as a function of the buffers -/

variable (arg1 : Memref sig .tc .smem S2048 .i32) (harg1 : arg1.IsWhole)
  (arg2 : Memref sig .tc .smem S2048 .i32) (harg2 : arg2.IsWhole)
  (arg3 : Memref sig .tc .smem S2048 .i32) (harg3 : arg3.IsWhole)
  (arg4 : Memref sig .tc .smem S2048 .i32) (harg4 : arg4.IsWhole)
  (arg5 : Memref sig .tc .smem S2048 .i32) (harg5 : arg5.IsWhole)
  (arg6 : Memref sig .tc .smem S2048 .i32) (harg6 : arg6.IsWhole)
  (arg7 : Memref sig .tc .smem S2048 .i32) (harg7 : arg7.IsWhole)
  (arg8 : Memref sig .tc .smem S2048 .i32) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S65536x128 .i32) (harg13 : arg13.IsWhole)
  (arg14 : Memref sig .tc .vmem S128x1024 .f32) (harg14 : arg14.IsWhole)
  (arg15 : Memref sig .tc .vmem S16384x128 .i32) (harg15 : arg15.IsWhole)
  (arg16 : Memref sig .tc .vmem S16384x128 .f32) (harg16 : arg16.IsWhole)
  (arg17 : Memref sig .tc .vmem S128x8x128 .f32) (harg17 : arg17.IsWhole)

/-- Every word of a stream's buffer names the first of eight consecutive rows of the packed table. -/
structure GoodBuf (m : Memref sig .tc .smem S2048 .i32) (X : BufTy.Contents (Elt F) m.view.ty) : Prop where
  get : ∀ o ho, Good (View.readAt (Elt F) m.view (Rect.unit (s := S2048) o S1.size ho).toLoadRect X (Shape.Idx.first (numel1_S1.symm ▸ Nat.one_pos)))

/-- The word of scalar memory at an offset in stream `s`. -/
def word (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (s : Fin 8) (o : Fin 1 → ℕ) (ho : ∀ a, o a + S1.size a ≤ S2048.size a) : BitVec 32 :=
  match s with
  | 0 => View.readAt (Elt F) arg1.view (Rect.unit (s := S2048) o S1.size ho).toLoadRect X1 (Shape.Idx.first (numel1_S1.symm ▸ Nat.one_pos))
  | 1 => View.readAt (Elt F) arg2.view (Rect.unit (s := S2048) o S1.size ho).toLoadRect X2 (Shape.Idx.first (numel1_S1.symm ▸ Nat.one_pos))
  | 2 => View.readAt (Elt F) arg3.view (Rect.unit (s := S2048) o S1.size ho).toLoadRect X3 (Shape.Idx.first (numel1_S1.symm ▸ Nat.one_pos))
  | 3 => View.readAt (Elt F) arg4.view (Rect.unit (s := S2048) o S1.size ho).toLoadRect X4 (Shape.Idx.first (numel1_S1.symm ▸ Nat.one_pos))
  | 4 => View.readAt (Elt F) arg5.view (Rect.unit (s := S2048) o S1.size ho).toLoadRect X5 (Shape.Idx.first (numel1_S1.symm ▸ Nat.one_pos))
  | 5 => View.readAt (Elt F) arg6.view (Rect.unit (s := S2048) o S1.size ho).toLoadRect X6 (Shape.Idx.first (numel1_S1.symm ▸ Nat.one_pos))
  | 6 => View.readAt (Elt F) arg7.view (Rect.unit (s := S2048) o S1.size ho).toLoadRect X7 (Shape.Idx.first (numel1_S1.symm ▸ Nat.one_pos))
  | 7 => View.readAt (Elt F) arg8.view (Rect.unit (s := S2048) o S1.size ho).toLoadRect X8 (Shape.Idx.first (numel1_S1.symm ▸ Nat.one_pos))

/-- One pair's contribution: the weights' row times the row of the table that the word names, its half chosen by the shifts' row. -/
def pair (k : Fin k0_t2_loop.trips) (X13 : BufTy.Contents (Elt F) arg13.view.ty) (X15 : BufTy.Contents (Elt F) arg15.view.ty) (X16 : BufTy.Contents (Elt F) arg16.view.ty)
    (j : Fin 128) (v : BitVec 32) (hv : Good v) : FVec F S8x128 .f32 :=
  mulf (broadcastTo S8x128 (View.readAt (Elt F) arg16.view (Rect.unit (s := S16384x128) (rowOff k (BitVec.ofNat 32 j.val)) S1x128.size (rowOff_inb k j)).toLoadRect X16) broadcasts_S1x128_S8x128)
    (bitcastToFloat .f32 (andi (shli
      (shapeCast S8x128 (View.readAt (Elt F) arg13.view (Rect.unit (s := S65536x128) ![v.toNat, 0] S8x128.size hv.chk.2).toLoadRect X13) shapeCasts_S8x128_S8x128)
      (broadcastTo S8x128 (View.readAt (Elt F) arg15.view (Rect.unit (s := S16384x128) (rowOff k (BitVec.ofNat 32 j.val)) S1x128.size (rowOff_inb k j)).toLoadRect X15) broadcasts_S1x128_S8x128))
      (broadcast S8x128 4294901760#32)))

/-- The first `n` terms `4 t + r` of a family of 128, added up from zero in order. -/
def chain (p : Fin 128 → FVec F S8x128 .f32) (r : ℕ) : ℕ → FVec F S8x128 .f32
  | 0 => broadcast S8x128 (Scalar.ofBits .f32 0x00000000#32)
  | n + 1 => addf (chain p r n) (p (Fin.ofNat 128 (4 * n + r)))

/-- The four chains of 32 terms, added up. -/
def fourChains (p : Fin 128 → FVec F S8x128 .f32) : FVec F S8x128 .f32 :=
  addf (addf (chain p 0 32) (chain p 1 32)) (addf (chain p 2 32) (chain p 3 32))

/-- One trip's resources. -/
abbrev Trip (c : Dev nD) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X13 : BufTy.Contents (Elt F) arg13.view.ty) (X15 : BufTy.Contents (Elt F) arg15.view.ty) (X16 : BufTy.Contents (Elt F) arg16.view.ty) (f : BufTy.Contents (Elt F) arg17.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} f))

/-- What trip `k` leaves in its token's eight rows. -/
def tripVal (i : grid0.Coords) (k : Fin k0_t2_loop.trips) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X13 : BufTy.Contents (Elt F) arg13.view.ty) (X15 : BufTy.Contents (Elt F) arg15.view.ty) (X16 : BufTy.Contents (Elt F) arg16.view.ty)
    (hg : ∀ s o ho, Good (word arg1 arg2 arg3 arg4 arg5 arg6 arg7 arg8 X1 X2 X3 X4 X5 X6 X7 X8 s o ho)) : FVec F S1x8x128 .f32 :=
  shapeCast S1x8x128 (fourChains fun j => pair arg13 arg15 arg16 k X13 X15 X16 j _ (hg (Fin.ofNat 8 j.val) _ (wordOff_inb i k (Fin.ofNat 16 (j.val / 8))))) shapeCasts_S8x128_S1x8x128

set_option maxHeartbeats 4000000 in
/-- One trip of the loop over tokens: the trip's rows of the accumulator's buffer are written, nothing else changes. -/
theorem trip (c : Dev nD) (i : grid0.Coords) (k : Fin k0_t2_loop.trips) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X13 : BufTy.Contents (Elt F) arg13.view.ty) (X15 : BufTy.Contents (Elt F) arg15.view.ty) (X16 : BufTy.Contents (Elt F) arg16.view.ty)
    (hg : ∀ s o ho, Good (word arg1 arg2 arg3 arg4 arg5 arg6 arg7 arg8 X1 X2 X3 X4 X5 X6 X7 X8 s o ho)) (E : Set ℕ) (f : BufTy.Contents (Elt F) arg17.view.ty) :
    Trip arg1 arg2 arg3 arg4 arg5 arg6 arg7 arg8 arg13 arg15 arg16 arg17 c X1 X2 X3 X4 X5 X6 X7 X8 X13 X15 X16 f ⊢ wp frame (wpE (defs₀ (F := F)) Variants.none (c : Thread nD τ) none) E
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) k PUnit.unit)
      (fun _ => Trip arg1 arg2 arg3 arg4 arg5 arg6 arg7 arg8 arg13 arg15 arg16 arg17 c X1 X2 X3 X4 X5 X6 X7 X8 X13 X15 X16 (arg17.view.writes (Elt F) f [⟨Rect.unit (s := S128x8x128) (k0_off388 k) S1x8x128.size (k0_off388_inb k), tripVal arg1 arg2 arg3 arg4 arg5 arg6 arg7 arg8 arg13 arg15 arg16 i k X1 X2 X3 X4 X5 X6 X7 X8 X13 X15 X16 hg⟩])) := by
  unfold k0_t2_body
  iintro ⟨H1, H2, H3, H4, H5, H6, H7, H8, H13, H15, H16, H17⟩

  have G1 := GoodBuf.mk (m := arg1) (X := X1) (hg 0)
  have G2 := GoodBuf.mk (m := arg2) (X := X2) (hg 1)
  have G3 := GoodBuf.mk (m := arg3) (X := X3) (hg 2)
  have G4 := GoodBuf.mk (m := arg4) (X := X4) (hg 3)
  have G5 := GoodBuf.mk (m := arg5) (X := X5) (hg 4)
  have G6 := GoodBuf.mk (m := arg6) (X := X6) (hg 5)
  have G7 := GoodBuf.mk (m := arg7) (X := X7) (hg 6)
  have G8 := GoodBuf.mk (m := arg8) (X := X8) (hg 7)
  sl_exec_parts (disch := refine (GoodBuf.get ?_ _ _).chk; assumption)
  sl_step
  unfold Trip
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H15]; · iexact H15
  isplitl [H16]; · iexact H16
  iexact H17

end Cert.KernelIdeal.Hand

end
-- ==== Proof.Loop.lean ====
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (arg1 : Memref sig .tc .smem S2048 .i32) (harg1 : arg1.IsWhole)
  (arg2 : Memref sig .tc .smem S2048 .i32) (harg2 : arg2.IsWhole)
  (arg3 : Memref sig .tc .smem S2048 .i32) (harg3 : arg3.IsWhole)
  (arg4 : Memref sig .tc .smem S2048 .i32) (harg4 : arg4.IsWhole)
  (arg5 : Memref sig .tc .smem S2048 .i32) (harg5 : arg5.IsWhole)
  (arg6 : Memref sig .tc .smem S2048 .i32) (harg6 : arg6.IsWhole)
  (arg7 : Memref sig .tc .smem S2048 .i32) (harg7 : arg7.IsWhole)
  (arg8 : Memref sig .tc .smem S2048 .i32) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S65536x128 .i32) (harg13 : arg13.IsWhole)
  (arg14 : Memref sig .tc .vmem S128x1024 .f32) (harg14 : arg14.IsWhole)
  (arg15 : Memref sig .tc .vmem S16384x128 .i32) (harg15 : arg15.IsWhole)
  (arg16 : Memref sig .tc .vmem S16384x128 .f32) (harg16 : arg16.IsWhole)
  (arg17 : Memref sig .tc .vmem S128x8x128 .f32) (harg17 : arg17.IsWhole)

/-- The pieces that the trips before `n` leave in the accumulator's buffer, the last first: one token's eight rows each. -/
def rowsBefore (i : grid0.Coords) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X13 : BufTy.Contents (Elt F) arg13.view.ty) (X15 : BufTy.Contents (Elt F) arg15.view.ty) (X16 : BufTy.Contents (Elt F) arg16.view.ty)
    (hg : ∀ s o ho, Good (word arg1 arg2 arg3 arg4 arg5 arg6 arg7 arg8 X1 X2 X3 X4 X5 X6 X7 X8 s o ho)) : ℕ → List (View.Piece (Elt F) S128x8x128 .f32)
  | 0 => []
  | n + 1 => if h : n < k0_t2_loop.trips then
      ⟨Rect.unit (s := S128x8x128) (k0_off388 ⟨n, h⟩) S1x8x128.size (k0_off388_inb ⟨n, h⟩), tripVal arg1 arg2 arg3 arg4 arg5 arg6 arg7 arg8 arg13 arg15 arg16 i ⟨n, h⟩ X1 X2 X3 X4 X5 X6 X7 X8 X13 X15 X16 hg⟩ :: rowsBefore i X1 X2 X3 X4 X5 X6 X7 X8 X13 X15 X16 hg n
    else rowsBefore i X1 X2 X3 X4 X5 X6 X7 X8 X13 X15 X16 hg n

theorem rowsBefore_succ (i : grid0.Coords) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X13 : BufTy.Contents (Elt F) arg13.view.ty) (X15 : BufTy.Contents (Elt F) arg15.view.ty) (X16 : BufTy.Contents (Elt F) arg16.view.ty)
    (hg : ∀ s o ho, Good (word arg1 arg2 arg3 arg4 arg5 arg6 arg7 arg8 X1 X2 X3 X4 X5 X6 X7 X8 s o ho)) (k : Fin k0_t2_loop.trips) :
    rowsBefore arg1 arg2 arg3 arg4 arg5 arg6 arg7 arg8 arg13 arg15 arg16 i X1 X2 X3 X4 X5 X6 X7 X8 X13 X15 X16 hg (k.val + 1)
      = [⟨Rect.unit (s := S128x8x128) (k0_off388 k) S1x8x128.size (k0_off388_inb k), tripVal arg1 arg2 arg3 arg4 arg5 arg6 arg7 arg8 arg13 arg15 arg16 i k X1 X2 X3 X4 X5 X6 X7 X8 X13 X15 X16 hg⟩] ++ rowsBefore arg1 arg2 arg3 arg4 arg5 arg6 arg7 arg8 arg13 arg15 arg16 i X1 X2 X3 X4 X5 X6 X7 X8 X13 X15 X16 hg k.val := by
  rw [rowsBefore]; exact dif_pos k.isLt

set_option warn.classDefReducibility false in
/-- The loop over tokens by its invariant: before trip `k` the accumulator's buffer holds the rows of the trips before. -/
@[sl_loop] def loopTokens (c : Dev nD) (i : grid0.Coords) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X13 : BufTy.Contents (Elt F) arg13.view.ty) (X15 : BufTy.Contents (Elt F) arg15.view.ty) (X16 : BufTy.Contents (Elt F) arg16.view.ty)
    (hg : ∀ s o ho, Good (word arg1 arg2 arg3 arg4 arg5 arg6 arg7 arg8 X1 X2 X3 X4 X5 X6 X7 X8 s o ho)) (G17 : BufTy.Contents (Elt F) arg17.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13) ∗ (arg15.view.loc (c : Thread nD τ) ↦[arg15.view.set]{fullShare} X15) ∗ (arg16.view.loc (c : Thread nD τ) ↦[arg16.view.set]{fullShare} X16) ∗ (∃ f, (arg17.view.loc (c : Thread nD τ) ↦[arg17.view.set]{fullShare} f) ∗ ⌜f = arg17.view.writes (Elt F) G17 (rowsBefore arg1 arg2 arg3 arg4 arg5 arg6 arg7 arg8 arg13 arg15 arg16 i X1 X2 X3 X4 X5 X6 X7 X8 X13 X15 X16 hg k)⌝))
  step k acc := by
    iintro ⟨H1, H2, H3, H4, H5, H6, H7, H8, H13, H15, H16, ⟨%f, H17, %hf⟩⟩
    iapply (wp_wand_r Idealize.ShloMosaic.frame (wpE (defs₀ (F := F)) Variants.none (c : Thread nD τ) none) E)
    isplitl [H1 H2 H3 H4 H5 H6 H7 H8 H13 H15 H16 H17]
    · iapply (trip arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i k X1 X2 X3 X4 X5 X6 X7 X8 X13 X15 X16 hg E f)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H13]; · iexact H13
      isplitl [H15]; · iexact H15
      isplitl [H16]; · iexact H16
      iexact H17
    · iintro %_ ⟨H1, H2, H3, H4, H5, H6, H7, H8, H13, H15, H16, H17⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H13]; · iexact H13
      isplitl [H15]; · iexact H15
      isplitl [H16]; · iexact H16
      rw [rowsBefore_succ]
      iexists _; isplitl [H17]; · iexact H17
      ipureintro; rw [hf, ← View.writes_append]

end Cert.KernelIdeal.Hand

end
-- ==== Proof.Vals.lean ====
module

public import proofs.«01_k».proof.Proof.Loop
public import proofs.«01_k».proof.Proof.Gen.KernelIdeal.Frame
public import Idealize.ShloMosaic.Lib.Pipeline.Value
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes, as a function of the blocks it is given -/

theorem trips1 : k0_t1_loop.trips = 128 := by decide +kernel
theorem trips2 : k0_t2_loop.trips = 128 := by decide +kernel

/-- Row `n` of a block of 128 rows. -/
def row (x : Vec F S128x128 .f32) (n : ℕ) : Vec F S1x128 .f32 := fun y => x (Shape.pair (d := S128x128.size) (Fin.ofNat 128 n) (y 1))

/-- The table of shifts that the first loop leaves: row `128 k + j` holds pair `j` of token `k`, over the lanes. -/
def shTab (x8 : Vec F S128x128 .f32) : Vec F S16384x128 .i32 := fun z =>
  k0_pay166 (F := F) (row x8 ((z 0).val / 128)) (Shape.pair (d := S128x128.size) (Fin.ofNat 128 (z 0).val) (z 1))

/-- The table of weights that the first loop leaves, likewise. -/
def wTab (x9 : Vec F S128x128 .f32) : Vec F S16384x128 .f32 := fun z =>
  k0_pay167 (F := F) (row x9 ((z 0).val / 128)) (Shape.pair (d := S128x128.size) (Fin.ofNat 128 (z 0).val) (z 1))

/-- One row of a table of 16384 rows. -/
def oneRow {e : EltTy} (x : Vec F S16384x128 e) (n : ℕ) : Vec F S1x128 e := fun y => x (Shape.pair (d := S16384x128.size) (Fin.ofNat 16384 n) (y 1))

/-- Eight rows of the packed table. -/
def eightRows (x12 : Vec F S65536x128 .i32) (n : ℕ) : Vec F S8x128 .i32 := fun y =>
  x12 (Shape.pair (d := S65536x128.size) (Fin.ofNat 65536 (n + (y 0).val)) (y 1))

/-- A word of a stream. -/
def wordAt (x : Vec F S2048 .i32) (n : ℕ) : BitVec 32 := x (fun a => ⟨n % 2048, by fin_cases a; exact Nat.mod_lt _ (by decide)⟩)

/-- One pair's contribution to one token's eight rows. -/
def pairB (x8 x9 : Vec F S128x128 .f32) (x12 : Vec F S65536x128 .i32) (k : ℕ) (j : Fin 128) (v : BitVec 32) : FVec F S8x128 .f32 :=
  mulf (broadcastTo S8x128 (oneRow (wTab x9) (128 * k + j.val)) broadcasts_S1x128_S8x128)
    (bitcastToFloat .f32 (andi (shli (eightRows x12 v.toNat) (broadcastTo S8x128 (oneRow (shTab x8) (128 * k + j.val)) broadcasts_S1x128_S8x128))
      (broadcast S8x128 4294901760#32)))

/-- One token's eight rows. -/
def tokenRows (xs : Fin 8 → Vec F S2048 .i32) (x8 x9 : Vec F S128x128 .f32) (x12 : Vec F S65536x128 .i32) (k : ℕ) : FVec F S8x128 .f32 :=
  fourChains fun j => pairB x8 x9 x12 k j (wordAt (xs (Fin.ofNat 8 j.val)) (128 * (j.val / 8) + k))

/-- The accumulator's buffer after the second loop. -/
def ffnV (xs : Fin 8 → Vec F S2048 .i32) (x8 x9 : Vec F S128x128 .f32) (x12 : Vec F S65536x128 .i32) : Vec F S128x8x128 .f32 := fun z =>
  tokenRows xs x8 x9 x12 (z 0).val (Shape.pair (d := S8x128.size) (z 1) (z 2))

/-- Row `r` of every token. -/
def rowOfAll (f : Vec F S128x8x128 .f32) (r : Fin 8) : Vec F S128x1x128 .f32 := fun y =>
  f (fun a => match a with | 0 => y 0 | 1 => r | 2 => y 2)

/-- The sum of the residual stream's block and the gathered rows. -/
def sumV (f : Vec F S128x8x128 .f32) (x10 : Vec F S128x1024 .f32) : FVec F S128x1024 .f32 :=
  k0_pay169 (rowOfAll f 0) (rowOfAll f 1) (rowOfAll f 2) (rowOfAll f 3) (rowOfAll f 4) (rowOfAll f 5) (rowOfAll f 6) (rowOfAll f 7) x10

/-- The block that the body leaves in the output's buffer. -/
def blockVal (xs : Fin 8 → Vec F S2048 .i32) (x8 x9 : Vec F S128x128 .f32) (x10 : Vec F S128x1024 .f32) (x11 : Vec F S1x1024 .f32) (x12 : Vec F S65536x128 .i32) : FVec F S128x1024 .f32 :=
  k0_pay1 (sumV (ffnV xs x8 x9 x12) x10) (mulf (sumV (ffnV xs x8 x9 x12) x10) (sumV (ffnV xs x8 x9 x12) x10)) x11

/-! ### The buffers read as those functions -/

/-- A rectangle's index placed in the shape, its offsets given by an equation. -/
theorem idx_at {s : Shape} {off off' size : Fin s.rank → ℕ} {inb} (x : (Rect.unit off size inb).shape.Idx) (a : Fin s.rank) (h : off = off') :
    ((Rect.unit off size inb).idx x a).val = off' a + (x a).val := by
  subst h
  exact Rect.idx_unit_val _ _ _ x a

/-- The members of a list built by one step in front per trip. -/
theorem mem_steps {α : Type} {N : ℕ} (L : ℕ → List α) (f : Fin N → α) (h0 : L 0 = []) (hs : ∀ k : Fin N, L (k.val + 1) = f k :: L k.val) :
    ∀ n, n ≤ N → ∀ p, p ∈ L n ↔ ∃ k : Fin N, k.val < n ∧ p = f k := by
  intro n
  induction n with
  | zero => intro _ p; rw [h0]; simp
  | succ n ih =>
    intro hn p
    rw [hs ⟨n, hn⟩, List.mem_cons, ih (Nat.le_of_succ_le hn)]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact Or.inr ⟨k, h, rfl⟩
      · left; congr 1; exact Fin.ext h

variable (arg1 : Memref sig .tc .smem S2048 .i32) (harg1 : arg1.IsWhole)
  (arg2 : Memref sig .tc .smem S2048 .i32) (harg2 : arg2.IsWhole)
  (arg3 : Memref sig .tc .smem S2048 .i32) (harg3 : arg3.IsWhole)
  (arg4 : Memref sig .tc .smem S2048 .i32) (harg4 : arg4.IsWhole)
  (arg5 : Memref sig .tc .smem S2048 .i32) (harg5 : arg5.IsWhole)
  (arg6 : Memref sig .tc .smem S2048 .i32) (harg6 : arg6.IsWhole)
  (arg7 : Memref sig .tc .smem S2048 .i32) (harg7 : arg7.IsWhole)
  (arg8 : Memref sig .tc .smem S2048 .i32) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S65536x128 .i32) (harg13 : arg13.IsWhole)
  (arg14 : Memref sig .tc .vmem S128x1024 .f32) (harg14 : arg14.IsWhole)
  (arg15 : Memref sig .tc .vmem S16384x128 .i32) (harg15 : arg15.IsWhole)
  (arg16 : Memref sig .tc .vmem S16384x128 .f32) (harg16 : arg16.IsWhole)
  (arg17 : Memref sig .tc .vmem S128x8x128 .f32) (harg17 : arg17.IsWhole)

theorem row_read (x : Vec F S128x128 .f32) (m : Memref sig .tc .vmem S128x128 .f32) (hm : m.IsWhole) (k : Fin k0_t1_loop.trips) :
    View.readAt (Elt F) m.view (Rect.unit (s := S128x128) (k0_off1 k) S1x128.size (k0_off1_inb k)).toLoadRect (hm.unread x) = row x k.val := by
  funext y
  rw [View.readAt_apply, hm.read_unread]
  have hk : k.val < 128 := trips1 ▸ k.isLt
  refine congrArg x (funext fun a => Fin.ext ((idx_at y a (k0_off1_eq k)).trans ?_))
  fin_cases a
  · have : (y 0).val < 1 := (y 0).isLt
    show k.val + (y 0).val = k.val % 128
    omega
  · show 0 + (y 1).val = (y 1).val
    omega

/-- The trip's piece of the table of shifts. -/
def piece15 (x8 : Vec F S128x128 .f32) (k : Fin k0_t1_loop.trips) : View.Piece (Elt F) S16384x128 .i32 :=
  ⟨Rect.unit (s := S16384x128) (k0_off2 k) S128x128.size (k0_off2_inb k), k0_pay166 (F := F) (row x8 k.val)⟩

/-- The trip's piece of the table of weights. -/
def piece16 (x9 : Vec F S128x128 .f32) (k : Fin k0_t1_loop.trips) : View.Piece (Elt F) S16384x128 .f32 :=
  ⟨Rect.unit (s := S16384x128) (k0_off2 k) S128x128.size (k0_off2_inb k), k0_pay167 (F := F) (row x9 k.val)⟩

theorem tripL1 (c : Dev nD) (i : grid0.Coords) (x8 x9 : Vec F S128x128 .f32) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg9.unread x8) (harg10.unread x9) k = ([piece15 x8 k], [piece16 x9 k]) := by
  unfold piece15 piece16
  rw [← row_read x8 arg9 harg9, ← row_read x9 arg10 harg10]
  unfold tripL_k0_t1 trip_k0_t1
  rfl

theorem cover2 (z : S16384x128.Idx) : ∃ k : Fin k0_t1_loop.trips, k.val = (z 0).val / 128 ∧
    z ∈ (Rect.unit (s := S16384x128) (k0_off2 k) S128x128.size (k0_off2_inb k)).set := by
  have h0 : (z 0).val < 16384 := (z 0).isLt
  refine ⟨⟨(z 0).val / 128, by rw [trips1]; omega⟩, rfl, ?_⟩
  rw [Rect.mem_set_unit, k0_off2_eq]
  intro a
  fin_cases a
  · show 128 * ((z 0).val / 128) ≤ (z 0).val ∧ (z 0).val < 128 * ((z 0).val / 128) + 128
    omega
  · have h1 : (z 1).val < 128 := (z 1).isLt
    show 0 ≤ (z 1).val ∧ (z 1).val < 0 + 128
    omega

theorem emb2 (k : Fin k0_t1_loop.trips) (x : S128x128.Idx) :
    (((Rect.unit (s := S16384x128) (k0_off2 k) S128x128.size (k0_off2_inb k)).emb x) 0).val = 128 * k.val + (x 0).val
    ∧ (((Rect.unit (s := S16384x128) (k0_off2 k) S128x128.size (k0_off2_inb k)).emb x) 1) = x 1 := by
  constructor
  · exact (idx_at (s := S16384x128) (size := S128x128.size) (inb := k0_off2_inb k) x 0 (k0_off2_eq k)).trans rfl
  · exact Fin.ext ((idx_at (s := S16384x128) (size := S128x128.size) (inb := k0_off2_inb k) x 1 (k0_off2_eq k)).trans (Nat.zero_add _))

theorem of_emb {α : Type} (g : ℕ → S128x128.Idx → α) (k : Fin k0_t1_loop.trips) (x : S128x128.Idx) (z : S16384x128.Idx)
    (h0 : (z 0).val = 128 * k.val + (x 0).val) (h1 : z 1 = x 1) :
    g k.val x = g ((z 0).val / 128) (Shape.pair (d := S128x128.size) (Fin.ofNat 128 (z 0).val) (z 1)) := by
  have hx : (x 0).val < 128 := (x 0).isLt
  have e : (z 0).val / 128 = k.val := by omega
  rw [e]
  refine congrArg _ (funext fun a => Fin.ext ?_)
  fin_cases a
  · show (x 0).val = (z 0).val % 128
    omega
  · show (x 1).val = (z 1).val
    rw [h1]

/-- After the first loop the table of shifts is `shTab`. -/
theorem read15 (c : Dev nD) (i : grid0.Coords) (x8 x9 : Vec F S128x128 .f32) (G : BufTy.Contents (Elt F) arg15.view.ty) :
    arg15.view.read (Elt F) (arg15.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg9.unread x8) (harg10.unread x9) k0_t1_loop.trips).1) = shTab x8 := by
  have hm := mem_steps (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg9.unread x8) (harg10.unread x9) n).1) (piece15 x8) rfl
    (fun k => by rw [pb_k0_t1_succ, tripL1]; rfl) k0_t1_loop.trips le_rfl
  funext z
  refine View.read_writes_apply_of_pieces _ _ (shTab x8) _ (fun p hp x => ?_) z ?_
  · obtain ⟨k, -, rfl⟩ := (hm p).mp hp
    exact of_emb (fun n => k0_pay166 (F := F) (row x8 n)) k x _ (emb2 k x).1 (emb2 k x).2
  · obtain ⟨k, -, hz⟩ := cover2 z
    exact ⟨_, (hm _).mpr ⟨k, k.isLt, rfl⟩, hz⟩

/-- After the first loop the table of weights is `wTab`. -/
theorem read16 (c : Dev nD) (i : grid0.Coords) (x8 x9 : Vec F S128x128 .f32) (G : BufTy.Contents (Elt F) arg16.view.ty) :
    arg16.view.read (Elt F) (arg16.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg9.unread x8) (harg10.unread x9) k0_t1_loop.trips).2) = wTab x9 := by
  have hm := mem_steps (fun n => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg9.unread x8) (harg10.unread x9) n).2) (piece16 x9) rfl
    (fun k => by rw [pb_k0_t1_succ, tripL1]; rfl) k0_t1_loop.trips le_rfl
  funext z
  refine View.read_writes_apply_of_pieces _ _ (wTab x9) _ (fun p hp x => ?_) z ?_
  · obtain ⟨k, -, rfl⟩ := (hm p).mp hp
    exact of_emb (fun n => k0_pay167 (F := F) (row x9 n)) k x _ (emb2 k x).1 (emb2 k x).2
  · obtain ⟨k, -, hz⟩ := cover2 z
    exact ⟨_, (hm _).mpr ⟨k, k.isLt, rfl⟩, hz⟩

/-- A load of one row of a table of 16384 rows. -/
theorem oneRow_read {e : EltTy} (m : Memref sig .tc .vmem S16384x128 e) (X : BufTy.Contents (Elt F) m.view.ty) (T : Vec F S16384x128 e) (h : m.view.read (Elt F) X = T)
    (k : Fin k0_t2_loop.trips) (j : Fin 128) :
    View.readAt (Elt F) m.view (Rect.unit (s := S16384x128) (rowOff k (BitVec.ofNat 32 j.val)) S1x128.size (rowOff_inb k j)).toLoadRect X = oneRow T (128 * k.val + j.val) := by
  funext y
  rw [View.readAt_apply, h]
  have hk := trips_lt k
  have hj := j.isLt
  refine congrArg T (funext fun a => Fin.ext ((idx_at y a (rowOff_eq k _ j.isLt)).trans ?_))
  fin_cases a
  · have : (y 0).val < 1 := (y 0).isLt
    show 128 * k.val + j.val + (y 0).val = (128 * k.val + j.val) % 16384
    omega
  · exact Nat.zero_add _

/-- A load of eight rows of the packed table. -/
theorem eightRows_read (x12 : Vec F S65536x128 .i32) (v : BitVec 32) (hv : Good v) :
    View.readAt (Elt F) arg13.view (Rect.unit (s := S65536x128) ![v.toNat, 0] S8x128.size hv.chk.2).toLoadRect (harg13.unread x12) = eightRows x12 v.toNat := by
  funext y
  rw [View.readAt_apply, harg13.read_unread]
  refine congrArg x12 (funext fun a => Fin.ext ((idx_at y a rfl).trans ?_))
  have h2 := hv.2
  fin_cases a
  · have : (y 0).val < 8 := (y 0).isLt
    show v.toNat + (y 0).val = (v.toNat + (y 0).val) % 65536
    omega
  · exact Nat.zero_add _

/-- A load of one word of a stream. -/
theorem word_read (m : Memref sig .tc .smem S2048 .i32) (hm : m.IsWhole) (x : Vec F S2048 .i32) (o : Fin 1 → ℕ) (ho : ∀ a, o a + S1.size a ≤ S2048.size a) (y) :
    View.readAt (Elt F) m.view (Rect.unit (s := S2048) o S1.size ho).toLoadRect (hm.unread x) y = wordAt x (o 0) := by
  rw [View.readAt_apply, hm.read_unread]
  refine congrArg x (funext fun a => Fin.ext ((idx_at y a rfl).trans ?_))
  have h : o 0 + 1 ≤ 2048 := ho 0
  have hy : (y 0).val < 1 := (y 0).isLt
  fin_cases a
  show o 0 + (y 0).val = o 0 % 2048
  omega

theorem word_eq (xs : Fin 8 → Vec F S2048 .i32) (s : Fin 8) (o ho) :
    word arg1 arg2 arg3 arg4 arg5 arg6 arg7 arg8 (harg1.unread (xs 0)) (harg2.unread (xs 1)) (harg3.unread (xs 2)) (harg4.unread (xs 3)) (harg5.unread (xs 4)) (harg6.unread (xs 5)) (harg7.unread (xs 6)) (harg8.unread (xs 7)) s o ho = wordAt (xs s) (o 0) := by
  fin_cases s

  · exact word_read arg1 harg1 (xs 0) o ho _
  · exact word_read arg2 harg2 (xs 1) o ho _
  · exact word_read arg3 harg3 (xs 2) o ho _
  · exact word_read arg4 harg4 (xs 3) o ho _
  · exact word_read arg5 harg5 (xs 4) o ho _
  · exact word_read arg6 harg6 (xs 5) o ho _
  · exact word_read arg7 harg7 (xs 6) o ho _
  · exact word_read arg8 harg8 (xs 7) o ho _

/-- The words of blocks that hold only good words are good. -/
theorem good_words (xs : Fin 8 → Vec F S2048 .i32) (hx : ∀ s y, Good (xs s y)) (s o ho) :
    Good (word arg1 arg2 arg3 arg4 arg5 arg6 arg7 arg8 (harg1.unread (xs 0)) (harg2.unread (xs 1)) (harg3.unread (xs 2)) (harg4.unread (xs 3)) (harg5.unread (xs 4)) (harg6.unread (xs 5)) (harg7.unread (xs 6)) (harg8.unread (xs 7)) s o ho) := by
  rw [word_eq]
  exact hx s _

/-- What a trip leaves, from the blocks. -/
theorem tripVal_read (i : grid0.Coords) (k : Fin k0_t2_loop.trips) (xs : Fin 8 → Vec F S2048 .i32) (x8 x9 : Vec F S128x128 .f32) (x12 : Vec F S65536x128 .i32)
    (X15 : BufTy.Contents (Elt F) arg15.view.ty) (X16 : BufTy.Contents (Elt F) arg16.view.ty) (h15 : arg15.view.read (Elt F) X15 = shTab x8) (h16 : arg16.view.read (Elt F) X16 = wTab x9) (hg) :
    tripVal arg1 arg2 arg3 arg4 arg5 arg6 arg7 arg8 arg13 arg15 arg16 i k (harg1.unread (xs 0)) (harg2.unread (xs 1)) (harg3.unread (xs 2)) (harg4.unread (xs 3)) (harg5.unread (xs 4)) (harg6.unread (xs 5)) (harg7.unread (xs 6)) (harg8.unread (xs 7)) (harg13.unread x12) X15 X16 hg
      = shapeCast S1x8x128 (tokenRows xs x8 x9 x12 k.val) shapeCasts_S8x128_S1x8x128 := by
  unfold tripVal tokenRows
  refine congrArg (fun p => shapeCast S1x8x128 (fourChains p) shapeCasts_S8x128_S1x8x128) (funext fun j => ?_)
  have hw := wordOff_eq i k (128 * (j.val / 8)) (by have := j.isLt; omega)
  have e16 : (Fin.ofNat 16 (j.val / 8)).val = j.val / 8 := Nat.mod_eq_of_lt (by have := j.isLt; omega)
  unfold pair pairB
  rw [oneRow_read arg16 X16 _ h16, oneRow_read arg15 X15 _ h15, eightRows_read arg13 harg13 x12 _ (hg _ _ _)]
  erw [shapeCast_self]
  rw [word_eq, e16, hw]
  rfl

/-- A token's rows are the accumulator's buffer at the rectangle its trip writes. -/
theorem token_at (xs : Fin 8 → Vec F S2048 .i32) (x8 x9 : Vec F S128x128 .f32) (x12 : Vec F S65536x128 .i32) (k : Fin k0_t2_loop.trips) (x : S1x8x128.Idx) :
    shapeCast S1x8x128 (tokenRows xs x8 x9 x12 k.val) shapeCasts_S8x128_S1x8x128 x
      = ffnV xs x8 x9 x12 ((Rect.unit (s := S128x8x128) (k0_off388 k) S1x8x128.size (k0_off388_inb k)).emb x) := by
  have ev : ∀ a, (((Rect.unit (s := S128x8x128) (k0_off388 k) S1x8x128.size (k0_off388_inb k)).emb x) a).val = (![k.val, 0, 0] : Fin 3 → ℕ) a + (x a).val := fun a =>
    (Rect.idx_unit_val _ _ _ x a).trans (congrArg (fun o : Fin 3 → ℕ => o a + (x a).val) (k0_off388_eq k))
  have hx0 : (x 0).val < 1 := (x 0).isLt
  have e0 : (((Rect.unit (s := S128x8x128) (k0_off388 k) S1x8x128.size (k0_off388_inb k)).emb x) 0).val = k.val := (ev 0).trans (by show k.val + (x 0).val = _; omega)
  have e1 : (((Rect.unit (s := S128x8x128) (k0_off388 k) S1x8x128.size (k0_off388_inb k)).emb x) 1) = x 1 := Fin.ext ((ev 1).trans (Nat.zero_add _))
  have e2 : (((Rect.unit (s := S128x8x128) (k0_off388 k) S1x8x128.size (k0_off388_inb k)).emb x) 2) = x 2 := Fin.ext ((ev 2).trans (Nat.zero_add _))
  unfold ffnV
  rw [e0, e1, e2]
  refine shapeCast_apply _ _ x _ ?_
  rw [Shape.rowMajor_val_two, Shape.rowMajor_val_three]
  show (x 1).val * 128 + (x 2).val = ((x 0).val * 8 + (x 1).val) * 128 + (x 2).val
  omega

/-- After the second loop the accumulator's buffer is `ffnV`. -/
theorem read17 (i : grid0.Coords) (xs : Fin 8 → Vec F S2048 .i32) (x8 x9 : Vec F S128x128 .f32) (x12 : Vec F S65536x128 .i32)
    (X15 : BufTy.Contents (Elt F) arg15.view.ty) (X16 : BufTy.Contents (Elt F) arg16.view.ty) (h15 : arg15.view.read (Elt F) X15 = shTab x8) (h16 : arg16.view.read (Elt F) X16 = wTab x9) (hg)
    (G : BufTy.Contents (Elt F) arg17.view.ty) :
    arg17.view.read (Elt F) (arg17.view.writes (Elt F) G (rowsBefore arg1 arg2 arg3 arg4 arg5 arg6 arg7 arg8 arg13 arg15 arg16 i (harg1.unread (xs 0)) (harg2.unread (xs 1)) (harg3.unread (xs 2)) (harg4.unread (xs 3)) (harg5.unread (xs 4)) (harg6.unread (xs 5)) (harg7.unread (xs 6)) (harg8.unread (xs 7)) (harg13.unread x12) X15 X16 hg k0_t2_loop.trips)) = ffnV xs x8 x9 x12 := by
  have hm := mem_steps (fun n => rowsBefore arg1 arg2 arg3 arg4 arg5 arg6 arg7 arg8 arg13 arg15 arg16 i (harg1.unread (xs 0)) (harg2.unread (xs 1)) (harg3.unread (xs 2)) (harg4.unread (xs 3)) (harg5.unread (xs 4)) (harg6.unread (xs 5)) (harg7.unread (xs 6)) (harg8.unread (xs 7)) (harg13.unread x12) X15 X16 hg n)
    (fun k => ⟨Rect.unit (s := S128x8x128) (k0_off388 k) S1x8x128.size (k0_off388_inb k), tripVal arg1 arg2 arg3 arg4 arg5 arg6 arg7 arg8 arg13 arg15 arg16 i k (harg1.unread (xs 0)) (harg2.unread (xs 1)) (harg3.unread (xs 2)) (harg4.unread (xs 3)) (harg5.unread (xs 4)) (harg6.unread (xs 5)) (harg7.unread (xs 6)) (harg8.unread (xs 7)) (harg13.unread x12) X15 X16 hg⟩) rfl
    (fun k => rowsBefore_succ arg1 arg2 arg3 arg4 arg5 arg6 arg7 arg8 arg13 arg15 arg16 i (harg1.unread (xs 0)) (harg2.unread (xs 1)) (harg3.unread (xs 2)) (harg4.unread (xs 3)) (harg5.unread (xs 4)) (harg6.unread (xs 5)) (harg7.unread (xs 6)) (harg8.unread (xs 7)) (harg13.unread x12) X15 X16 hg k) k0_t2_loop.trips le_rfl
  funext z
  refine View.read_writes_apply_of_pieces _ _ (ffnV xs x8 x9 x12) _ (fun p hp x => ?_) z ?_
  · obtain ⟨k, -, rfl⟩ := (hm p).mp hp
    show tripVal arg1 arg2 arg3 arg4 arg5 arg6 arg7 arg8 arg13 arg15 arg16 i k (harg1.unread (xs 0)) (harg2.unread (xs 1)) (harg3.unread (xs 2)) (harg4.unread (xs 3)) (harg5.unread (xs 4)) (harg6.unread (xs 5)) (harg7.unread (xs 6)) (harg8.unread (xs 7)) (harg13.unread x12) X15 X16 hg x = _
    rw [tripVal_read arg1 harg1 arg2 harg2 arg3 harg3 arg4 harg4 arg5 harg5 arg6 harg6 arg7 harg7 arg8 harg8 arg13 harg13 arg15 arg16 i k xs x8 x9 x12 X15 X16 h15 h16 hg]
    exact token_at xs x8 x9 x12 k x
  · have h0 : (z 0).val < 128 := (z 0).isLt
    refine ⟨_, (hm _).mpr ⟨⟨(z 0).val, lt_of_lt_of_eq h0 trips2.symm⟩, lt_of_lt_of_eq h0 trips2.symm, rfl⟩, ?_⟩
    rw [Rect.mem_set_unit, k0_off388_eq]
    intro a
    fin_cases a
    · show (z 0).val ≤ (z 0).val ∧ (z 0).val < (z 0).val + 1
      omega
    · have h1 : (z 1).val < 8 := (z 1).isLt
      show 0 ≤ (z 1).val ∧ (z 1).val < 0 + 8
      omega
    · have h1 : (z 2).val < 128 := (z 2).isLt
      show 0 ≤ (z 2).val ∧ (z 2).val < 0 + 128
      omega

/-- A load of row `r` of every token. -/
theorem rowOfAll_read (X : BufTy.Contents (Elt F) arg17.view.ty) (f : Vec F S128x8x128 .f32) (h : arg17.view.read (Elt F) X = f) (r : Fin 8) (o : Fin 3 → ℕ) (ho : o = ![0, r.val, 0]) (hi) :
    View.readAt (Elt F) arg17.view (Rect.unit (s := S128x8x128) o S128x1x128.size hi).toLoadRect X = rowOfAll f r := by
  subst ho
  funext y
  rw [View.readAt_apply, h]
  refine congrArg f (funext fun a => Fin.ext ((idx_at y a rfl).trans ?_))
  fin_cases a
  · exact Nat.zero_add _
  · have : (y 1).val < 1 := (y 1).isLt
    show r.val + (y 1).val = r.val
    omega
  · exact Nat.zero_add _

end Cert.KernelIdeal.Hand

end
-- ==== Proof.Run.lean ====
module

public import proofs.«01_k».proof.Proof.Vals
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem out_val (xs : Fin 8 → Vec F S2048 .i32) (x8 x9 : Vec F S128x128 .f32) (x10 : Vec F S128x1024 .f32) (x11 : Vec F S1x1024 .f32) (x12 : Vec F S65536x128 .i32)
    {a0 a1 a2 a3 a4 a5 a6 a7 : Vec F S128x1x128 .f32} {b : Vec F S128x1024 .f32} {d : Vec F S1x1024 .f32}
    (h0 : a0 = rowOfAll (ffnV xs x8 x9 x12) 0) (h1 : a1 = rowOfAll (ffnV xs x8 x9 x12) 1) (h2 : a2 = rowOfAll (ffnV xs x8 x9 x12) 2) (h3 : a3 = rowOfAll (ffnV xs x8 x9 x12) 3) (h4 : a4 = rowOfAll (ffnV xs x8 x9 x12) 4) (h5 : a5 = rowOfAll (ffnV xs x8 x9 x12) 5) (h6 : a6 = rowOfAll (ffnV xs x8 x9 x12) 6) (h7 : a7 = rowOfAll (ffnV xs x8 x9 x12) 7) (hb : b = x10) (hd : d = x11) :
    k0_pay1 (k0_pay169 a0 a1 a2 a3 a4 a5 a6 a7 b) (k0_pay170 a0 a1 a2 a3 a4 a5 a6 a7 b) d = blockVal xs x8 x9 x10 x11 x12 := by
  subst h0; subst h1; subst h2; subst h3; subst h4; subst h5; subst h6; subst h7; subst hb; subst hd
  rfl

variable (arg1 : Memref sig .tc .smem S2048 .i32) (harg1 : arg1.IsWhole)
  (arg2 : Memref sig .tc .smem S2048 .i32) (harg2 : arg2.IsWhole)
  (arg3 : Memref sig .tc .smem S2048 .i32) (harg3 : arg3.IsWhole)
  (arg4 : Memref sig .tc .smem S2048 .i32) (harg4 : arg4.IsWhole)
  (arg5 : Memref sig .tc .smem S2048 .i32) (harg5 : arg5.IsWhole)
  (arg6 : Memref sig .tc .smem S2048 .i32) (harg6 : arg6.IsWhole)
  (arg7 : Memref sig .tc .smem S2048 .i32) (harg7 : arg7.IsWhole)
  (arg8 : Memref sig .tc .smem S2048 .i32) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S65536x128 .i32) (harg13 : arg13.IsWhole)
  (arg14 : Memref sig .tc .vmem S128x1024 .f32) (harg14 : arg14.IsWhole)
  (arg15 : Memref sig .tc .vmem S16384x128 .i32) (harg15 : arg15.IsWhole)
  (arg16 : Memref sig .tc .vmem S16384x128 .f32) (harg16 : arg16.IsWhole)
  (arg17 : Memref sig .tc .vmem S128x8x128 .f32) (harg17 : arg17.IsWhole)

set_option maxHeartbeats 4000000 in
/-- The whole body: from thirteen input blocks whose words are good, the output's buffer ends at `blockVal` of them and the blocks stay. -/
theorem run (c : Dev nD) (i : grid0.Coords) (xs : Fin 8 → Vec F S2048 .i32) (x8 x9 : Vec F S128x128 .f32) (x10 : Vec F S128x1024 .f32) (x11 : Vec F S1x1024 .f32) (x12 : Vec F S65536x128 .i32)
    (hx : ∀ s y, Good (xs s y)) (E : Set ℕ) (K : PUnit → sProp 𝕄) :
    iprop(owns (c : Thread nD τ) arg1 fullShare (xs 0) ∗ owns (c : Thread nD τ) arg2 fullShare (xs 1) ∗ owns (c : Thread nD τ) arg3 fullShare (xs 2) ∗ owns (c : Thread nD τ) arg4 fullShare (xs 3) ∗ owns (c : Thread nD τ) arg5 fullShare (xs 4) ∗ owns (c : Thread nD τ) arg6 fullShare (xs 5) ∗ owns (c : Thread nD τ) arg7 fullShare (xs 6) ∗ owns (c : Thread nD τ) arg8 fullShare (xs 7) ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg1 fullShare (xs 0) ∗ owns (c : Thread nD τ) arg2 fullShare (xs 1) ∗ owns (c : Thread nD τ) arg3 fullShare (xs 2) ∗ owns (c : Thread nD τ) arg4 fullShare (xs 3) ∗ owns (c : Thread nD τ) arg5 fullShare (xs 4) ∗ owns (c : Thread nD τ) arg6 fullShare (xs 5) ∗ owns (c : Thread nD τ) arg7 fullShare (xs 6) ∗ owns (c : Thread nD τ) arg8 fullShare (xs 7) ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (blockVal xs x8 x9 x10 x11 x12) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_peer_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hg := good_words arg1 harg1 arg2 harg2 arg3 harg3 arg4 harg4 arg5 harg5 arg6 harg6 arg7 harg7 arg8 harg8 xs hx
  simp only [cc0_peer_out_eq_skeleton]; unfold cc0_peer_out_skel
  simp only [k0_part64_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro
    refine (View.read_writes_full _ _ _ _ _).trans ?_
    unfold run.sl.r run.sl.r_1
    refine out_val xs x8 x9 x10 x11 x12 ?_ ?_ ?_ ?_ ?_ ?_ ?_ ?_ ?_ ?_
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 0 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 1 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 2 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 3 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 4 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 5 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 6 _ rfl _
    · exact rowOfAll_read arg17 _ _ (read17 arg1 harg1 arg2 harg2 arg3 harg3 arg4 harg4 arg5 harg5 arg6 harg6 arg7 harg7 arg8 harg8 arg13 harg13 arg15 arg16 arg17 i xs x8 x9 x12 _ _ (read15 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs0) (read16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i x8 x9 fs1) hg _) 7 _ rfl _
    · exact (View.readAt_full _ _ _).trans (harg11.read_unread _)
    · exact (View.readAt_full _ _ _).trans (harg12.read_unread _)
  isplitl [HS0]
  · iexists _; iexists _; isplitr; swap; · iexact HS0
    ipureintro; rfl
  isplitl [HS1]
  · iexists _; iexists _; isplitr; swap; · iexact HS1
    ipureintro; rfl
  iexists _; iexists _; isplitr; swap; · iexact HS2
  ipureintro; rfl

end Cert.KernelIdeal.Hand

end
-- ==== Proof.Host.lean ====
module

public import proofs.«01_k».proof.Proof.Run
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-! ## What the host code hands the call -/

/-- The streams of row offsets, from the expert ids. -/
def offsOf (e : Vec F S32768x8x16 .i32) : Vec F S4194304 .i32 :=
  shapeCast S4194304 (muli (andi (transpose S256x8x16x128 [0, 3, 2, 1] (shapeCast S256x128x16x8 e shapeCasts_S32768x8x16_S256x128x16x8) transposes_S256x128x16x8_S256x8x16x128_0_3_2_1)
    (broadcastInDim S256x8x16x128 ![] bcast_S_S256x8x16x128 (constantI S_ 32 8191#32))) (broadcastInDim S256x8x16x128 ![] bcast_S_S256x8x16x128 (constantI S_ 32 8#32))) shapeCasts_S256x8x16x128_S4194304

/-- The shifts as floats, from the expert ids. -/
def shfOf (e : Vec F S32768x8x16 .i32) : Vec F S32768x128 .f32 :=
  sitofp .f32 (Host.shli (Host.shrsi (shapeCast S32768x128 e shapeCasts_S32768x8x16_S32768x128) (broadcastInDim S32768x128 ![] bcast_S_S32768x128 (constantI S_ 32 13#32)))
    (broadcastInDim S32768x128 ![] bcast_S_S32768x128 (constantI S_ 32 4#32)))

/-- The packed table, from the table's words. -/
def packOf (codes : Vec F S16384x1024 .i32) : Vec F S65536x128 .i32 :=
  shapeCast S65536x128 (ori (Host.shli (extractStridedSlice S8192x1024 ![0, 0] codes slices_S16384x1024_S8192x1024_0_0) (broadcastInDim S8192x1024 ![] bcast_S_S8192x1024 (constantI S_ 32 16#32)))
    (andi (extractStridedSlice S8192x1024 ![8192, 0] codes slices_S16384x1024_S8192x1024_8192_0) (broadcastInDim S8192x1024 ![] bcast_S_S8192x1024 (constantI S_ 32 65535#32)))) shapeCasts_S8192x1024_S65536x128

set_option maxHeartbeats 2000000 in
theorem V_offs (c : Dev nD) : V m c main_v12 = offsOf (F := F) (m ((c : Thread nD τ).loc main_arg0)) := by
  unfold offsOf V; after_results_simp <;> rfl

set_option maxHeartbeats 2000000 in
theorem V_shf (c : Dev nD) : V m c main_v11 = shfOf (F := F) (m ((c : Thread nD τ).loc main_arg0)) := by
  unfold shfOf V; after_results_simp <;> rfl

set_option maxHeartbeats 2000000 in
theorem V_w (c : Dev nD) : V m c main_v13 = shapeCast S32768x128 (m ((c : Thread nD τ).loc main_arg1)) shapeCasts_S32768x8x16_S32768x128 := by
  unfold V; after_results_simp <;> rfl

set_option maxHeartbeats 2000000 in
theorem V_g (c : Dev nD) : V m c main_v14 = broadcastInDim S1x1024 ![1] bcast_S1024_S1x1024_1 (m ((c : Thread nD τ).loc main_arg3)) := by
  unfold V; after_results_simp <;> rfl

set_option maxHeartbeats 2000000 in
theorem V_tab (c : Dev nD) : V m c main_v22 = packOf (F := F) (m ((c : Thread nD τ).loc main_arg4)) := by
  unfold packOf V; after_results_simp <;> rfl

/-- A masked word times eight, as a number: the first of eight rows inside the packed table. -/
theorem mask_mul (v : BitVec 32) : ((v &&& 8191#32) * 8#32).toNat = v.toNat % 8192 * 8 := by
  have h : (v &&& 8191#32).toNat = v.toNat % 8192 := by
    rw [BitVec.toNat_and]
    exact Nat.and_two_pow_sub_one_eq_mod v.toNat 13
  rw [BitVec.toNat_mul, h]
  show v.toNat % 8192 * 8 % 2 ^ 32 = _
  omega

theorem good_word (v : BitVec 32) : Good ((v &&& 8191#32) * 8#32) := by
  unfold Good
  rw [mask_mul]
  omega

/-- Every word of the streams is good. -/
theorem good_offs (e : Vec F S32768x8x16 .i32) (z : S4194304.Idx) : Good (offsOf e z) := good_word _

end Cert.KernelIdeal.Hand

end
-- ==== Proof.Launch.lean ====
module

public import proofs.«01_k».proof.Proof.Host
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-! ## The launch: the body at every grid point, the arrays after the last -/

abbrev ms0 (t : Fin cfg0.N) : Memref sig .tc .smem S2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S2048 .i32 := win0_1.stage (cfg0.slots t 1)
abbrev hs1 (t : Fin cfg0.N) : (ms1 t).IsWhole := hstage0_1 ((cfg0.slots t 1).cast nbuf0_1)
abbrev ms2 (t : Fin cfg0.N) : Memref sig .tc .smem S2048 .i32 := win0_2.stage (cfg0.slots t 2)
abbrev hs2 (t : Fin cfg0.N) : (ms2 t).IsWhole := hstage0_2 ((cfg0.slots t 2).cast nbuf0_2)
abbrev ms3 (t : Fin cfg0.N) : Memref sig .tc .smem S2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .smem S2048 .i32 := win0_4.stage (cfg0.slots t 4)
abbrev hs4 (t : Fin cfg0.N) : (ms4 t).IsWhole := hstage0_4 ((cfg0.slots t 4).cast nbuf0_4)
abbrev ms5 (t : Fin cfg0.N) : Memref sig .tc .smem S2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .smem S2048 .i32 := win0_6.stage (cfg0.slots t 6)
abbrev hs6 (t : Fin cfg0.N) : (ms6 t).IsWhole := hstage0_6 ((cfg0.slots t 6).cast nbuf0_6)
abbrev ms7 (t : Fin cfg0.N) : Memref sig .tc .smem S2048 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S65536x128 .i32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x1024 .f32 := win0_13.stage (cfg0.slots t 13)
abbrev hs13 (t : Fin cfg0.N) : (ms13 t).IsWhole := hstage0_13 ((cfg0.slots t 13).cast nbuf0_13)
abbrev scr0 : Memref sig .tc .vmem S16384x128 .i32 := Memref.whole cc0_scratch0
abbrev scr1 : Memref sig .tc .vmem S16384x128 .f32 := Memref.whole cc0_scratch1
abbrev scr2 : Memref sig .tc .vmem S128x8x128 .f32 := Memref.whole cc0_scratch2

/-- The eight streams' blocks at a point. -/
def streamsAt (c : Dev nD) (t : Fin cfg0.N) (s : Fin 8) : Vec F S2048 .i32 :=
  match s with
  | 0 => iblk m c 0 t
  | 1 => iblk m c 1 t
  | 2 => iblk m c 2 t
  | 3 => iblk m c 3 t
  | 4 => iblk m c 4 t
  | 5 => iblk m c 5 t
  | 6 => iblk m c 6 t
  | 7 => iblk m c 7 t

/-- What the output's buffer holds after the body at a point: `blockVal` of the point's blocks. -/
def outAt (c : Dev nD) (t : Fin cfg0.N) : Vec F S128x1024 .f32 :=
  blockVal (streamsAt m c t) (iblk m c 8 t) (iblk m c 9 t) (iblk m c 10 t) (iblk m c 11 t) (iblk m c 12 t)

theorem good_block0 (c : Dev nD) (t : Fin cfg0.N) (X : Buf (Elt F) ((c : Thread nD τ).loc main_v12)) (h : ∀ z, Good (X z)) (y) :
    Good (((cfg0.win 0).blk t).view.read (Elt F) X y) := h _

theorem good_block1 (c : Dev nD) (t : Fin cfg0.N) (X : Buf (Elt F) ((c : Thread nD τ).loc main_v12)) (h : ∀ z, Good (X z)) (y) :
    Good (((cfg0.win 1).blk t).view.read (Elt F) X y) := h _

theorem good_block2 (c : Dev nD) (t : Fin cfg0.N) (X : Buf (Elt F) ((c : Thread nD τ).loc main_v12)) (h : ∀ z, Good (X z)) (y) :
    Good (((cfg0.win 2).blk t).view.read (Elt F) X y) := h _

theorem good_block3 (c : Dev nD) (t : Fin cfg0.N) (X : Buf (Elt F) ((c : Thread nD τ).loc main_v12)) (h : ∀ z, Good (X z)) (y) :
    Good (((cfg0.win 3).blk t).view.read (Elt F) X y) := h _

theorem good_block4 (c : Dev nD) (t : Fin cfg0.N) (X : Buf (Elt F) ((c : Thread nD τ).loc main_v12)) (h : ∀ z, Good (X z)) (y) :
    Good (((cfg0.win 4).blk t).view.read (Elt F) X y) := h _

theorem good_block5 (c : Dev nD) (t : Fin cfg0.N) (X : Buf (Elt F) ((c : Thread nD τ).loc main_v12)) (h : ∀ z, Good (X z)) (y) :
    Good (((cfg0.win 5).blk t).view.read (Elt F) X y) := h _

theorem good_block6 (c : Dev nD) (t : Fin cfg0.N) (X : Buf (Elt F) ((c : Thread nD τ).loc main_v12)) (h : ∀ z, Good (X z)) (y) :
    Good (((cfg0.win 6).blk t).view.read (Elt F) X y) := h _

theorem good_block7 (c : Dev nD) (t : Fin cfg0.N) (X : Buf (Elt F) ((c : Thread nD τ).loc main_v12)) (h : ∀ z, Good (X z)) (y) :
    Good (((cfg0.win 7).blk t).view.read (Elt F) X y) := h _

/-- The words of every stream's block are good, whatever the expert ids. -/
theorem good_streams (c : Dev nD) (t : Fin cfg0.N) (s : Fin 8) (y) : Good (streamsAt m c t s y) := by
  have h : ∀ z, Good (V m c main_v12 z) := fun z => by rw [V_offs]; exact good_offs _ z
  fin_cases s
  · exact good_block0 c t (V m c main_v12) h y
  · exact good_block1 c t (V m c main_v12) h y
  · exact good_block2 c t (V m c main_v12) h y
  · exact good_block3 c t (V m c main_v12) h y
  · exact good_block4 c t (V m c main_v12) h y
  · exact good_block5 c t (V m c main_v12) h y
  · exact good_block6 c t (V m c main_v12) h y
  · exact good_block7 c t (V m c main_v12) h y

/-- What the launch carries: the arrays as the call finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  rw [show (dats m 0 c).Φ t.castSucc = Pipeline.ΦA spec0 c from rfl, PhiA_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) c (grid0.coords t)
    (streamsAt m c t) (iblk m c 8 t) (iblk m c 9 t) (iblk m c 10 t) (iblk m c 11 t) (iblk m c 12 t) (good_streams m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, H12, H13, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: every array of the call at what the launch computes, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- After the run the result is the output window's array after the last point, the arguments are as launched, and every counter is zero. -/
theorem run_main : θ_run defs (onTc (τ := τ) (main (F := F))) ⟨m, fun _ => 0, ρ⟩ (fun r => (∀ c : Dev nD,
      r.2.mem ((c : Thread nD τ).loc main_v23) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c).1 13,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 10).trans (((dats m 0 c).arrAt_in 10 rfl _).trans ((A_eq m c 10).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_quiescent m ρ)

end Cert.KernelIdeal.Hand

end
-- ==== Proof.Frames.lean ====
module

public import proofs.«01_k».proof.Defs
public import proofs.«01_k».proof.Proof.Launch
public import proofs.«01_k».proof.Proof.Gen.Kernel

@[expose] public section

set_option maxRecDepth 16384

noncomputable section

/-! # The kernel's frames: it runs, its arguments end as launched, its counters at zero

The two prints of the kernel are one program: their bodies and their host code are equal by computation. The kernel's run
on the machine's own words is therefore the run that `Launch` proves for any reading of the floats. -/

namespace Cert.Proof

open Idealize.ShloMosaic Idealize.ShloMosaic.TcCoe Idealize.SL.Sem

instance factsKernel : Cert.Kernel.Facts := Cert.Kernel.Gen.facts
instance factsIdealized : Cert.KernelIdeal.Facts := Cert.KernelIdeal.Gen.facts

variable {F : FTy → Type} [FloatOps F]

set_option maxHeartbeats 8000000

/-- The two prints' host programs. -/
theorem main_eq : Cert.Kernel.main (F := F) = Cert.KernelIdeal.main (F := F) := rfl

/-- The two prints' bodies. -/
theorem bodies_eq : Cert.Kernel.defs₀ (F := F) = Cert.KernelIdeal.defs₀ (F := F) :=
  congrArg Defs.onTc (funext fun l => funext fun x => by
    match l, x with
    | 0, (t, s) => exact rfl
    | ⟨_ + 1, h⟩, _ => exact absurd h (Nat.not_lt.2 (Nat.le_add_left _ _)))

/-- The two prints' bodies with the pipelines around them. -/
theorem defs_eq : Cert.Kernel.defs (F := F) = Cert.KernelIdeal.defs (F := F) :=
  congrArg (Pipeline.defs (Cert.KernelIdeal.pcfgs (F := F))) bodies_eq

/-- A run of the one print is a run of the other. -/
theorem run_of_eq {D D' : Defs Cert.KernelIdeal.nD Cert.KernelIdeal.τ Cert.KernelIdeal.sig (Elt F) (Pipeline.Sig Cert.KernelIdeal.Λ₀ (Fin 1) fun p => (Cert.KernelIdeal.pcfgs (F := F) p).Adm)}
    {M M' : Dev Cert.KernelIdeal.nD → Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit}
    (hD : D = D') (hM : M = M') (s) (Q) (h : θ_run D' (onTc M') s Q) : θ_run D (onTc M) s Q := by
  subst hD hM; exact h

/-- The kernel on the machine's own words runs and leaves its arguments and counters as they were. -/
theorem frame_kernel : Cert.quiescent_Kernel := fun m ρ _ =>
  run_of_eq (F := Bits) (D := Cert.Kernel.defs) (M := Cert.Kernel.main) defs_eq main_eq _ _
    ((θ_run (Cert.KernelIdeal.defs (F := Bits)) _ _).mono (fun _ h => And.intro (fun c => (h.1 c).2) h.2) (Cert.KernelIdeal.Hand.run_main (F := Bits) m ρ))

/-- The same of the kernel over the extended reals. -/
theorem frame_kernelIdeal : Cert.quiescent_KernelIdeal := fun m ρ _ =>
  (θ_run _ _ _).mono (fun _ h => ⟨fun c => (h.1 c).2, h.2⟩) (Cert.KernelIdeal.Hand.run_main (F := Ideal) m ρ)

end Cert.Proof

end
-- ==== Proof.Entries.lean ====
module

public import proofs.«01_k».proof.Proof.Vals
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's pieces at the extended reals, element by element -/

/-- A diagonal picked out of a row, summed along the lanes, is the row's element. -/
theorem sum_diag (f : Fin 128 → EReal) (r : Fin 128) :
    (∑ l : Fin 128, Scalar.select (IntOp.cmpi CmpIPredicate.eq (BitVec.ofNat 32 r.val) (BitVec.ofNat 32 l.val)) (f l) 0) = f r := by
  refine (Finset.sum_eq_single r (fun l _ hl => ?_) (fun h => absurd (Finset.mem_univ r) h)).trans ?_
  · have h : (BitVec.ofNat 32 r.val == BitVec.ofNat 32 l.val) = false := by
      refine beq_eq_false_iff_ne.mpr fun e => hl (Fin.ext ?_)
      have e' := congrArg BitVec.toNat e
      simp only [BitVec.toNat_ofNat] at e'
      omega
    simp [Scalar.select, IntOp.cmpi, h]
  · simp [Scalar.select, IntOp.cmpi]

/-- The table of shifts holds, over the lanes of row `r`, the integer of the block's element `r`. -/
theorem pay166_apply (x : Vec Ideal S1x128 .f32) (r l : Fin 128) :
    k0_pay166 (F := Ideal) x (ix2 r l) = FloatOps.fptosi (F := Ideal) (φ := .f32) 32 (x (ix2 0 r)) := by
  pointwise [k0_pay166]
  rw [sum_diag fun l => x (ix2 0 l)]

/-- The table of weights holds, over the lanes of row `r`, the block's element `r`. -/
theorem pay167_apply (x : Vec Ideal S1x128 .f32) (r l : Fin 128) :
    k0_pay167 (F := Ideal) x (ix2 r l) = x (ix2 0 r) := by
  pointwise [k0_pay167]

/-- The eight rows side by side, added to the block. -/
theorem pay169_apply (f : Fin 8 → Vec Ideal S128x1x128 .f32) (x : Vec Ideal S128x1024 .f32) (k : Fin 128) (r : Fin 8) (l : Fin 128) :
    k0_pay169 (F := Ideal) (f 0) (f 1) (f 2) (f 3) (f 4) (f 5) (f 6) (f 7) x (ix2 k ⟨r.val * 128 + l.val, by omega⟩) = x (ix2 k ⟨r.val * 128 + l.val, by omega⟩) + f r (ix3 k 0 l) := by
  pointwise [k0_pay169]
  refine congrArg (x _ + ·) ?_
  fin_cases r <;> simp only [Fin.zero_eta, Fin.mk_one, Fin.reduceFinMk, Nat.reduceMul, zero_mul, zero_add, one_mul, Fin.isValue, Fin.val_zero, Fin.val_one, Fin.val_ofNat, Fin.reduceMod]
  all_goals (repeat (first | rw [dif_pos (by omega)] | rw [dif_neg (by omega)]))
  all_goals (congr 2; try (apply Fin.ext; simp only []; omega))

/-- The norm of the sum, times the gains. -/
theorem pay1_apply (s q : Vec Ideal S128x1024 .f32) (g : Vec Ideal S1x1024 .f32) (k : Fin 128) (d : Fin 1024) :
    k0_pay1 (F := Ideal) s q g (ix2 k d) = s (ix2 k d) * Ideal.rsqrt (Ideal.div (∑ d' : Fin 1024, q (ix2 k d')) (Ideal.ofBits .f32 0x44800000#32) + Ideal.ofBits .f32 0x358637BD#32) * g (ix2 0 d) := by
  pointwise [k0_pay1]

theorem chain_apply (p : Fin 128 → FVec Ideal S8x128 .f32) (r n : ℕ) (z : S8x128.Idx) :
    chain p r n z = ∑ t ∈ Finset.range n, p (Fin.ofNat 128 (4 * t + r)) z := by
  induction n with
  | zero => exact Ideal.ofBits_zero_f32
  | succ n ih => rw [Finset.sum_range_succ, ← ih]; rfl

theorem sum_by_fours (g : ℕ → EReal) (n : ℕ) :
    ∑ i ∈ Finset.range (4 * n), g i = ∑ t ∈ Finset.range n, (((g (4 * t) + g (4 * t + 1)) + g (4 * t + 2)) + g (4 * t + 3)) := by
  induction n with
  | zero => rfl
  | succ n ih => rw [Nat.mul_succ, Finset.sum_range_succ, Finset.sum_range_succ, Finset.sum_range_succ, Finset.sum_range_succ, ih, Finset.sum_range_succ, add_assoc, add_assoc, add_assoc, ← add_assoc (g _) (g _) _, ← add_assoc (g _ + g _) (g _) _]

/-- The four chains are the sum over all 128 pairs. -/
theorem fourChains_apply (p : Fin 128 → FVec Ideal S8x128 .f32) (z : S8x128.Idx) : fourChains p z = ∑ j : Fin 128, p j z := by
  have h : ∑ j : Fin 128, p j z = ∑ i ∈ Finset.range (4 * 32), p (Fin.ofNat 128 i) z := by
    rw [Finset.sum_range]
    exact Finset.sum_congr rfl fun j _ => congrArg (fun q => p q z) (Fin.ext (Nat.mod_eq_of_lt j.isLt).symm)
  rw [h, sum_by_fours (fun i => p (Fin.ofNat 128 i) z)]
  show (chain p 0 32 z + chain p 1 32 z) + (chain p 2 32 z + chain p 3 32 z) = _
  simp only [chain_apply, Finset.sum_add_distrib, Nat.add_zero]
  exact (add_assoc _ _ _).symm

/-- One pair's contribution at an element: its weight times the half of the packed word that its shift selects, read as a float. -/
theorem pairB_apply (x8 x9 : Vec Ideal S128x128 .f32) (x12 : Vec Ideal S65536x128 .i32) (k j : Fin 128) (v : BitVec 32) (r : Fin 8) (l : Fin 128) :
    pairB x8 x9 x12 k.val j v (ix2 r l)
      = x9 (ix2 k j) * Ideal.ofBits .f32 (IntOp.andi (IntOp.shli .vector (x12 (ix2 (Fin.ofNat 65536 (v.toNat + r.val)) l)) (Ideal.fptosi 32 (x8 (ix2 k j)))) 4294901760#32) := by
  have hk : (128 * k.val + j.val) % 16384 = 128 * k.val + j.val := Nat.mod_eq_of_lt (by omega)
  have e0 : (128 * k.val + j.val) % 16384 / 128 % 128 = k.val := by omega
  have e1 : (128 * k.val + j.val) % 16384 % 128 = j.val := by omega
  have p (l : Fin 128) : (Shape.pair (d := S128x128.size) (Fin.ofNat 128 ((128 * k.val + j.val) % 16384)) l) = ix2 j l := by
    funext a; fin_cases a
    · exact Fin.ext e1
    · rfl
  have row_eq (x : Vec Ideal S128x128 .f32) : row x ((128 * k.val + j.val) % 16384 / 128) (ix2 0 j) = x (ix2 k j) := by
    refine congrArg x (funext fun a => ?_); fin_cases a
    · exact Fin.ext e0
    · rfl
  have hw : oneRow (wTab x9) (128 * k.val + j.val) (ix2 0 l) = x9 (ix2 k j) := by
    show k0_pay167 (F := Ideal) (row x9 ((128 * k.val + j.val) % 16384 / 128)) (Shape.pair (d := S128x128.size) (Fin.ofNat 128 ((128 * k.val + j.val) % 16384)) l) = _
    rw [p, pay167_apply, row_eq]
  have hs : oneRow (shTab x8) (128 * k.val + j.val) (ix2 0 l) = Ideal.fptosi 32 (x8 (ix2 k j)) := by
    show k0_pay166 (F := Ideal) (row x8 ((128 * k.val + j.val) % 16384 / 128)) (Shape.pair (d := S128x128.size) (Fin.ofNat 128 ((128 * k.val + j.val) % 16384)) l) = _
    rw [p, pay166_apply, row_eq]; rfl
  have he : eightRows x12 v.toNat (ix2 r l) = x12 (ix2 (Fin.ofNat 65536 (v.toNat + r.val)) l) := by
    refine congrArg x12 (funext fun a => ?_); fin_cases a <;> rfl
  pointwise [pairB]
  rw [hw, hs, he]

/-- The sum of the block and the gathered rows at an element. -/
theorem sumV_apply (xs : Fin 8 → Vec Ideal S2048 .i32) (x8 x9 : Vec Ideal S128x128 .f32) (x12 : Vec Ideal S65536x128 .i32) (x10 : Vec Ideal S128x1024 .f32) (k : Fin 128) (r : Fin 8) (l : Fin 128) :
    sumV (ffnV xs x8 x9 x12) x10 (ix2 k ⟨r.val * 128 + l.val, by omega⟩)
      = x10 (ix2 k ⟨r.val * 128 + l.val, by omega⟩) + ∑ j : Fin 128, pairB x8 x9 x12 k.val j (wordAt (xs (Fin.ofNat 8 j.val)) (128 * (j.val / 8) + k.val)) (ix2 r l) := by
  rw [← fourChains_apply]
  have e : (Shape.pair (d := S8x128.size) r l) = ix2 r l := by funext a; fin_cases a <;> rfl
  refine (pay169_apply (rowOfAll (ffnV xs x8 x9 x12)) x10 k r l).trans ?_
  have h : rowOfAll (ffnV xs x8 x9 x12) r (ix3 k 0 l) = fourChains (F := Ideal) (fun j => pairB x8 x9 x12 k.val j (wordAt (xs (Fin.ofNat 8 j.val)) (128 * (j.val / 8) + k.val))) (Shape.pair (d := S8x128.size) r l) := rfl
  rw [h, e]

end Cert.KernelIdeal.Hand

end
-- ==== Proof.Blocks.lean ====
module

public import proofs.«01_k».proof.Proof.Launch
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Window)

variable (m : (ℓ : Loc nD τ sig) → Buf (Elt F) ℓ) (ρ : Dev nD → PrngReg)

/-! ## The blocks at a point, element by element -/

/-- The block index of stream `s` at a point. -/
def streamIndex (s : Fin 8) (t : Fin grid0.N) : ℕ :=
  match s with
  | 0 => win0_0.index t 0
  | 1 => win0_1.index t 0
  | 2 => win0_2.index t 0
  | 3 => win0_3.index t 0
  | 4 => win0_4.index t 0
  | 5 => win0_5.index t 0
  | 6 => win0_6.index t 0
  | 7 => win0_7.index t 0

theorem streamIndex_eq : ∀ (t : Fin grid0.N) (s : Fin 8), streamIndex s t = 8 * t.val + s.val := by decide +kernel

theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val / 32 * 4224 + 16 + t.val % 32 * 128 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = t.val ∧ win0_13.index t 1 = 0 := by decide +kernel

theorem points (t : Fin cfg0.N) : t.val < 256 := t.isLt

set_option maxHeartbeats 4000000 in
/-- A word of a stream's block. -/
theorem streams_apply (c : Dev nD) (t : Fin cfg0.N) (s : Fin 8) (n : Fin 2048) :
    streamsAt m c t s (ix1 n) = V m c main_v12 (ix1 ⟨(8 * t.val + s.val) * 2048 + n.val, by have := points t; omega⟩) := by
  have h := streamIndex_eq t s
  fin_cases s
  · exact congrArg (V m c main_v12) (funext fun a => Fin.ext ((Window.rect_emb_val_off win0_0 t (ix1 n) a).trans (by fin_cases a; exact congrArg (· * 2048 + n.val) h)))
  · exact congrArg (V m c main_v12) (funext fun a => Fin.ext ((Window.rect_emb_val_off win0_1 t (ix1 n) a).trans (by fin_cases a; exact congrArg (· * 2048 + n.val) h)))
  · exact congrArg (V m c main_v12) (funext fun a => Fin.ext ((Window.rect_emb_val_off win0_2 t (ix1 n) a).trans (by fin_cases a; exact congrArg (· * 2048 + n.val) h)))
  · exact congrArg (V m c main_v12) (funext fun a => Fin.ext ((Window.rect_emb_val_off win0_3 t (ix1 n) a).trans (by fin_cases a; exact congrArg (· * 2048 + n.val) h)))
  · exact congrArg (V m c main_v12) (funext fun a => Fin.ext ((Window.rect_emb_val_off win0_4 t (ix1 n) a).trans (by fin_cases a; exact congrArg (· * 2048 + n.val) h)))
  · exact congrArg (V m c main_v12) (funext fun a => Fin.ext ((Window.rect_emb_val_off win0_5 t (ix1 n) a).trans (by fin_cases a; exact congrArg (· * 2048 + n.val) h)))
  · exact congrArg (V m c main_v12) (funext fun a => Fin.ext ((Window.rect_emb_val_off win0_6 t (ix1 n) a).trans (by fin_cases a; exact congrArg (· * 2048 + n.val) h)))
  · exact congrArg (V m c main_v12) (funext fun a => Fin.ext ((Window.rect_emb_val_off win0_7 t (ix1 n) a).trans (by fin_cases a; exact congrArg (· * 2048 + n.val) h)))

theorem block8 (c : Dev nD) (t : Fin cfg0.N) (k j : Fin 128) :
    iblk m c 8 t (ix2 k j) = V m c main_v11 (ix2 ⟨128 * t.val + k.val, by have := points t; omega⟩ j) :=
  congrArg (V m c main_v11) (funext fun a => Fin.ext ((Window.rect_emb_val_off win0_8 t (ix2 k j) a).trans (by
    fin_cases a
    · exact (congrArg (· * 128 + k.val) (index8 t).1).trans (by show t.val * 128 + k.val = 128 * t.val + k.val; omega)
    · exact (congrArg (· * 128 + j.val) (index8 t).2).trans (by show 0 * 128 + j.val = j.val; omega))))

theorem block9 (c : Dev nD) (t : Fin cfg0.N) (k j : Fin 128) :
    iblk m c 9 t (ix2 k j) = V m c main_v13 (ix2 ⟨128 * t.val + k.val, by have := points t; omega⟩ j) :=
  congrArg (V m c main_v13) (funext fun a => Fin.ext ((Window.rect_emb_val_off win0_9 t (ix2 k j) a).trans (by
    fin_cases a
    · exact (congrArg (· * 128 + k.val) (index9 t).1).trans (by show t.val * 128 + k.val = 128 * t.val + k.val; omega)
    · exact (congrArg (· * 128 + j.val) (index9 t).2).trans (by show 0 * 128 + j.val = j.val; omega))))

/-- The residual stream's block starts at an element offset: past the padding of each of eight sequences. -/
theorem block10 (c : Dev nD) (t : Fin cfg0.N) (k : Fin 128) (d : Fin 1024) :
    iblk m c 10 t (ix2 k d) = V m c main_arg2 (ix2 ⟨t.val / 32 * 4224 + 16 + t.val % 32 * 128 + k.val, by have := points t; omega⟩ d) :=
  congrArg (V m c main_arg2) (funext fun a => Fin.ext ((Window.rect_emb_val_off win0_10 t (ix2 k d) a).trans (by
    fin_cases a
    · exact congrArg (· + k.val) (index10 t).1
    · exact (congrArg (· + d.val) (index10 t).2).trans (Nat.zero_add _))))

theorem block11 (c : Dev nD) (t : Fin cfg0.N) (d : Fin 1024) :
    iblk m c 11 t (ix2 0 d) = V m c main_v14 (ix2 0 d) :=
  congrArg (V m c main_v14) (funext fun a => Fin.ext ((Window.rect_emb_val_off win0_11 t (ix2 0 d) a).trans (by
    fin_cases a
    · exact congrArg (· * 1 + 0) (index11 t).1
    · exact (congrArg (· * 1024 + d.val) (index11 t).2).trans (by show 0 * 1024 + d.val = d.val; omega))))

theorem block12 (c : Dev nD) (t : Fin cfg0.N) (n : Fin 65536) (l : Fin 128) :
    iblk m c 12 t (ix2 n l) = V m c main_v22 (ix2 n l) :=
  congrArg (V m c main_v22) (funext fun a => Fin.ext ((Window.rect_emb_val_off win0_12 t (ix2 n l) a).trans (by
    fin_cases a
    · exact (congrArg (· * 65536 + n.val) (index12 t).1).trans (by show 0 * 65536 + n.val = n.val; omega)
    · exact (congrArg (· * 128 + l.val) (index12 t).2).trans (by show 0 * 128 + l.val = l.val; omega))))

/-- Where the output's block sits. -/
theorem out_emb (t : Fin cfg0.N) (k : Fin 128) (d : Fin 1024) :
    ((cfg0.win 13).blk t).view.emb (ix2 k d) = (ix2 ⟨128 * t.val + k.val, by have := points t; omega⟩ d : S32768x1024.Idx) :=
  funext fun a => Fin.ext ((Window.rect_emb_val_off win0_13 t (ix2 k d) a).trans (by
    fin_cases a
    · exact (congrArg (· * 128 + k.val) (index13 t).1).trans (by show t.val * 128 + k.val = 128 * t.val + k.val; omega)
    · exact (congrArg (· * 1024 + d.val) (index13 t).2).trans (by show 0 * 1024 + d.val = d.val; omega)))

theorem disjoint_out : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (Fin.ext ((index13 t).1.symm.trans ((congrFun h 0).trans (index13 t').1)))

theorem flush_out : ∀ t : Fin cfg0.N, (cfg0.win 13).flush t = true :=
  (fun t => (Pipeline.Window.flush_reads win0_13 rfl 0 (by decide) (by decide) (Pipeline.Window.sep_of_coord cc0_transform_13 0 0 (fun _ => rfl) (by decide)) (P := 1) (m := 0) (by decide) rfl t).mpr (Nat.mod_one _) : ∀ t : Fin grid0.N, win0_13.flush t = true)

/-- The result after the run, at an element of point `t`'s block, is that element of what the body leaves. -/
theorem arr_out (c : Dev nD) (t : Fin cfg0.N) (k : Fin 128) (d : Fin 1024) :
    (dats m 0 c).arrAt 13 cfg0.N (ix2 ⟨128 * t.val + k.val, by have := points t; omega⟩ d : S32768x1024.Idx) = outAt m c t (ix2 k d) := by
  rw [← out_emb t k d]
  refine ((dats m 0 c).arrAt_emb_eq_flushed 13 disjoint_out t (flush_out t) (ix2 k d)).trans ?_
  show (dats m 0 c).after 13 t (ix2 k d) = _
  rw [after13]

end Cert.KernelIdeal.Hand

end
-- ==== Proof.Words.lean ====
module

public import proofs.«01_k».proof.Proof.Vals
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Words: the shift that an expert id selects, and the half of a packed word that it picks -/

/-- The shift of an expert id: 0 for the first half of the experts, 16 for the second. -/
theorem shift_word (v : BitVec 32) (h : v.toNat < 16384) :
    IntOp.shli .host (IntOp.shrsi .host v 13#32) 4#32 = if v.toNat < 8192 then 0#32 else 16#32 := by
  have hs : IntOp.shrsi .host v 13#32 = v >>> (13 : ℕ) := by
    have hm : v.msb = false := by rw [BitVec.msb_eq_false_iff_two_mul_lt]; omega
    simp [IntOp.shrsi, BitVec.sshiftRight', BitVec.sshiftRight_eq_of_msb_false hm]
  rw [hs]
  have hl : IntOp.shli .host (v >>> (13 : ℕ)) 4#32 = (v >>> (13 : ℕ)) <<< (4 : ℕ) := by
    simp [IntOp.shli]
  rw [hl]
  apply BitVec.eq_of_toNat_eq
  rw [BitVec.toNat_shiftLeft, BitVec.toNat_ushiftRight, Nat.shiftRight_eq_div_pow, Nat.shiftLeft_eq]
  split
  · rw [Nat.div_eq_of_lt (by omega)]; rfl
  · rw [show v.toNat / 2 ^ 13 = 1 by omega]; rfl

/-- An integer that is small, as a float and back, is itself. -/
theorem round_trip (n : BitVec 32) (h : n = 0#32 ∨ n = 16#32) :
    Ideal.fptosi 32 (FloatOps.sitofp (F := Ideal) .f32 n) = n := by
  have key (z : ℤ) : Ideal.toIntClamped (-(2 ^ 31 : ℕ)) ((2 ^ 31 : ℕ) - 1) ((z : ℝ) : EReal) = max (-((2 ^ 31 : ℕ) : ℤ)) (min (((2 ^ 31 : ℕ) : ℤ) - 1) z) := by
    show max _ (min _ (if (0 : ℝ) ≤ (z : ℝ) then ⌊(z : ℝ)⌋ else ⌈(z : ℝ)⌉)) = _
    rw [Int.floor_intCast, Int.ceil_intCast, ite_self]
  show BitVec.ofInt 32 (Ideal.toIntClamped (-(2 ^ 31 : ℕ)) ((2 ^ 31 : ℕ) - 1) ((n.toInt : ℝ) : EReal)) = n
  rw [key]
  rcases h with rfl | rfl <;> decide

/-- Two words' low halves in one word. -/
def packed (a b : BitVec 32) : BitVec 32 := IntOp.ori (IntOp.shli .host a 16#32) (IntOp.andi b 65535#32)

/-- The bits of the two masks. -/
theorem mask_bits : ∀ i : Fin 32, (65535#32 : BitVec 32)[i] = decide (i.val < 16) ∧ (4294901760#32 : BitVec 32)[i] = !decide (i.val < 16) := by decide

theorem high_half (a b : BitVec 32) : IntOp.andi (IntOp.shli .vector (packed a b) 0#32) 4294901760#32 = IntOp.shli .host a 16#32 := by
  have e1 (x : BitVec 32) : IntOp.shli .vector x 0#32 = x := by simp [IntOp.shli]
  have e2 (x : BitVec 32) : IntOp.shli .host x 16#32 = x <<< (16 : ℕ) := by simp [IntOp.shli]
  rw [e1, packed, e2]
  show ((a <<< (16 : ℕ)) ||| (b &&& 65535#32)) &&& 4294901760#32 = _
  ext i hi
  simp only [BitVec.getElem_and, BitVec.getElem_or, BitVec.getElem_shiftLeft]
  have h := mask_bits ⟨i, hi⟩
  simp only [Fin.getElem_fin] at h
  rw [h.1, h.2]
  by_cases hlt : i < 16 <;> simp [hlt]

theorem low_half (a b : BitVec 32) : IntOp.andi (IntOp.shli .vector (packed a b) 16#32) 4294901760#32 = IntOp.shli .host b 16#32 := by
  have e1 (x : BitVec 32) : IntOp.shli .vector x 16#32 = x <<< (16 : ℕ) := by simp [IntOp.shli]
  have e2 (x : BitVec 32) : IntOp.shli .host x 16#32 = x <<< (16 : ℕ) := by simp [IntOp.shli]
  rw [e1, packed, e2, e2]
  show (((a <<< (16 : ℕ)) ||| (b &&& 65535#32)) <<< (16 : ℕ)) &&& 4294901760#32 = _
  ext i hi
  simp only [BitVec.getElem_and, BitVec.getElem_or, BitVec.getElem_shiftLeft]
  have h := mask_bits ⟨i, hi⟩
  simp only [Fin.getElem_fin] at h
  rw [h.2]
  by_cases hlt : i < 16
  · simp [hlt]
  · have h' := mask_bits ⟨i - 16, by omega⟩
    simp only [Fin.getElem_fin] at h'
    simp [hlt, h'.1, show i - 16 < 16 by omega]

/-- Of the word that packs rows `v % 8192` and `8192 + v % 8192`, the shift of `v` picks row `v`. -/
theorem picked (C : ℕ → BitVec 32) (v : BitVec 32) (h : v.toNat < 16384) :
    IntOp.andi (IntOp.shli .vector (packed (C (v.toNat % 8192)) (C (8192 + v.toNat % 8192)))
      (Ideal.fptosi 32 (FloatOps.sitofp (F := Ideal) .f32 (IntOp.shli .host (IntOp.shrsi .host v 13#32) 4#32)))) 4294901760#32
      = IntOp.shli .host (C v.toNat) 16#32 := by
  rw [shift_word v h]
  split
  · rw [round_trip _ (Or.inl rfl), high_half, Nat.mod_eq_of_lt (by assumption)]
  · rw [round_trip _ (Or.inr rfl), low_half, show 8192 + v.toNat % 8192 = v.toNat by omega]

end Cert.KernelIdeal.Hand

end
-- ==== Proof.Spec.lean ====
module

public import proofs.«01_k».proof.Proof.Words
public import proofs.«01_k».proof.Proof.Host

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The result, element by element, and the host's arrays at an element -/

/-- Pair `j` of token `T`: its place among 8 heads of 16. -/
def pairAt (T : Fin 32768) (j : Fin 128) : S32768x8x16.Idx := ix3 T ⟨j.val / 16, by omega⟩ ⟨j.val % 16, by omega⟩

/-- The row of the padded residual stream that token `T` reads. -/
def padded (T : Fin 32768) : Fin 33792 := ⟨T.val / 4096 * 4224 + 16 + T.val % 4096, by omega⟩

/-- The word of the table for an expert id. -/
def tableWord (codes : Vec Ideal S16384x1024 .i32) (v : BitVec 32) (d : Fin 1024) : BitVec 32 :=
  IntOp.shli .host (codes (ix2 ⟨v.toNat % 16384, Nat.mod_lt _ (by decide)⟩ d)) 16#32

/-- The sum of the residual stream and the weighted rows of the table. -/
def sumAt (e : Vec Ideal S32768x8x16 .i32) (w : Vec Ideal S32768x8x16 .f32) (h1 : Vec Ideal S33792x1024 .f32) (codes : Vec Ideal S16384x1024 .i32) (T : Fin 32768) (d : Fin 1024) : EReal :=
  h1 (ix2 (padded T) d) + ∑ j : Fin 128, w (pairAt T j) * Ideal.ofBits .f32 (tableWord codes (e (pairAt T j)) d)

/-- The result: that sum over its root mean square, times the gains. -/
def resultAt (e : Vec Ideal S32768x8x16 .i32) (w : Vec Ideal S32768x8x16 .f32) (h1 : Vec Ideal S33792x1024 .f32) (g : Vec Ideal S1024 .f32) (codes : Vec Ideal S16384x1024 .i32) (T : Fin 32768) (d : Fin 1024) : EReal :=
  sumAt e w h1 codes T d * Ideal.rsqrt (Ideal.div (∑ d' : Fin 1024, sumAt e w h1 codes T d' * sumAt e w h1 codes T d') (Ideal.ofBits .f32 0x44800000#32) + Ideal.ofBits .f32 0x358637BD#32) * g (ix1 d)

/-- A word of the streams: point `t`, stream `s`, group `g`, token `k`. -/
theorem offs_apply (e : Vec Ideal S32768x8x16 .i32) (t : Fin 256) (s : Fin 8) (g : Fin 16) (k : Fin 128) :
    offsOf e (ix1 ⟨(8 * t.val + s.val) * 2048 + (128 * g.val + k.val), by omega⟩)
      = IntOp.muli (IntOp.andi (e (pairAt ⟨128 * t.val + k.val, by omega⟩ ⟨8 * g.val + s.val, by omega⟩)) 8191#32) 8#32 := by
  pointwise [offsOf, pairAt]
  refine congrArg (fun z => IntOp.muli (IntOp.andi (e z) 8191#32) 8#32) ?_
  refine (ix3_inj _ _ _ _ _ _).mpr ⟨Fin.ext ?_, Fin.ext ?_, Fin.ext ?_⟩ <;> simp only [] <;> omega

theorem shf_apply (e : Vec Ideal S32768x8x16 .i32) (T : Fin 32768) (j : Fin 128) :
    shfOf e (ix2 T j) = FloatOps.sitofp (F := Ideal) .f32 (IntOp.shli .host (IntOp.shrsi .host (e (pairAt T j)) 13#32) 4#32) := by
  pointwise [shfOf, pairAt]

theorem weight_apply (w : Vec Ideal S32768x8x16 .f32) (T : Fin 32768) (j : Fin 128) :
    shapeCast S32768x128 w shapeCasts_S32768x8x16_S32768x128 (ix2 T j) = w (pairAt T j) := by
  pointwise [pairAt]

theorem pack_apply (codes : Vec Ideal S16384x1024 .i32) (n : Fin 8192) (r : Fin 8) (l : Fin 128) :
    packOf codes (ix2 ⟨n.val * 8 + r.val, by omega⟩ l)
      = packed (codes (ix2 ⟨n.val, by omega⟩ ⟨r.val * 128 + l.val, by omega⟩)) (codes (ix2 ⟨8192 + n.val, by omega⟩ ⟨r.val * 128 + l.val, by omega⟩)) := by
  pointwise [packOf, packed]
  refine congrArg₂ IntOp.ori (congrArg (IntOp.shli .host · 16#32) (congrArg codes ?_)) (congrArg (IntOp.andi · 65535#32) (congrArg codes ?_))
  all_goals (refine (ix2_inj _ _ _ _).mpr ⟨Fin.ext ?_, Fin.ext ?_⟩ <;> simp only [] <;> omega)

end Cert.KernelIdeal.Hand

end
-- ==== Proof.KernelVal.lean ====
module

public import proofs.«01_k».proof.Proof.Entries
public import proofs.«01_k».proof.Proof.Blocks
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body leaves, at the extended reals, in the arguments' words -/

variable (m : (ℓ : Loc nD τ sig) → Buf (Elt Ideal) ℓ)

/-- The kernel's arguments on a device. -/
abbrev argE (c : Dev nD) : Vec Ideal S32768x8x16 .i32 := m ((c : Thread nD τ).loc main_arg0)
abbrev argW (c : Dev nD) : Vec Ideal S32768x8x16 .f32 := m ((c : Thread nD τ).loc main_arg1)
abbrev argH (c : Dev nD) : Vec Ideal S33792x1024 .f32 := m ((c : Thread nD τ).loc main_arg2)
abbrev argG (c : Dev nD) : Vec Ideal S1024 .f32 := m ((c : Thread nD τ).loc main_arg3)
abbrev argC (c : Dev nD) : Vec Ideal S16384x1024 .i32 := m ((c : Thread nD τ).loc main_arg4)

/-- Token `k` of point `t`. -/
abbrev token (t : Fin cfg0.N) (k : Fin 128) : Fin 32768 := ⟨128 * t.val + k.val, by have := points t; omega⟩

/-- The word of pair `j` of a token in its stream. -/
theorem word_apply (c : Dev nD) (t : Fin cfg0.N) (k j : Fin 128) :
    wordAt (streamsAt m c t (Fin.ofNat 8 j.val)) (128 * (j.val / 8) + k.val)
      = (argE m c (pairAt (token t k) j) &&& 8191#32) * 8#32 := by
  have ht := points t
  have e0 : (128 * (j.val / 8) + k.val) % 2048 = 128 * (j.val / 8) + k.val := Nat.mod_eq_of_lt (by omega)
  have e1 : wordAt (streamsAt m c t (Fin.ofNat 8 j.val)) (128 * (j.val / 8) + k.val)
      = streamsAt m c t (Fin.ofNat 8 j.val) (ix1 ⟨128 * (j.val / 8) + k.val, by omega⟩) :=
    congrArg (streamsAt m c t (Fin.ofNat 8 j.val)) (funext fun a => Fin.ext (by fin_cases a; exact e0))
  refine e1.trans ((streams_apply m c t _ _).trans ((congrFun (V_offs m c) _).trans ((offs_apply (argE m c) ⟨t.val, ht⟩ (Fin.ofNat 8 j.val) ⟨j.val / 8, by omega⟩ k).trans ?_)))
  have hj : pairAt (⟨128 * t.val + k.val, by omega⟩ : Fin 32768) ⟨8 * (j.val / 8) + (Fin.ofNat 8 j.val).val, by show 8 * (j.val / 8) + j.val % 8 < 128; omega⟩ = pairAt (token t k) j :=
    congrArg (pairAt (token t k)) (Fin.ext (by show 8 * (j.val / 8) + j.val % 8 = j.val; omega))
  exact congrArg (fun z => (argE m c z &&& 8191#32) * 8#32) hj

/-- The packed word that pair `j` of a token reads for feature `r * 128 + l`. -/
theorem table_apply (c : Dev nD) (t : Fin cfg0.N) (v : BitVec 32) (r : Fin 8) (l : Fin 128) :
    iblk m c 12 t (ix2 (Fin.ofNat 65536 (((v &&& 8191#32) * 8#32).toNat + r.val)) l)
      = packed (argC m c (ix2 ⟨v.toNat % 8192, by omega⟩ ⟨r.val * 128 + l.val, by omega⟩)) (argC m c (ix2 ⟨8192 + v.toNat % 8192, by omega⟩ ⟨r.val * 128 + l.val, by omega⟩)) := by
  refine (block12 m c t _ l).trans ((congrFun (V_tab m c) _).trans (Eq.trans ?_ (pack_apply (argC m c) ⟨v.toNat % 8192, Nat.mod_lt _ (by decide)⟩ r l)))
  refine congrArg (packOf (argC m c)) ((ix2_inj _ _ _ _).mpr ⟨Fin.ext ?_, rfl⟩)
  show (((v &&& 8191#32) * 8#32).toNat + r.val) % 65536 = v.toNat % 8192 * 8 + r.val
  rw [mask_mul]
  exact Nat.mod_eq_of_lt (by omega)

/-- One pair's contribution to a token at feature `r * 128 + l`. -/
theorem pair_value (c : Dev nD) (hpre : ∀ z, (argE m c z).toNat < 16384) (t : Fin cfg0.N) (k j : Fin 128) (r : Fin 8) (l : Fin 128) :
    pairB (iblk m c 8 t) (iblk m c 9 t) (iblk m c 12 t) k.val j (wordAt (streamsAt m c t (Fin.ofNat 8 j.val)) (128 * (j.val / 8) + k.val)) (ix2 r l)
      = argW m c (pairAt (token t k) j) * Ideal.ofBits .f32 (tableWord (argC m c) (argE m c (pairAt (token t k) j)) ⟨r.val * 128 + l.val, by omega⟩) := by
  have h := hpre (pairAt (token t k) j)
  have hw : iblk m c 9 t (ix2 k j) = argW m c (pairAt (token t k) j) :=
    (block9 m c t k j).trans ((congrFun (V_w m c) _).trans (weight_apply (argW m c) (token t k) j))
  have hs : iblk m c 8 t (ix2 k j) = FloatOps.sitofp (F := Ideal) .f32 (IntOp.shli .host (IntOp.shrsi .host (argE m c (pairAt (token t k) j)) 13#32) 4#32) :=
    (block8 m c t k j).trans ((congrFun (V_shf m c) _).trans (shf_apply (argE m c) (token t k) j))
  rw [word_apply]
  refine (pairB_apply _ _ _ k j _ r l).trans ?_
  have hp := picked (fun n => argC m c (ix2 ⟨n % 16384, Nat.mod_lt _ (by decide)⟩ ⟨r.val * 128 + l.val, by omega⟩)) (argE m c (pairAt (token t k) j)) h
  have f0 : (⟨(argE m c (pairAt (token t k) j)).toNat % 8192 % 16384, Nat.mod_lt _ (by decide)⟩ : Fin 16384) = ⟨(argE m c (pairAt (token t k) j)).toNat % 8192, by omega⟩ := Fin.ext (by show _ % _ % _ = _ % _; omega)
  have f1 : (⟨(8192 + (argE m c (pairAt (token t k) j)).toNat % 8192) % 16384, Nat.mod_lt _ (by decide)⟩ : Fin 16384) = ⟨8192 + (argE m c (pairAt (token t k) j)).toNat % 8192, by omega⟩ := Fin.ext (by show (_ + _ % _) % _ = _ + _ % _; omega)
  refine congrArg₂ (· * ·) hw (congrArg (Ideal.ofBits .f32) (Eq.trans ?_ hp))
  rw [hs, table_apply m c t _ r l]
  simp only [f0, f1]

/-- The sum that the body forms, at a token and a feature. -/
theorem sum_value (c : Dev nD) (hpre : ∀ z, (argE m c z).toNat < 16384) (t : Fin cfg0.N) (k : Fin 128) (d : Fin 1024) :
    sumV (ffnV (streamsAt m c t) (iblk m c 8 t) (iblk m c 9 t) (iblk m c 12 t)) (iblk m c 10 t) (ix2 k d)
      = sumAt (argE m c) (argW m c) (argH m c) (argC m c) (token t k) d := by
  obtain ⟨r, l, rfl⟩ : ∃ (r : Fin 8) (l : Fin 128), d = ⟨r.val * 128 + l.val, by omega⟩ :=
    ⟨⟨d.val / 128, by omega⟩, ⟨d.val % 128, by omega⟩, Fin.ext (by show d.val = d.val / 128 * 128 + d.val % 128; omega)⟩
  have ht := points t
  refine (sumV_apply _ _ _ _ _ k r l).trans (congrArg₂ (· + ·) ?_ (Finset.sum_congr rfl fun j _ => pair_value m c hpre t k j r l))
  refine (block10 m c t k _).trans ((congrFun (V_main_arg2 m c) _).trans (congrArg (argH m c) ((ix2_inj _ _ _ _).mpr ⟨Fin.ext ?_, rfl⟩)))
  show t.val / 32 * 4224 + 16 + t.val % 32 * 128 + k.val = (128 * t.val + k.val) / 4096 * 4224 + 16 + (128 * t.val + k.val) % 4096
  omega

/-- What the body leaves, at a token and a feature, is the result there. -/
theorem out_value (c : Dev nD) (hpre : ∀ z, (argE m c z).toNat < 16384) (t : Fin cfg0.N) (k : Fin 128) (d : Fin 1024) :
    outAt m c t (ix2 k d) = resultAt (argE m c) (argW m c) (argH m c) (argG m c) (argC m c) (token t k) d := by
  have hg : iblk m c 11 t (ix2 0 d) = argG m c (ix1 d) := (block11 m c t d).trans ((congrFun (V_g m c) _).trans (by pointwise []))
  refine (pay1_apply _ _ _ k d).trans ?_
  refine congrArg₂ (· * ·) (congrArg₂ (· * ·) (sum_value m c hpre t k d) (congrArg Ideal.rsqrt (congrArg (· + _) (congrArg (Ideal.div · _) (Finset.sum_congr rfl fun d' _ => ?_))))) hg
  exact congrArg₂ (· * ·) (sum_value m c hpre t k d') (sum_value m c hpre t k d')

/-- The kernel's result, as one array of the arguments. -/
def resultOf (e : Vec Ideal S32768x8x16 .i32) (w : Vec Ideal S32768x8x16 .f32) (h1 : Vec Ideal S33792x1024 .f32) (g : Vec Ideal S1024 .f32) (codes : Vec Ideal S16384x1024 .i32) : Vec Ideal S32768x1024 .f32 :=
  fun z => resultAt e w h1 g codes (z 0) (z 1)

/-- The kernel's result array after the run. -/
theorem kernel_value (c : Dev nD) (hpre : ∀ z, (argE m c z).toNat < 16384) :
    (dats m 0 c).arrAt 13 cfg0.N = resultOf (argE m c) (argW m c) (argH m c) (argG m c) (argC m c) := by
  funext z
  have hz : z = (ix2 ⟨128 * ((z 0).val / 128) + (z 0).val % 128, (Nat.div_add_mod _ _).trans_lt (z 0).isLt⟩ (z 1) : S32768x1024.Idx) := by
    funext a; fin_cases a
    · exact Fin.ext (Nat.div_add_mod _ _).symm
    · rfl
  have h0 : (z 0).val < 32768 := (z 0).isLt
  have h := (arr_out m c ⟨(z 0).val / 128, by show _ < 256; omega⟩ ⟨(z 0).val % 128, by omega⟩ (z 1)).trans (out_value m c hpre _ _ _)
  refine (congrArg ((dats m 0 c).arrAt 13 cfg0.N) hz).trans (h.trans ?_)
  exact congrArg (fun T => resultAt (argE m c) (argW m c) (argH m c) (argG m c) (argC m c) T (z 1)) (Fin.ext (Nat.div_add_mod _ _))

end Cert.KernelIdeal.Hand

end
-- ==== Proof.RefVal.lean ====
module

public import proofs.«01_k».proof.Proof.Spec
public import proofs.«01_k».proof.Proof.Gen.ReferenceIdeal.Run
public import Idealize.ShloMosaic.Lib.Pointwise
public import Idealize.ShloMosaic.Lib.StableHlo.Predicate

@[expose] public section

set_option maxRecDepth 16384

noncomputable section

/-! # The reference's result at an element -/

namespace Cert.ReferenceIdeal.Hand

open Cert.ReferenceIdeal Cert.ReferenceIdeal.Gen Idealize.ShloMosaic Idealize.ShloMosaic.TcCoe Idealize.ShloMosaic.Tactic
open Cert.KernelIdeal.Hand (pairAt padded tableWord sumAt resultAt)

/-- Which row of the table an element of the gathered rows reads: the id's own, kept inside the table. -/
theorem gather_apply (x : Vec Ideal S16384x1024 .f32) (idx : IVec S32768x8x16x1 32) (T : Fin 32768) (h : Fin 8) (k : Fin 16) (d : Fin 1024) :
    Host.gather gather_S16384x1024_S32768x8x16x1_S32768x8x16x1024_3_0_n_n_0_3_11024 x idx (ix4 T h k d)
      = x (ix2 ⟨min (idx (ix4 T h k 0)).toInt.toNat 16383, by omega⟩ d) := by
  refine congrArg x (funext fun a => Fin.ext ?_)
  have e : gather_S16384x1024_S32768x8x16x1_S32768x8x16x1024_3_0_n_n_0_3_11024.siIdx (ix4 T h k d) (0 : Fin 1) = ix4 T h k 0 := by
    funext b; fin_cases b <;> rfl
  fin_cases a
  · show min (idx (gather_S16384x1024_S32768x8x16x1_S32768x8x16x1024_3_0_n_n_0_3_11024.siIdx (ix4 T h k d) (0 : Fin 1))).toInt.toNat (16384 - 1) + 0 + 0 = _
    rw [e]; rfl
  · show 0 + 0 + d.val = d.val
    omega

/-- The ids as the lookup takes them, a negative one counted from the table's end. -/
def ids (e : Vec Ideal S32768x8x16 .i32) : Vec Ideal S32768x8x16x1 .i32 :=
  broadcastInDim S32768x8x16x1 ![0, 1, 2] bcast_S32768x8x16_S32768x8x16x1_0_1_2 (select (cmpi .slt e (broadcastInDim S32768x8x16 ![] bcast_S_S32768x8x16 (constantI S_ 32 0#32))) (addi e (broadcastInDim S32768x8x16 ![] bcast_S_S32768x8x16 (constantI S_ 32 16384#32))) e)

theorem ids_apply (e : Vec Ideal S32768x8x16 .i32) (T : Fin 32768) (h : Fin 8) (k : Fin 16) (hpre : (e (ix3 T h k)).toNat < 16384) :
    ids e (ix4 T h k 0) = e (ix3 T h k) := by
  pointwise [ids]
  refine if_neg fun hc => ?_
  exact absurd ((StableHlo.Predicate.slt_iff_toNat (by omega) (by decide)).mp hc) (Nat.not_lt_zero _)

/-- The residual stream's rows and the weighted rows of the table, added. -/
def summed (e : Vec Ideal S32768x8x16 .i32) (w : FVec Ideal S32768x8x16 .f32) (h1 : FVec Ideal S33792x1024 .f32) (codes : Vec Ideal S16384x1024 .i32) : Vec Ideal S32768x1024 .f32 :=
  addf (shapeCast _ (extractStridedSlice S8x4096x1024 ![0, 16, 0] (shapeCast _ h1 shapeCasts_S33792x1024_S8x4224x1024) slices_S8x4224x1024_S8x4096x1024_0_16_0) shapeCasts_S8x4096x1024_S32768x1024) (Host.dotGeneral dot_S32768x8x16_S32768x8x16x1024_S32768x1024_12_12_n_3_0_0 none (φ₁ := .f32) (φ₂ := .f32) w (Host.gather gather_S16384x1024_S32768x8x16x1_S32768x8x16x1024_3_0_n_n_0_3_11024 (bitcastToFloat (F := Ideal) .f32 (Host.shli codes (broadcastInDim S16384x1024 ![] bcast_S_S16384x1024 (constantI S_ 32 16#32)))) (ids e)))

theorem summed_apply (e : Vec Ideal S32768x8x16 .i32) (w : FVec Ideal S32768x8x16 .f32) (h1 : FVec Ideal S33792x1024 .f32) (codes : Vec Ideal S16384x1024 .i32)
    (hpre : ∀ z, (e z).toNat < 16384) (T : Fin 32768) (d : Fin 1024) :
    summed e w h1 codes (ix2 T d) = sumAt e w h1 codes T d := by
  have pair (h : Fin 8) (k : Fin 16) : Host.gather gather_S16384x1024_S32768x8x16x1_S32768x8x16x1024_3_0_n_n_0_3_11024
      (bitcastToFloat (F := Ideal) .f32 (Host.shli codes (broadcastInDim S16384x1024 ![] bcast_S_S16384x1024 (constantI S_ 32 16#32)))) (ids e) (ix4 T h k d)
      = Ideal.ofBits .f32 (tableWord codes (e (ix3 T h k)) d) := by
    have hp := hpre (ix3 T h k)
    have hn : (e (ix3 T h k)).toInt.toNat = (e (ix3 T h k)).toNat := by rw [BitVec.toInt_eq_toNat_of_lt (by omega)]; rfl
    refine (gather_apply _ (ids e) T h k d).trans ?_
    pointwise [tableWord]
    refine congrArg (Ideal.ofBits .f32) (congrArg (IntOp.shli .host · 16#32) (congrArg codes ((ix2_inj _ _ _ _).mpr ⟨Fin.ext ?_, rfl⟩)))
    show min (ids e (ix4 T h k 0)).toInt.toNat 16383 = (e (ix3 T h k)).toNat % 16384
    rw [ids_apply e T h k hp, hn]
    omega
  pointwise [summed]
  simp only [pair]
  refine congrArg₂ (· + ·) (congrArg h1 ((ix2_inj _ _ _ _).mpr ⟨Fin.ext (Nat.add_assoc _ _ _).symm, rfl⟩)) ?_
  let f : Fin 8 → Fin 16 → EReal := fun h k => w (ix3 T h k) * Ideal.ofBits .f32 (tableWord codes (e (ix3 T h k)) d)
  show ∑ h : Fin 8, ∑ k : Fin 16, f h k = ∑ j : Fin (8 * 16), f ⟨j.val / 16, by omega⟩ ⟨j.val % 16, by omega⟩
  rw [← Fintype.sum_prod_type', ← Equiv.sum_comp finProdFinEquiv.symm]
  exact Finset.sum_congr rfl fun j _ => rfl

/-- The reference's result, of the sum: over its root mean square, times the gains. -/
def normed (s : FVec Ideal S32768x1024 .f32) (g : FVec Ideal S1024 .f32) : FVec Ideal S32768x1024 .f32 :=
  mulf (mulf s (broadcastInDim S32768x1024 ![0, 1] bcast_S32768x1_S32768x1024_0_1 (Host.rsqrt (addf (Host.divf (broadcastInDim S32768x1 ![0] bcast_S32768_S32768x1_0 (Host.reduceAdd (mulf s s) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem normed_apply (s : FVec Ideal S32768x1024 .f32) (g : FVec Ideal S1024 .f32) (T : Fin 32768) (d : Fin 1024) :
    normed s g (ix2 T d) = s (ix2 T d) * Ideal.rsqrt (Ideal.div (∑ d' : Fin 1024, s (ix2 T d') * s (ix2 T d')) (Ideal.ofBits .f32 0x44800000#32) + Ideal.ofBits .f32 0x358637BD#32) * g (ix1 d) := by
  pointwise [normed]

/-- The reference's result array is the array that the kernel's is. -/
theorem reference_value (e : Vec Ideal S32768x8x16 .i32) (w : FVec Ideal S32768x8x16 .f32) (h1 : FVec Ideal S33792x1024 .f32) (g : FVec Ideal S1024 .f32) (codes : Vec Ideal S16384x1024 .i32)
    (hpre : ∀ z, (e z).toNat < 16384) (z : S32768x1024.Idx) :
    normed (summed e w h1 codes) g z = resultAt e w h1 g codes (z 0) (z 1) := by
  obtain ⟨T, d, rfl⟩ : ∃ (T : Fin 32768) (d : Fin 1024), z = ix2 T d := ⟨z 0, z 1, by funext a; fin_cases a <;> rfl⟩
  refine (normed_apply _ g T d).trans ?_
  simp only [summed_apply e w h1 codes hpre]
  rfl

end Cert.ReferenceIdeal.Hand

end
-- ==== Proof.Equal.lean ====
module

public import proofs.«01_k».proof.Defs
public import proofs.«01_k».proof.Proof.KernelVal
public import proofs.«01_k».proof.Proof.RefVal
public import proofs.«01_k».proof.Proof.Gen.Pre_expert_ids
public import Idealize.ShloMosaic.Lib.ReduceAll
public import Idealize.ShloMosaic.Lib.Quiescent

@[expose] public section

set_option maxRecDepth 16384

noncomputable section

/-! # The kernel's result equals the reference's, and the reference's frame -/

namespace Cert.Proof

open Idealize.ShloMosaic Idealize.ShloMosaic.TcCoe Idealize.SL.Sem
open Cert.KernelIdeal.Hand (resultOf argE argW argH argG argC)

instance factsKernelIdeal : Cert.KernelIdeal.Facts := Cert.KernelIdeal.Gen.facts
instance factsReferenceIdeal : Cert.ReferenceIdeal.Facts := Cert.ReferenceIdeal.Gen.facts
instance factsPre : Cert.Pre_expert_ids.Facts := Cert.Pre_expert_ids.Gen.facts

/-- What the precondition says of an expert id: it is one of the table's rows. -/
theorem expert_ids_lt (m : (ℓ : Loc Cert.KernelIdeal.nD Cert.KernelIdeal.τ Cert.KernelIdeal.sig) → Buf (Elt Ideal) ℓ) (h : Cert.Pre_KernelIdeal_expert_ids m)
    (c : Dev Cert.KernelIdeal.nD) (z : Cert.KernelIdeal.S32768x8x16.Idx) : (argE m c z).toNat < 16384 := by
  have h0 := congrFun (h c) (fun a => a.elim0)
  have : Subsingleton Cert.Pre_expert_ids.S_.Idx := ⟨fun a b => funext fun i => i.elim0⟩
  have h1 : IntOp.andi (IntOp.cmpi .sge (argE m c z) 0#32) (IntOp.cmpi .slt (argE m c z) 16384#32) = 1#1 :=
    Host.reduce_andi_all _ _ _ _ _ h0 z
  obtain ⟨ha, hb⟩ := IntOp.andi_eq_one.1 h1
  have hs : (argE m c z).toNat < 2 ^ 31 := by
    by_contra hc
    have hneg : (argE m c z).toInt < 0 := by rw [BitVec.toInt_eq_toNat_cond]; have := (argE m c z).isLt; split <;> omega
    have hge : BitVec.ofBool ((0#32).sle (argE m c z)) = 1#1 := ha
    have : (0#32).sle (argE m c z) = true := by revert hge; cases (0#32).sle (argE m c z) <;> decide
    have h2 : (0 : ℤ) ≤ (argE m c z).toInt := by simpa [BitVec.sle] using this
    omega
  exact (StableHlo.Predicate.slt_iff_toNat hs (by decide)).mp hb

/-- The kernel over the extended reals, under the precondition, runs and leaves its arguments and counters as they were. -/
theorem frame_kernelIdeal_pre : Cert.quiescent_KernelIdeal_pre_expert_ids := fun m ρ _ =>
  (θ_run _ _ _).mono (fun _ h => ⟨fun c => (h.1 c).2, h.2⟩) (Cert.KernelIdeal.Hand.run_main (F := Ideal) m ρ)

/-- The reference runs, its arguments end as launched, its counters at zero. -/
theorem frame_referenceIdeal : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The same under the precondition. -/
theorem frame_referenceIdeal_pre : Cert.quiescent_ReferenceIdeal_pre_expert_ids := fun m ρ _ =>
  (θ_run _ _ _).mono (fun r h => ⟨fun c => (h c).2, sem_eq_zero_of_no_sems (by decide) r.2⟩) (Cert.ReferenceIdeal.Value.run (F := Ideal) m ρ)

/-- From memories that agree on the arguments both run to the same result, element by element. -/
theorem equal : Cert.algebraic_KernelIdeal_ReferenceIdeal_pre_expert_ids := fun m ρ m' ρ' hpre hag =>
  ⟨fun c => resultOf (argE m c) (argW m c) (argH m c) (argG m c) (argC m c),
    (θ_run _ _ _).mono (fun r h c => ⟨(h.1 c).1.trans (Cert.KernelIdeal.Hand.kernel_value m c (expert_ids_lt m hpre c)), (h.1 c).2⟩) (Cert.KernelIdeal.Hand.run_main (F := Ideal) m ρ),
    (θ_run _ _ _).mono (fun r h c => ⟨(h c).1.trans (by
      obtain ⟨h0, h1, h2, h3, h4⟩ := hag c
      rw [h0, h1, h2, h3, h4]
      exact funext fun z => Cert.ReferenceIdeal.Hand.reference_value (argE m c) (argW m c) (argH m c) (argG m c) (argC m c) (expert_ids_lt m hpre c) z), (h c).2⟩) (Cert.ReferenceIdeal.Value.run (F := Ideal) m' ρ')⟩

end Cert.Proof

end
-- ==== Proof.Out.lean ====
module

public import proofs.«01_k».proof.Proof.Gen.Kernel2Ideal.Value
public import Idealize.ShloMosaic.Lib.Pointwise
public import Idealize.ShloMosaic.Lib.StableHlo.Run

@[expose] public section

set_option maxRecDepth 16384

noncomputable section

/-! # The output projection and the lookup's queries: what they compute, and the kernel's results at an element -/

namespace Cert.Kernel2Ideal.Hand

open Cert.Kernel2Ideal Cert.Kernel2Ideal.Gen
open Idealize.ShloMosaic Idealize.ShloMosaic.TcCoe Idealize.ShloMosaic.Tactic Idealize.ShloMosaic.StableHlo
open Idealize.SL Idealize.SL.Sem
open Idealize.ShloMosaic.Pipeline (Window)

/-! ## The mathematics -/

/-- The residual stream with the two branches' projection added: the first half of the weights' rows meets the attention
    branch, the second half the convolution branch. -/
def mixedAt (a b : FVec Ideal S33792x512 .bf16) (h : FVec Ideal S33792x1024 .f32) (w : FVec Ideal S1024x1024 .f32) (T : Fin 33792) (d : Fin 1024) : EReal :=
  h (ix2 T d) + ((∑ j : Fin 512, a (ix2 T j) * w (ix2 ⟨j.val, by omega⟩ d)) + ∑ j : Fin 512, b (ix2 T j) * w (ix2 ⟨512 + j.val, by omega⟩ d))

/-- A row of that over its root mean square, times the gains. -/
def normAt (a b : FVec Ideal S33792x512 .bf16) (h : FVec Ideal S33792x1024 .f32) (w : FVec Ideal S1024x1024 .f32) (g : FVec Ideal S1024 .f32) (T : Fin 33792) (d : Fin 1024) : EReal :=
  mixedAt a b h w T d * Ideal.rsqrt (Ideal.div (∑ d' : Fin 1024, mixedAt a b h w T d' * mixedAt a b h w T d') (Ideal.ofBits .f32 0x44800000#32) + Ideal.ofBits .f32 0x358637BD#32) * g (ix1 d)

/-- The normed row times a column of the query weights. -/
def queryAt (a b : FVec Ideal S33792x512 .bf16) (h : FVec Ideal S33792x1024 .f32) (w : FVec Ideal S1024x1024 .f32) (g : FVec Ideal S1024 .f32) (q : FVec Ideal S1024x2048 .f32) (T : Fin 33792) (n : Fin 2048) : EReal :=
  ∑ d : Fin 1024, normAt a b h w g T d * q (ix2 d n)

/-- The first result. -/
def mixed (a b : FVec Ideal S33792x512 .bf16) (h : FVec Ideal S33792x1024 .f32) (w : FVec Ideal S1024x1024 .f32) : FVec Ideal S33792x1024 .f32 :=
  fun z => mixedAt a b h w (z 0) (z 1)

/-- Feature `r * 128 + l`. -/
abbrev feature (r : Fin 8) (l : Fin 128) : Fin 1024 := ⟨r.val * 128 + l.val, by omega⟩

/-- Column `s * 128 + l` of the queries. -/
abbrev column (s : Fin 16) (l : Fin 128) : Fin 2048 := ⟨s.val * 128 + l.val, by omega⟩

/-- The second result: the normed rows in tiles of eight by 128. -/
def rows (a b : FVec Ideal S33792x512 .bf16) (h : FVec Ideal S33792x1024 .f32) (w : FVec Ideal S1024x1024 .f32) (g : FVec Ideal S1024 .f32) : FVec Ideal S33792x8x128 .f32 :=
  fun z => normAt a b h w g (z 0) (feature (z 1) (z 2))

/-- The third result: the queries, one matrix per head's half. -/
def queries (a b : FVec Ideal S33792x512 .bf16) (h : FVec Ideal S33792x1024 .f32) (w : FVec Ideal S1024x1024 .f32) (g : FVec Ideal S1024 .f32) (q : FVec Ideal S1024x2048 .f32) : FVec Ideal S16x33792x128 .bf16 :=
  fun z => queryAt a b h w g q (z 1) (column (z 0) (z 2))

/-! ## The body's values at an element -/

/-- The sum that the body forms, at a row of the block and a feature. -/
theorem sum_apply (a : FVec Ideal S512x512 .bf16) (u : FVec Ideal S512x1024 .bf16) (b : FVec Ideal S512x512 .bf16) (v : FVec Ideal S512x1024 .bf16) (h : FVec Ideal S512x1024 .f32) (k : Fin 512) (d : Fin 1024) :
    k0_pay4 (F := Ideal) a u b v h (ix2 k d) = h (ix2 k d) + ((∑ j : Fin 512, a (ix2 k j) * u (ix2 j d)) + ∑ j : Fin 512, b (ix2 k j) * v (ix2 j d)) := by
  pointwise [k0_pay4]

/-- The normed sum. -/
theorem normed_apply (a : FVec Ideal S512x512 .bf16) (u : FVec Ideal S512x1024 .bf16) (b : FVec Ideal S512x512 .bf16) (v : FVec Ideal S512x1024 .bf16) (h : FVec Ideal S512x1024 .f32) (g : FVec Ideal S1x1024 .f32) (k : Fin 512) (d : Fin 1024) :
    k0_pay5 (F := Ideal) a u b v h g (ix2 k d)
      = k0_pay4 (F := Ideal) a u b v h (ix2 k d) * Ideal.rsqrt (Ideal.div (∑ d' : Fin 1024, k0_pay4 (F := Ideal) a u b v h (ix2 k d') * k0_pay4 (F := Ideal) a u b v h (ix2 k d')) (Ideal.ofBits .f32 0x44800000#32) + Ideal.ofBits .f32 0x358637BD#32) * g (ix2 0 d) := by
  pointwise [k0_pay5]

/-- The product with the query weights. -/
theorem product_apply (x : FVec Ideal S512x1024 .f32) (q : FVec Ideal S1024x2048 .bf16) (k : Fin 512) (n : Fin 2048) :
    k0_pay15 (F := Ideal) x q (ix2 k n) = ∑ d : Fin 1024, x (ix2 k d) * q (ix2 d n) := by
  pointwise [k0_pay15]

/-! ## The blocks at a point -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 ∧ win0_7.index t 2 = 0 := by decide +kernel
theorem index8 : ∀ t : Fin grid0.N, win0_8.index t 0 = 0 ∧ win0_8.index t 1 = t.val ∧ win0_8.index t 2 = 0 := by decide +kernel

theorem points (t : Fin cfg0.N) : t.val < 66 := t.isLt

/-- Row `k` of point `t`. -/
abbrev row (t : Fin cfg0.N) (k : Fin 512) : Fin 33792 := ⟨512 * t.val + k.val, by have := points t; omega⟩

variable (m : (ℓ : Loc nD τ sig) → Buf (Elt Ideal) ℓ)

/-- The kernel's arguments on a device. -/
abbrev argA (c : Dev nD) : FVec Ideal S33792x512 .bf16 := m ((c : Thread nD τ).loc main_arg0)
abbrev argB (c : Dev nD) : FVec Ideal S33792x512 .bf16 := m ((c : Thread nD τ).loc main_arg1)
abbrev argH (c : Dev nD) : FVec Ideal S33792x1024 .f32 := m ((c : Thread nD τ).loc main_arg2)
abbrev argW (c : Dev nD) : FVec Ideal S1024x1024 .f32 := m ((c : Thread nD τ).loc main_arg3)
abbrev argG (c : Dev nD) : FVec Ideal S1024 .f32 := m ((c : Thread nD τ).loc main_arg4)
abbrev argQ (c : Dev nD) : FVec Ideal S1024x2048 .f32 := m ((c : Thread nD τ).loc main_arg5)

theorem V_w (c : Dev nD) : V m c main_v0 = (truncf .bf16 (argW m c) bitsLt_bf16_f32 : FVec Ideal S1024x1024 .bf16) := by
  unfold V; after_results_simp <;> rfl

theorem V_g (c : Dev nD) : V m c main_v1 = broadcastInDim S1x1024 ![1] bcast_S1024_S1x1024_1 (argG m c) := by
  unfold V; after_results_simp <;> rfl

theorem V_q (c : Dev nD) : V m c main_v2 = (truncf .bf16 (argQ m c) bitsLt_bf16_f32 : FVec Ideal S1024x2048 .bf16) := by
  unfold V; after_results_simp <;> rfl

theorem block0 (c : Dev nD) (t : Fin cfg0.N) (k j : Fin 512) :
    iblk m c 0 t (ix2 k j) = argA m c (ix2 (row t k) j) :=
  (congrArg (V m c main_arg0) (funext fun a => Fin.ext ((Window.rect_emb_val_off win0_0 t (ix2 k j) a).trans (by
    fin_cases a
    · exact (congrArg (· * 512 + k.val) (index0 t).1).trans (by show t.val * 512 + k.val = 512 * t.val + k.val; omega)
    · exact (congrArg (· * 512 + j.val) (index0 t).2).trans (by show 0 * 512 + j.val = j.val; omega))))).trans (congrFun (V_main_arg0 m c) _)

theorem block1 (c : Dev nD) (t : Fin cfg0.N) (k j : Fin 512) :
    iblk m c 1 t (ix2 k j) = argB m c (ix2 (row t k) j) :=
  (congrArg (V m c main_arg1) (funext fun a => Fin.ext ((Window.rect_emb_val_off win0_1 t (ix2 k j) a).trans (by
    fin_cases a
    · exact (congrArg (· * 512 + k.val) (index1 t).1).trans (by show t.val * 512 + k.val = 512 * t.val + k.val; omega)
    · exact (congrArg (· * 512 + j.val) (index1 t).2).trans (by show 0 * 512 + j.val = j.val; omega))))).trans (congrFun (V_main_arg1 m c) _)

theorem block2 (c : Dev nD) (t : Fin cfg0.N) (k : Fin 512) (d : Fin 1024) :
    iblk m c 2 t (ix2 k d) = argH m c (ix2 (row t k) d) :=
  (congrArg (V m c main_arg2) (funext fun a => Fin.ext ((Window.rect_emb_val_off win0_2 t (ix2 k d) a).trans (by
    fin_cases a
    · exact (congrArg (· * 512 + k.val) (index2 t).1).trans (by show t.val * 512 + k.val = 512 * t.val + k.val; omega)
    · exact (congrArg (· * 1024 + d.val) (index2 t).2).trans (by show 0 * 1024 + d.val = d.val; omega))))).trans (congrFun (V_main_arg2 m c) _)

theorem block3 (c : Dev nD) (t : Fin cfg0.N) (i d : Fin 1024) :
    iblk m c 3 t (ix2 i d) = argW m c (ix2 i d) :=
  (congrArg (V m c main_v0) (funext fun a => Fin.ext ((Window.rect_emb_val_off win0_3 t (ix2 i d) a).trans (by
    fin_cases a
    · exact (congrArg (· * 1024 + i.val) (index3 t).1).trans (by show 0 * 1024 + i.val = i.val; omega)
    · exact (congrArg (· * 1024 + d.val) (index3 t).2).trans (by show 0 * 1024 + d.val = d.val; omega))))).trans
    ((congrFun (V_w m c) (ix2 i d)).trans (by pointwise []))

theorem block4 (c : Dev nD) (t : Fin cfg0.N) (d : Fin 1024) :
    iblk m c 4 t (ix2 0 d) = argG m c (ix1 d) :=
  (congrArg (V m c main_v1) (funext fun a => Fin.ext ((Window.rect_emb_val_off win0_4 t (ix2 0 d) a).trans (by
    fin_cases a
    · exact congrArg (· * 1 + 0) (index4 t).1
    · exact (congrArg (· * 1024 + d.val) (index4 t).2).trans (by show 0 * 1024 + d.val = d.val; omega))))).trans
    ((congrFun (V_g m c) (ix2 0 d)).trans (by pointwise []))

theorem block5 (c : Dev nD) (t : Fin cfg0.N) (d : Fin 1024) (n : Fin 2048) :
    iblk m c 5 t (ix2 d n) = argQ m c (ix2 d n) :=
  (congrArg (V m c main_v2) (funext fun a => Fin.ext ((Window.rect_emb_val_off win0_5 t (ix2 d n) a).trans (by
    fin_cases a
    · exact (congrArg (· * 1024 + d.val) (index5 t).1).trans (by show 0 * 1024 + d.val = d.val; omega)
    · exact (congrArg (· * 2048 + n.val) (index5 t).2).trans (by show 0 * 2048 + n.val = n.val; omega))))).trans
    ((congrFun (V_q m c) (ix2 d n)).trans (by pointwise []))

theorem zero2 : (![0, 0] : Fin 2 → ℕ) = fun _ => 0 := by funext a; fin_cases a <;> rfl

theorem ld0 (x : FVec Ideal S512x512 .bf16) : View.ld (Val := Elt Ideal) (e' := .bf16) x r0_0 = x := View.ld_unit_zero (Val := Elt Ideal) (S := S512x512) (e := .bf16) zero2 inb_S512x512_S512x512_0_0 x
theorem ld3 (x : FVec Ideal S512x1024 .f32) : View.ld (Val := Elt Ideal) (e' := .f32) x r0_3 = x := View.ld_unit_zero (Val := Elt Ideal) (S := S512x1024) (e := .f32) zero2 inb_S512x1024_S512x1024_0_0 x
theorem ld4 (x : FVec Ideal S1x1024 .f32) : View.ld (Val := Elt Ideal) (e' := .f32) x r0_4 = x := View.ld_unit_zero (Val := Elt Ideal) (S := S1x1024) (e := .f32) zero2 inb_S1x1024_S1x1024_0_0 x
theorem ld13 (x : FVec Ideal S1024x2048 .bf16) : View.ld (Val := Elt Ideal) (e' := .bf16) x r0_13 = x := View.ld_unit_zero (Val := Elt Ideal) (S := S1024x2048) (e := .bf16) zero2 inb_S1024x2048_S1024x2048_0_0 x

/-- The loads of the two halves of the projection's weights. -/
theorem ld1_apply (x : FVec Ideal S1024x1024 .bf16) (j : Fin 512) (d : Fin 1024) :
    (View.ld (Val := Elt Ideal) (e' := .bf16) x r0_1 : FVec Ideal S512x1024 .bf16) (ix2 j d) = x (ix2 ⟨j.val, by omega⟩ d) :=
  congrArg x (funext fun a => Fin.ext (by
    fin_cases a
    · show 0 + 1 * j.val = j.val; omega
    · show 0 + 1 * d.val = d.val; omega))
theorem ld2_apply (x : FVec Ideal S1024x1024 .bf16) (j : Fin 512) (d : Fin 1024) :
    (View.ld (Val := Elt Ideal) (e' := .bf16) x r0_2 : FVec Ideal S512x1024 .bf16) (ix2 j d) = x (ix2 ⟨512 + j.val, by omega⟩ d) :=
  congrArg x (funext fun a => Fin.ext (by
    fin_cases a
    · show 512 + 1 * j.val = 512 + j.val; omega
    · show 0 + 1 * d.val = d.val; omega))

/-- The sum that point `t` forms. -/
abbrev sumOf (c : Dev nD) (t : Fin cfg0.N) : FVec Ideal S512x1024 .f32 :=
  k0_pay4 (F := Ideal) (iblk m c 0 t) (View.ld (iblk m c 3 t) r0_1) (iblk m c 1 t) (View.ld (iblk m c 3 t) r0_2) (iblk m c 2 t)

/-- The normed sum that point `t` forms. -/
abbrev normOf (c : Dev nD) (t : Fin cfg0.N) : FVec Ideal S512x1024 .f32 :=
  k0_pay5 (F := Ideal) (iblk m c 0 t) (View.ld (iblk m c 3 t) r0_1) (iblk m c 1 t) (View.ld (iblk m c 3 t) r0_2) (iblk m c 2 t) (iblk m c 4 t)

theorem sum_value (c : Dev nD) (t : Fin cfg0.N) (k : Fin 512) (d : Fin 1024) :
    sumOf m c t (ix2 k d) = mixedAt (argA m c) (argB m c) (argH m c) (argW m c) (row t k) d := by
  refine (sum_apply _ _ _ _ _ k d).trans (congrArg₂ (· + ·) (block2 m c t k d) (congrArg₂ (· + ·) (Finset.sum_congr rfl fun j _ => ?_) (Finset.sum_congr rfl fun j _ => ?_)))
  · exact congrArg₂ (· * ·) (block0 m c t k j) ((ld1_apply _ j d).trans (block3 m c t _ d))
  · exact congrArg₂ (· * ·) (block1 m c t k j) ((ld2_apply _ j d).trans (block3 m c t _ d))

theorem norm_value (c : Dev nD) (t : Fin cfg0.N) (k : Fin 512) (d : Fin 1024) :
    normOf m c t (ix2 k d) = normAt (argA m c) (argB m c) (argH m c) (argW m c) (argG m c) (row t k) d := by
  refine (normed_apply _ _ _ _ _ _ k d).trans ?_
  refine congrArg₂ (· * ·) (congrArg₂ (· * ·) (sum_value m c t k d) (congrArg Ideal.rsqrt (congrArg (· + _) (congrArg (Ideal.div · _) (Finset.sum_congr rfl fun d' _ => ?_))))) (block4 m c t d)
  exact congrArg₂ (· * ·) (sum_value m c t k d') (sum_value m c t k d')

theorem query_value (c : Dev nD) (t : Fin cfg0.N) (k : Fin 512) (n : Fin 2048) :
    k0_pay15 (F := Ideal) (normOf m c t) (iblk m c 5 t) (ix2 k n) = queryAt (argA m c) (argB m c) (argH m c) (argW m c) (argG m c) (argQ m c) (row t k) n :=
  (product_apply _ _ k n).trans (Finset.sum_congr rfl fun d _ => congrArg₂ (· * ·) (norm_value m c t k d) (block5 m c t d n))

/-! ## The results after the run -/

theorem flush6 : ∀ t : Fin cfg0.N, (cfg0.win 6).flush t = true := (by decide +kernel : ∀ t : Fin grid0.N, win0_6.flush t = true)
theorem flush7 : ∀ t : Fin cfg0.N, (cfg0.win 7).flush t = true := (by decide +kernel : ∀ t : Fin grid0.N, win0_7.flush t = true)
theorem flush8 : ∀ t : Fin cfg0.N, (cfg0.win 8).flush t = true := (by decide +kernel : ∀ t : Fin grid0.N, win0_8.flush t = true)

/-- Where block `t` of each result sits. -/
theorem emb6 (t : Fin cfg0.N) (k : Fin 512) (d : Fin 1024) : ((cfg0.win 6).blk t).view.emb (ix2 k d) = (ix2 (row t k) d : S33792x1024.Idx) :=
  funext fun a => Fin.ext ((Window.rect_emb_val_off win0_6 t (ix2 k d) a).trans (by
    fin_cases a
    · exact (congrArg (· * 512 + k.val) (index6 t).1).trans (by show t.val * 512 + k.val = 512 * t.val + k.val; omega)
    · exact (congrArg (· * 1024 + d.val) (index6 t).2).trans (by show 0 * 1024 + d.val = d.val; omega)))
theorem emb7 (t : Fin cfg0.N) (k : Fin 512) (r : Fin 8) (l : Fin 128) : ((cfg0.win 7).blk t).view.emb (ix3 k r l) = (ix3 (row t k) r l : S33792x8x128.Idx) :=
  funext fun a => Fin.ext ((Window.rect_emb_val_off win0_7 t (ix3 k r l) a).trans (by
    fin_cases a
    · exact (congrArg (· * 512 + k.val) (index7 t).1).trans (by show t.val * 512 + k.val = 512 * t.val + k.val; omega)
    · exact (congrArg (· * 8 + r.val) (index7 t).2.1).trans (by show 0 * 8 + r.val = r.val; omega)
    · exact (congrArg (· * 128 + l.val) (index7 t).2.2).trans (by show 0 * 128 + l.val = l.val; omega)))
theorem emb8 (t : Fin cfg0.N) (s : Fin 16) (k : Fin 512) (l : Fin 128) : ((cfg0.win 8).blk t).view.emb (ix3 s k l) = (ix3 s (row t k) l : S16x33792x128.Idx) :=
  funext fun a => Fin.ext ((Window.rect_emb_val_off win0_8 t (ix3 s k l) a).trans (by
    fin_cases a
    · exact (congrArg (· * 16 + s.val) (index8 t).1).trans (by show 0 * 16 + s.val = s.val; omega)
    · exact (congrArg (· * 512 + k.val) (index8 t).2.1).trans (by show t.val * 512 + k.val = 512 * t.val + k.val; omega)
    · exact (congrArg (· * 128 + l.val) (index8 t).2.2).trans (by show 0 * 128 + l.val = l.val; omega)))

/-- Each row is row `k` of some point. -/
theorem row_of (T : Fin 33792) : ∃ (t : Fin cfg0.N) (k : Fin 512), T = row t k :=
  ⟨⟨T.val / 512, by show _ < 66; omega⟩, ⟨T.val % 512, by omega⟩, Fin.ext (Nat.div_add_mod _ _).symm⟩

theorem arr6 (c : Dev nD) (t : Fin cfg0.N) (k : Fin 512) (d : Fin 1024) :
    (dats m 0 c).arrAt 6 cfg0.N (ix2 (row t k) d : S33792x1024.Idx) = out0_6 (iblk m c 0 t) (iblk m c 1 t) (iblk m c 2 t) (iblk m c 3 t) (iblk m c 4 t) (iblk m c 5 t) (ix2 k d) := by
  rw [← emb6 t k d]
  refine ((dats m 0 c).arrAt_emb_eq_flushed 6 Value.disjoint6 t (flush6 t) (ix2 k d)).trans ?_
  show (dats m 0 c).after 6 t (ix2 k d) = _
  rw [after0_6]

theorem arr7 (c : Dev nD) (t : Fin cfg0.N) (k : Fin 512) (r : Fin 8) (l : Fin 128) :
    (dats m 0 c).arrAt 7 cfg0.N (ix3 (row t k) r l : S33792x8x128.Idx) = out0_7 (iblk m c 0 t) (iblk m c 1 t) (iblk m c 2 t) (iblk m c 3 t) (iblk m c 4 t) (iblk m c 5 t) (ix3 k r l) := by
  rw [← emb7 t k r l]
  refine ((dats m 0 c).arrAt_emb_eq_flushed 7 Value.disjoint7 t (flush7 t) (ix3 k r l)).trans ?_
  show (dats m 0 c).after 7 t (ix3 k r l) = _
  rw [after0_7]

theorem arr8 (c : Dev nD) (t : Fin cfg0.N) (s : Fin 16) (k : Fin 512) (l : Fin 128) :
    (dats m 0 c).arrAt 8 cfg0.N (ix3 s (row t k) l : S16x33792x128.Idx) = out0_8 (iblk m c 0 t) (iblk m c 1 t) (iblk m c 2 t) (iblk m c 3 t) (iblk m c 4 t) (iblk m c 5 t) (ix3 s k l) := by
  rw [← emb8 t s k l]
  refine ((dats m 0 c).arrAt_emb_eq_flushed 8 Value.disjoint8 t (flush8 t) (ix3 s k l)).trans ?_
  show (dats m 0 c).after 8 t (ix3 s k l) = _
  rw [after0_8]

/-- The first result after the run. -/
theorem mixed_value (c : Dev nD) : (dats m 0 c).arrAt 6 cfg0.N = mixed (argA m c) (argB m c) (argH m c) (argW m c) := by
  funext z
  obtain ⟨t, k, d, rfl⟩ : ∃ (t : Fin cfg0.N) (k : Fin 512) (d : Fin 1024), z = (ix2 (row t k) d : S33792x1024.Idx) := by
    obtain ⟨t, k, h⟩ := row_of (z 0)
    exact ⟨t, k, z 1, by funext a; fin_cases a; exacts [h, rfl]⟩
  refine (arr6 m c t k d).trans ?_
  have e := View.canon_unit_zero (Val := Elt Ideal) (S := S512x1024) (e := .f32) zero2 inb_S512x1024_S512x1024_0_0
    (k0_pay4 (F := Ideal) (View.ld (iblk m c 0 t) r0_0) (View.ld (iblk m c 3 t) r0_1) (View.ld (iblk m c 1 t) r0_0) (View.ld (iblk m c 3 t) r0_2) (View.ld (iblk m c 2 t) r0_3))
  refine (congrFun e (ix2 k d)).trans ?_
  rw [ld0, ld0, ld3]
  exact sum_value m c t k d

/-- The second. -/
theorem rows_value (c : Dev nD) : (dats m 0 c).arrAt 7 cfg0.N = rows (argA m c) (argB m c) (argH m c) (argW m c) (argG m c) := by
  funext z
  obtain ⟨t, k, r, l, rfl⟩ : ∃ (t : Fin cfg0.N) (k : Fin 512) (r : Fin 8) (l : Fin 128), z = (ix3 (row t k) r l : S33792x8x128.Idx) := by
    obtain ⟨t, k, h⟩ := row_of (z 0)
    exact ⟨t, k, z 1, z 2, by funext a; fin_cases a; exacts [h, rfl, rfl]⟩
  refine (arr7 m c t k r l).trans ((Value.canon7_eq _ _ _ _ _ _ (ix3 k r l)).trans ?_)
  rw [ld0, ld0, ld3, ld4]
  refine Eq.trans ?_ (norm_value m c t k (feature r l))
  refine Eq.trans ?_ (normed_apply _ _ _ _ _ _ k (feature r l)).symm
  pointwise []
  have e0 : Value.ix7_0 (ix3 k r l) = (ix2 k (feature r l) : S512x1024.Idx) := by funext a; fin_cases a <;> rfl
  have e2 : Value.ix7_2 (ix3 k r l) = (ix2 0 (feature r l) : S1x1024.Idx) := by funext a; fin_cases a <;> rfl
  rw [e0, e2]
  rfl

/-- The third. -/
theorem queries_value (c : Dev nD) : (dats m 0 c).arrAt 8 cfg0.N = queries (argA m c) (argB m c) (argH m c) (argW m c) (argG m c) (argQ m c) := by
  funext z
  obtain ⟨t, s, k, l, rfl⟩ : ∃ (t : Fin cfg0.N) (s : Fin 16) (k : Fin 512) (l : Fin 128), z = (ix3 s (row t k) l : S16x33792x128.Idx) := by
    obtain ⟨t, k, h⟩ := row_of (z 1)
    exact ⟨t, z 0, k, z 2, by funext a; fin_cases a; exacts [rfl, h, rfl]⟩
  refine (arr8 m c t s k l).trans ((Value.canon8_eq _ _ _ _ _ _ _ (ix3 s k l)).trans ?_)
  rw [ld0, ld0, ld3, ld4, ld13]
  refine (congrArg (k0_pay15 (F := Ideal) (normOf m c t) (iblk m c 5 t)) ?_).trans (query_value m c t k (column s l))
  funext a; fin_cases a <;> rfl

end Cert.Kernel2Ideal.Hand

end
-- ==== Proof.OutRef.lean ====
module

public import proofs.«01_k».proof.Defs
public import proofs.«01_k».proof.Proof.Out
public import proofs.«01_k».proof.Proof.Gen.Kernel2.Frame
public import proofs.«01_k».proof.Proof.Gen.Reference2Ideal.Run
public import Idealize.ShloMosaic.Lib.Quiescent

@[expose] public section

set_option maxRecDepth 16384

noncomputable section

/-! # The output projection's reference at an element, and the claims of this call -/

namespace Cert.Reference2Ideal.Hand

open Cert.Reference2Ideal Cert.Reference2Ideal.Gen Idealize.ShloMosaic Idealize.ShloMosaic.TcCoe Idealize.ShloMosaic.Tactic
open Cert.Kernel2Ideal.Hand (mixedAt normAt queryAt mixed rows queries feature column)

/-- The residual stream with the projection of the two branches, side by side, added. -/
def summed (a b : FVec Ideal S33792x512 .bf16) (h : FVec Ideal S33792x1024 .f32) (w : FVec Ideal S1024x1024 .f32) : FVec Ideal S33792x1024 .f32 :=
  addf h (Host.dotGeneral dot_S33792x1024_S1024x1024_S33792x1024_1_0_0_1_n_n none (φ₁ := .f32) (φ₂ := .f32) (extf .f32 (concatenate S33792x1024 1 [⟨S33792x512, a⟩, ⟨S33792x512, b⟩] concatenates_S33792x512_S33792x512_S33792x1024_d1) bitsLt_bf16_f32) w)

/-- A sum of rows over their root mean square, times the gains. -/
def normed (s : FVec Ideal S33792x1024 .f32) (g : FVec Ideal S1024 .f32) : FVec Ideal S33792x1024 .f32 :=
  mulf (mulf s (broadcastInDim S33792x1024 ![0, 1] bcast_S33792x1_S33792x1024_0_1 (Host.rsqrt (addf (Host.divf (broadcastInDim S33792x1 ![0] bcast_S33792_S33792x1_0 (Host.reduceAdd (mulf s s) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))

/-- The two branches side by side, in each half. -/
theorem beside_left (a b : FVec Ideal S33792x512 .bf16) (T : Fin 33792) (j : Fin 512) :
    (concatenate S33792x1024 1 [⟨S33792x512, a⟩, ⟨S33792x512, b⟩] concatenates_S33792x512_S33792x512_S33792x1024_d1 : FVec Ideal S33792x1024 .bf16) (ix2 T ⟨j.val, by omega⟩) = a (ix2 T j) := by
  pointwise []

theorem beside_right (a b : FVec Ideal S33792x512 .bf16) (T : Fin 33792) (j : Fin 512) :
    (concatenate S33792x1024 1 [⟨S33792x512, a⟩, ⟨S33792x512, b⟩] concatenates_S33792x512_S33792x512_S33792x1024_d1 : FVec Ideal S33792x1024 .bf16) (ix2 T ⟨512 + j.val, by omega⟩) = b (ix2 T j) := by
  pointwise []

/-- A sum over 1024 positions is the sum over each half. -/
theorem sum_halves (f : Fin 1024 → EReal) : ∑ i : Fin 1024, f i = (∑ j : Fin 512, f ⟨j.val, by omega⟩) + ∑ j : Fin 512, f ⟨512 + j.val, by omega⟩ :=
  Fin.sum_univ_add (a := 512) (b := 512) f

theorem summed_apply (a b : FVec Ideal S33792x512 .bf16) (h : FVec Ideal S33792x1024 .f32) (w : FVec Ideal S1024x1024 .f32) (T : Fin 33792) (d : Fin 1024) :
    summed a b h w (ix2 T d) = mixedAt a b h w T d := by
  have e : summed a b h w (ix2 T d) = h (ix2 T d) + ∑ i : Fin 1024, (concatenate S33792x1024 1 [⟨S33792x512, a⟩, ⟨S33792x512, b⟩] concatenates_S33792x512_S33792x512_S33792x1024_d1 : FVec Ideal S33792x1024 .bf16) (ix2 T i) * w (ix2 i d) := by
    pointwise [summed]
  rw [e, sum_halves]
  simp only [beside_left, beside_right]
  rfl

theorem normed_apply (s : FVec Ideal S33792x1024 .f32) (g : FVec Ideal S1024 .f32) (T : Fin 33792) (d : Fin 1024) :
    normed s g (ix2 T d) = s (ix2 T d) * Ideal.rsqrt (Ideal.div (∑ d' : Fin 1024, s (ix2 T d') * s (ix2 T d')) (Ideal.ofBits .f32 0x44800000#32) + Ideal.ofBits .f32 0x358637BD#32) * g (ix1 d) := by
  pointwise [normed]

theorem norm_apply (a b : FVec Ideal S33792x512 .bf16) (h : FVec Ideal S33792x1024 .f32) (w : FVec Ideal S1024x1024 .f32) (g : FVec Ideal S1024 .f32) (T : Fin 33792) (d : Fin 1024) :
    normed (summed a b h w) g (ix2 T d) = normAt a b h w g T d := by
  rw [normed_apply]
  simp only [summed_apply]
  rfl

/-- The normed rows' product with the query weights. -/
def product (x : FVec Ideal S33792x1024 .f32) (q : FVec Ideal S1024x2048 .f32) : FVec Ideal S33792x2048 .f32 :=
  Host.dotGeneral dot_S33792x1024_S1024x2048_S33792x2048_1_0_0_1_n_n none (φ₁ := .f32) (φ₂ := .f32) x q

theorem product_apply (x : FVec Ideal S33792x1024 .f32) (q : FVec Ideal S1024x2048 .f32) (T : Fin 33792) (n : Fin 2048) :
    product x q (ix2 T n) = ∑ d : Fin 1024, x (ix2 T d) * q (ix2 d n) := by
  pointwise [product]

/-- The reference's three results. -/
theorem mixed_ref (a b : FVec Ideal S33792x512 .bf16) (h : FVec Ideal S33792x1024 .f32) (w : FVec Ideal S1024x1024 .f32) : summed a b h w = mixed a b h w := by
  funext z
  obtain ⟨T, d, rfl⟩ : ∃ (T : Fin 33792) (d : Fin 1024), z = ix2 T d := ⟨z 0, z 1, by funext a; fin_cases a <;> rfl⟩
  exact summed_apply a b h w T d

theorem rows_ref (a b : FVec Ideal S33792x512 .bf16) (h : FVec Ideal S33792x1024 .f32) (w : FVec Ideal S1024x1024 .f32) (g : FVec Ideal S1024 .f32) :
    shapeCast S33792x8x128 (normed (summed a b h w) g) shapeCasts_S33792x1024_S33792x8x128 = rows a b h w g := by
  funext z
  obtain ⟨T, r, l, rfl⟩ : ∃ (T : Fin 33792) (r : Fin 8) (l : Fin 128), z = ix3 T r l := ⟨z 0, z 1, z 2, by funext a; fin_cases a <;> rfl⟩
  pointwise [rows]
  exact norm_apply a b h w g T (feature r l)

theorem queries_ref (a b : FVec Ideal S33792x512 .bf16) (h : FVec Ideal S33792x1024 .f32) (w : FVec Ideal S1024x1024 .f32) (g : FVec Ideal S1024 .f32) (q : FVec Ideal S1024x2048 .f32) :
    truncf .bf16 (transpose S16x33792x128 [1, 0, 2] (shapeCast S33792x16x128 (product (normed (summed a b h w) g) q) shapeCasts_S33792x2048_S33792x16x128) transposes_S33792x16x128_S16x33792x128_1_0_2) bitsLt_bf16_f32 = queries a b h w g q := by
  funext z
  obtain ⟨s, T, l, rfl⟩ : ∃ (s : Fin 16) (T : Fin 33792) (l : Fin 128), z = ix3 s T l := ⟨z 0, z 1, z 2, by funext a; fin_cases a <;> rfl⟩
  pointwise [queries]
  refine (product_apply _ _ T (column s l)).trans ?_
  simp only [norm_apply]
  rfl

end Cert.Reference2Ideal.Hand

namespace Cert.Proof

open Idealize.ShloMosaic Idealize.ShloMosaic.TcCoe Idealize.SL.Sem
open Cert.Kernel2Ideal.Hand (argA argB argH argW argG argQ mixed rows queries mixed_value rows_value queries_value)
open Cert.Reference2Ideal.Hand (mixed_ref rows_ref queries_ref)

instance factsKernel2 : Cert.Kernel2.Facts := Cert.Kernel2.Gen.facts
instance factsKernel2Ideal : Cert.Kernel2Ideal.Facts := Cert.Kernel2Ideal.Gen.facts
instance factsReference2Ideal : Cert.Reference2Ideal.Facts := Cert.Reference2Ideal.Gen.facts

/-- The output projection at machine floats runs, its arguments and counters end as they were. -/
theorem frame_out_bits : Cert.quiescent_Kernel2 := fun m ρ _ => Cert.Kernel2.Gen.frame m ρ

/-- The same over the extended reals. -/
theorem frame_out_ideal : Cert.quiescent_Kernel2Ideal := fun m ρ _ => Cert.Kernel2Ideal.Gen.frame m ρ

/-- The same of the reference. -/
theorem frame_out_ref : Cert.quiescent_Reference2Ideal := fun m ρ _ =>
  (θ_run _ _ _).mono (fun r h => ⟨fun c => (h c).2.2.2, sem_eq_zero_of_no_sems (by decide) r.2⟩) (Cert.Reference2Ideal.Value.run (F := Ideal) m ρ)

/-- From memories that agree on the arguments both run to the same three results, element by element. -/
theorem equal_out : Cert.algebraic_Kernel2Ideal_Reference2Ideal := fun m ρ m' ρ' _ hag =>
  ⟨fun c => mixed (argA m c) (argB m c) (argH m c) (argW m c), fun c => rows (argA m c) (argB m c) (argH m c) (argW m c) (argG m c),
    fun c => queries (argA m c) (argB m c) (argH m c) (argW m c) (argG m c) (argQ m c),
    (θ_run _ _ _).mono (fun r h c => ⟨(h c).1.trans (mixed_value m c), (h c).2.1.trans (rows_value m c), (h c).2.2.1.trans (queries_value m c),
      (h c).2.2.2⟩) (Cert.Kernel2Ideal.Value.run_blocks (F := Ideal) m ρ),
    (θ_run _ _ _).mono (fun r h c => by
      obtain ⟨h0, h1, h2, h3, h4, h5⟩ := hag c
      obtain ⟨x, y, z, rest⟩ := h c
      refine ⟨x.trans ?_, y.trans ?_, z.trans ?_, rest⟩
      · rw [h0, h1, h2, h3]; exact mixed_ref (argA m c) (argB m c) (argH m c) (argW m c)
      · rw [h0, h1, h2, h3, h4]; exact rows_ref (argA m c) (argB m c) (argH m c) (argW m c) (argG m c)
      · rw [h0, h1, h2, h3, h4, h5]; exact queries_ref (argA m c) (argB m c) (argH m c) (argW m c) (argG m c) (argQ m c)) (Cert.Reference2Ideal.Value.run (F := Ideal) m' ρ')⟩

end Cert.Proof

end
-- ==== Proof.In.lean ====
module

public import proofs.«01_k».proof.Proof.Gen.Kernel3Ideal.Value
public import Idealize.ShloMosaic.Lib.Pointwise
public import Idealize.ShloMosaic.Lib.StableHlo.Run

@[expose] public section

set_option maxRecDepth 16384

noncomputable section

/-! # The input projection: what it computes, and the kernel's results at an element -/

namespace Cert.Kernel3Ideal.Hand

open Cert.Kernel3Ideal Cert.Kernel3Ideal.Gen
open Idealize.ShloMosaic Idealize.ShloMosaic.TcCoe Idealize.ShloMosaic.Tactic Idealize.ShloMosaic.StableHlo
open Idealize.SL Idealize.SL.Sem
open Idealize.ShloMosaic.Pipeline (Window)

/-! ## The mathematics -/

/-- A row of the residual stream over its root mean square, times the gains. -/
def normAt (h : FVec Ideal S33792x1024 .f32) (g : FVec Ideal S1024 .f32) (T : Fin 33792) (d : Fin 1024) : EReal :=
  h (ix2 T d) * Ideal.rsqrt (Ideal.div (∑ d' : Fin 1024, h (ix2 T d') * h (ix2 T d')) (Ideal.ofBits .f32 0x44800000#32) + Ideal.ofBits .f32 0x358637BD#32) * g (ix1 d)

/-- The normed row times a column of the weights. -/
def projAt (h : FVec Ideal S33792x1024 .f32) (g : FVec Ideal S1024 .f32) (w : FVec Ideal S1024x2560 .f32) (T : Fin 33792) (n : Fin 2560) : EReal :=
  ∑ d : Fin 1024, normAt h g T d * w (ix2 d n)

/-- The queries: the first 512 columns over `8 * log 2`. -/
def queries (h : FVec Ideal S33792x1024 .f32) (g : FVec Ideal S1024 .f32) (w : FVec Ideal S1024x2560 .f32) : FVec Ideal S33792x512 .bf16 :=
  fun z => projAt h g w (z 0) ⟨(z 1).val, Nat.lt_of_lt_of_le (z 1).isLt (by decide)⟩ * (((8 * Real.log 2)⁻¹ : ℝ) : EReal)

/-- The keys: the next 512 columns. -/
def keys (h : FVec Ideal S33792x1024 .f32) (g : FVec Ideal S1024 .f32) (w : FVec Ideal S1024x2560 .f32) : FVec Ideal S33792x512 .bf16 :=
  fun z => projAt h g w (z 0) ⟨512 + (z 1).val, Nat.lt_of_lt_of_le (Nat.add_lt_add_left (z 1).isLt 512) (by decide)⟩

/-- The values: the next 512 columns. -/
def values (h : FVec Ideal S33792x1024 .f32) (g : FVec Ideal S1024 .f32) (w : FVec Ideal S1024x2560 .f32) : FVec Ideal S33792x512 .bf16 :=
  fun z => projAt h g w (z 0) ⟨1024 + (z 1).val, Nat.lt_of_lt_of_le (Nat.add_lt_add_left (z 1).isLt 1024) (by decide)⟩

/-- The gated columns: 512 columns times the logistic of the last 512. -/
def gated (h : FVec Ideal S33792x1024 .f32) (g : FVec Ideal S1024 .f32) (w : FVec Ideal S1024x2560 .f32) : FVec Ideal S33792x512 .f32 :=
  fun z => projAt h g w (z 0) ⟨1536 + (z 1).val, Nat.lt_of_lt_of_le (Nat.add_lt_add_left (z 1).isLt 1536) (by decide)⟩
    * Ideal.logistic (projAt h g w (z 0) ⟨2048 + (z 1).val, Nat.lt_of_lt_of_le (Nat.add_lt_add_left (z 1).isLt 2048) (by decide)⟩)

/-! ## The body's product at an element -/

/-- The product that the body forms, at a row of the block and a column. -/
theorem product_apply (x : FVec Ideal S512x1024 .f32) (g : FVec Ideal S1x1024 .f32) (w : FVec Ideal S1024x2560 .bf16) (k : Fin 512) (n : Fin 2560) :
    k0_pay1 (F := Ideal) x g w (ix2 k n)
      = ∑ d : Fin 1024, x (ix2 k d) * Ideal.rsqrt (Ideal.div (∑ d' : Fin 1024, x (ix2 k d') * x (ix2 k d')) (Ideal.ofBits .f32 0x44800000#32) + Ideal.ofBits .f32 0x358637BD#32) * g (ix2 0 d) * w (ix2 d n) := by
  pointwise [k0_pay1]

/-! ## The blocks at a point -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

theorem points (t : Fin cfg0.N) : t.val < 66 := t.isLt

/-- Row `k` of point `t`. -/
abbrev row (t : Fin cfg0.N) (k : Fin 512) : Fin 33792 := ⟨512 * t.val + k.val, by have := points t; omega⟩

variable (m : (ℓ : Loc nD τ sig) → Buf (Elt Ideal) ℓ)

/-- The kernel's arguments on a device. -/
abbrev argH (c : Dev nD) : FVec Ideal S33792x1024 .f32 := m ((c : Thread nD τ).loc main_arg0)
abbrev argG (c : Dev nD) : FVec Ideal S1024 .f32 := m ((c : Thread nD τ).loc main_arg1)
abbrev argW (c : Dev nD) : FVec Ideal S1024x2560 .f32 := m ((c : Thread nD τ).loc main_arg2)

theorem V_g (c : Dev nD) : V m c main_v0 = broadcastInDim S1x1024 ![1] bcast_S1024_S1x1024_1 (argG m c) := by
  unfold V; after_results_simp <;> rfl

theorem V_w (c : Dev nD) : V m c main_v1 = (truncf .bf16 (argW m c) bitsLt_bf16_f32 : FVec Ideal S1024x2560 .bf16) := by
  unfold V; after_results_simp <;> rfl

theorem block0 (c : Dev nD) (t : Fin cfg0.N) (k : Fin 512) (d : Fin 1024) :
    iblk m c 0 t (ix2 k d) = argH m c (ix2 (row t k) d) :=
  (congrArg (V m c main_arg0) (funext fun a => Fin.ext ((Window.rect_emb_val_off win0_0 t (ix2 k d) a).trans (by
    fin_cases a
    · exact (congrArg (· * 512 + k.val) (index0 t).1).trans (by show t.val * 512 + k.val = 512 * t.val + k.val; omega)
    · exact (congrArg (· * 1024 + d.val) (index0 t).2).trans (by show 0 * 1024 + d.val = d.val; omega))))).trans (congrFun (V_main_arg0 m c) _)

theorem block1 (c : Dev nD) (t : Fin cfg0.N) (d : Fin 1024) :
    iblk m c 1 t (ix2 0 d) = argG m c (ix1 d) :=
  (congrArg (V m c main_v0) (funext fun a => Fin.ext ((Window.rect_emb_val_off win0_1 t (ix2 0 d) a).trans (by
    fin_cases a
    · exact congrArg (· * 1 + 0) (index1 t).1
    · exact (congrArg (· * 1024 + d.val) (index1 t).2).trans (by show 0 * 1024 + d.val = d.val; omega))))).trans
    ((congrFun (V_g m c) (ix2 0 d)).trans (by pointwise []))

theorem block2 (c : Dev nD) (t : Fin cfg0.N) (d : Fin 1024) (n : Fin 2560) :
    iblk m c 2 t (ix2 d n) = argW m c (ix2 d n) :=
  (congrArg (V m c main_v1) (funext fun a => Fin.ext ((Window.rect_emb_val_off win0_2 t (ix2 d n) a).trans (by
    fin_cases a
    · exact (congrArg (· * 1024 + d.val) (index2 t).1).trans (by show 0 * 1024 + d.val = d.val; omega)
    · exact (congrArg (· * 2560 + n.val) (index2 t).2).trans (by show 0 * 2560 + n.val = n.val; omega))))).trans
    ((congrFun (V_w m c) (ix2 d n)).trans (by pointwise []))

/-- The product at point `t`, in the arguments' words. -/
theorem product_value (c : Dev nD) (t : Fin cfg0.N) (k : Fin 512) (n : Fin 2560) :
    k0_pay1 (F := Ideal) (iblk m c 0 t) (iblk m c 1 t) (iblk m c 2 t) (ix2 k n) = projAt (argH m c) (argG m c) (argW m c) (row t k) n := by
  refine (product_apply _ _ _ k n).trans (Finset.sum_congr rfl fun d _ => ?_)
  rw [block1 m c t d, block2 m c t d n]
  simp only [block0 m c t]
  rfl

/-! ## The results after the run -/

theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

/-- Where block `t` of each result sits. -/
theorem emb3 (t : Fin cfg0.N) (k n : Fin 512) : ((cfg0.win 3).blk t).view.emb (ix2 k n) = (ix2 (row t k) n : S33792x512.Idx) :=
  funext fun a => Fin.ext ((Window.rect_emb_val_off win0_3 t (ix2 k n) a).trans (by
    fin_cases a
    · exact (congrArg (· * 512 + k.val) (index3 t).1).trans (by show t.val * 512 + k.val = 512 * t.val + k.val; omega)
    · exact (congrArg (· * 512 + n.val) (index3 t).2).trans (by show 0 * 512 + n.val = n.val; omega)))
theorem emb4 (t : Fin cfg0.N) (k n : Fin 512) : ((cfg0.win 4).blk t).view.emb (ix2 k n) = (ix2 (row t k) n : S33792x512.Idx) :=
  funext fun a => Fin.ext ((Window.rect_emb_val_off win0_4 t (ix2 k n) a).trans (by
    fin_cases a
    · exact (congrArg (· * 512 + k.val) (index4 t).1).trans (by show t.val * 512 + k.val = 512 * t.val + k.val; omega)
    · exact (congrArg (· * 512 + n.val) (index4 t).2).trans (by show 0 * 512 + n.val = n.val; omega)))
theorem emb5 (t : Fin cfg0.N) (k n : Fin 512) : ((cfg0.win 5).blk t).view.emb (ix2 k n) = (ix2 (row t k) n : S33792x512.Idx) :=
  funext fun a => Fin.ext ((Window.rect_emb_val_off win0_5 t (ix2 k n) a).trans (by
    fin_cases a
    · exact (congrArg (· * 512 + k.val) (index5 t).1).trans (by show t.val * 512 + k.val = 512 * t.val + k.val; omega)
    · exact (congrArg (· * 512 + n.val) (index5 t).2).trans (by show 0 * 512 + n.val = n.val; omega)))
theorem emb6 (t : Fin cfg0.N) (k n : Fin 512) : ((cfg0.win 6).blk t).view.emb (ix2 k n) = (ix2 (row t k) n : S33792x512.Idx) :=
  funext fun a => Fin.ext ((Window.rect_emb_val_off win0_6 t (ix2 k n) a).trans (by
    fin_cases a
    · exact (congrArg (· * 512 + k.val) (index6 t).1).trans (by show t.val * 512 + k.val = 512 * t.val + k.val; omega)
    · exact (congrArg (· * 512 + n.val) (index6 t).2).trans (by show 0 * 512 + n.val = n.val; omega)))

theorem zero2 : (![0, 0] : Fin 2 → ℕ) = fun _ => 0 := by funext a; fin_cases a <;> rfl

/-- An array of 33792 rows is settled by its 66 blocks of rows. -/
theorem by_blocks {e : EltTy} (X Y : Vec Ideal S33792x512 e) (h : ∀ (t : Fin cfg0.N) (k n : Fin 512), X (ix2 (row t k) n) = Y (ix2 (row t k) n)) : X = Y := by
  funext z
  have h0 : (z 0).val < 33792 := (z 0).isLt
  have hz : z = (ix2 (row ⟨(z 0).val / 512, by show _ < 66; omega⟩ ⟨(z 0).val % 512, by omega⟩) (z 1) : S33792x512.Idx) := by
    funext a; fin_cases a
    · exact Fin.ext (Nat.div_add_mod _ _).symm
    · rfl
  rw [hz]
  exact h _ _ _

theorem arr3 (c : Dev nD) (t : Fin cfg0.N) (k n : Fin 512) :
    (dats m 0 c).arrAt 3 cfg0.N (ix2 (row t k) n : S33792x512.Idx) = out0_3 (iblk m c 0 t) (iblk m c 1 t) (iblk m c 2 t) (ix2 k n) := by
  rw [← emb3 t k n]
  refine ((dats m 0 c).arrAt_emb_eq_flushed 3 Value.disjoint3 t (flush3 t) (ix2 k n)).trans ?_
  show (dats m 0 c).after 3 t (ix2 k n) = _
  rw [after0_3]

theorem arr4 (c : Dev nD) (t : Fin cfg0.N) (k n : Fin 512) :
    (dats m 0 c).arrAt 4 cfg0.N (ix2 (row t k) n : S33792x512.Idx) = out0_4 (iblk m c 0 t) (iblk m c 1 t) (iblk m c 2 t) (ix2 k n) := by
  rw [← emb4 t k n]
  refine ((dats m 0 c).arrAt_emb_eq_flushed 4 Value.disjoint4 t (flush4 t) (ix2 k n)).trans ?_
  show (dats m 0 c).after 4 t (ix2 k n) = _
  rw [after0_4]

theorem arr5 (c : Dev nD) (t : Fin cfg0.N) (k n : Fin 512) :
    (dats m 0 c).arrAt 5 cfg0.N (ix2 (row t k) n : S33792x512.Idx) = out0_5 (iblk m c 0 t) (iblk m c 1 t) (iblk m c 2 t) (ix2 k n) := by
  rw [← emb5 t k n]
  refine ((dats m 0 c).arrAt_emb_eq_flushed 5 Value.disjoint5 t (flush5 t) (ix2 k n)).trans ?_
  show (dats m 0 c).after 5 t (ix2 k n) = _
  rw [after0_5]

theorem arr6 (c : Dev nD) (t : Fin cfg0.N) (k n : Fin 512) :
    (dats m 0 c).arrAt 6 cfg0.N (ix2 (row t k) n : S33792x512.Idx) = out0_6 (iblk m c 0 t) (iblk m c 1 t) (iblk m c 2 t) (ix2 k n) := by
  rw [← emb6 t k n]
  refine ((dats m 0 c).arrAt_emb_eq_flushed 6 Value.disjoint6 t (flush6 t) (ix2 k n)).trans ?_
  show (dats m 0 c).after 6 t (ix2 k n) = _
  rw [after0_6]

theorem ld0 (x : FVec Ideal S512x1024 .f32) : View.ld (Val := Elt Ideal) (e' := .f32) x r0_0 = x := View.ld_unit_zero (Val := Elt Ideal) (S := S512x1024) (e := .f32) zero2 inb_S512x1024_S512x1024_0_0 x
theorem ld1 (x : FVec Ideal S1x1024 .f32) : View.ld (Val := Elt Ideal) (e' := .f32) x r0_1 = x := View.ld_unit_zero (Val := Elt Ideal) (S := S1x1024) (e := .f32) zero2 inb_S1x1024_S1x1024_0_0 x
theorem ld2 (x : FVec Ideal S1024x2560 .bf16) : View.ld (Val := Elt Ideal) (e' := .bf16) x r0_2 = x := View.ld_unit_zero (Val := Elt Ideal) (S := S1024x2560) (e := .bf16) zero2 inb_S1024x2560_S1024x2560_0_0 x

theorem scale_eq : (Named.named (F := Ideal) (φ := .f32) κ "scale" 0x3E38AA3B#32 : EReal) = (((8 * Real.log 2)⁻¹ : ℝ) : EReal) :=
  IdealRules.named_const.ideal_named_scalar _ _ _ _ rfl

/-- The first result is the queries. -/
theorem queries_value (c : Dev nD) : (dats m 0 c).arrAt 3 cfg0.N = queries (argH m c) (argG m c) (argW m c) := by
  refine by_blocks _ _ fun t k n => (arr3 m c t k n).trans ((Value.canon3_eq _ _ _ (ix2 k n)).trans ?_)
  rw [ld0, ld1, ld2]
  exact congrArg₂ (fun a b : EReal => a * b) ((congrArg (k0_pay1 (F := Ideal) _ _ _) (by funext a; fin_cases a <;> rfl)).trans (product_value m c t k ⟨n.val, _⟩)) scale_eq

/-- The second is the keys. -/
theorem keys_value (c : Dev nD) : (dats m 0 c).arrAt 4 cfg0.N = keys (argH m c) (argG m c) (argW m c) := by
  refine by_blocks _ _ fun t k n => (arr4 m c t k n).trans ((Value.canon4_eq _ _ _ (ix2 k n)).trans ?_)
  rw [ld0, ld1, ld2]
  exact (congrArg (k0_pay1 (F := Ideal) _ _ _) (by funext a; fin_cases a <;> [rfl; exact Fin.ext (Nat.add_comm _ _)])).trans (product_value m c t k ⟨512 + n.val, by omega⟩)

/-- The third is the values. -/
theorem values_value (c : Dev nD) : (dats m 0 c).arrAt 5 cfg0.N = values (argH m c) (argG m c) (argW m c) := by
  refine by_blocks _ _ fun t k n => (arr5 m c t k n).trans ((Value.canon5_eq _ _ _ (ix2 k n)).trans ?_)
  rw [ld0, ld1, ld2]
  exact (congrArg (k0_pay1 (F := Ideal) _ _ _) (by funext a; fin_cases a <;> [rfl; exact Fin.ext (Nat.add_comm _ _)])).trans (product_value m c t k ⟨1024 + n.val, by omega⟩)

/-- The fourth is the gated columns. -/
theorem gated_value (c : Dev nD) : (dats m 0 c).arrAt 6 cfg0.N = gated (argH m c) (argG m c) (argW m c) := by
  refine by_blocks _ _ fun t k n => (arr6 m c t k n).trans ((Value.canon6_eq _ _ _ (ix2 k n)).trans ?_)
  rw [ld0, ld1, ld2]
  exact congrArg₂ (fun a b => a * Ideal.logistic b)
    ((congrArg (k0_pay1 (F := Ideal) _ _ _) (by funext a; fin_cases a <;> [rfl; exact Fin.ext (Nat.add_comm _ _)])).trans (product_value m c t k ⟨1536 + n.val, by omega⟩))
    ((congrArg (k0_pay1 (F := Ideal) _ _ _) (by funext a; fin_cases a <;> [rfl; exact Fin.ext (Nat.add_comm _ _)])).trans (product_value m c t k ⟨2048 + n.val, by omega⟩))

end Cert.Kernel3Ideal.Hand

end
-- ==== Proof.LogTwo.lean ====
module

public import Idealize.ShloMosaic.Lib.Pointwise

@[expose] public section

noncomputable section

/-! # The logarithm of two, as the references take it -/

namespace Cert.Hand

open Idealize.ShloMosaic

/-- The logarithm of the word of 2 is the real logarithm of 2. -/
theorem log_two_word : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- The word of an eighth is the real 1/8. -/
theorem eighth_word : Ideal.ofBits .f32 0x3E000000#32 = ((1 / 8 : ℝ) : EReal) := by
  simp [Ideal.ofBits, Ideal.ieee]
  rw [← EReal.coe_mul]
  norm_num

/-- An eighth, over log 2, is the product with the reciprocal of `8 * log 2`. -/
theorem eighth_over_log_two (x : EReal) :
    Ideal.div (x * Ideal.ofBits .f32 0x3E000000#32) (Ideal.log (Ideal.ofBits .f32 0x40000000#32)) = x * (((8 * Real.log 2)⁻¹ : ℝ) : EReal) := by
  rw [log_two_word, eighth_word, Ideal.div_coe (ne_of_gt (Real.log_pos (by norm_num))), mul_assoc, ← EReal.coe_mul]
  refine congrArg (fun r : ℝ => x * (r : EReal)) ?_
  rw [mul_inv, one_div, one_div]

end Cert.Hand

end
-- ==== Proof.InRef.lean ====
module

public import proofs.«01_k».proof.Defs
public import proofs.«01_k».proof.Proof.In
public import proofs.«01_k».proof.Proof.LogTwo
public import proofs.«01_k».proof.Proof.Gen.Kernel3.Frame
public import proofs.«01_k».proof.Proof.Gen.Reference3Ideal.Run
public import Idealize.ShloMosaic.Lib.Quiescent

@[expose] public section

set_option maxRecDepth 16384

noncomputable section

/-! # The input projection's reference at an element, and the claims of this call -/

namespace Cert.Reference3Ideal.Hand

open Cert.Reference3Ideal Cert.Reference3Ideal.Gen Idealize.ShloMosaic Idealize.ShloMosaic.TcCoe Idealize.ShloMosaic.Tactic
open Cert.Kernel3Ideal.Hand (normAt projAt queries keys values gated)

/-- The normed rows, as the reference forms them. -/
def normed (h : FVec Ideal S33792x1024 .f32) (g : FVec Ideal S1024 .f32) : FVec Ideal S33792x1024 .f32 :=
  mulf (mulf h (broadcastInDim S33792x1024 ![0, 1] bcast_S33792x1_S33792x1024_0_1 (Host.rsqrt (addf (Host.divf (broadcastInDim S33792x1 ![0] bcast_S33792_S33792x1_0 (Host.reduceAdd (mulf h h) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 g))

/-- Their product with the weights. -/
def product (h : FVec Ideal S33792x1024 .f32) (g : FVec Ideal S1024 .f32) (w : FVec Ideal S1024x2560 .f32) : FVec Ideal S33792x2560 .f32 :=
  Host.dotGeneral dot_S33792x1024_S1024x2560_S33792x2560_1_0_0_1_n_n none (φ₁ := .f32) (φ₂ := .f32) (normed h g) w

theorem normed_apply (h : FVec Ideal S33792x1024 .f32) (g : FVec Ideal S1024 .f32) (T : Fin 33792) (d : Fin 1024) :
    normed h g (ix2 T d) = normAt h g T d := by
  pointwise [normed, normAt]

theorem product_apply (h : FVec Ideal S33792x1024 .f32) (g : FVec Ideal S1024 .f32) (w : FVec Ideal S1024x2560 .f32) (T : Fin 33792) (n : Fin 2560) :
    product h g w (ix2 T n) = projAt h g w T n := by
  pointwise [product]
  simp only [normed_apply]
  rfl

theorem at2 (z : S33792x512.Idx) : z = ix2 (z 0) (z 1) := by funext a; fin_cases a <;> rfl

/-- The reference's four results. -/
theorem queries_ref (h : FVec Ideal S33792x1024 .f32) (g : FVec Ideal S1024 .f32) (w : FVec Ideal S1024x2560 .f32) :
    truncf .bf16 (Host.divf (mulf (extractStridedSlice S33792x512 ![0, 0] (product h g w) slices_S33792x2560_S33792x512_0_0) (broadcastInDim S33792x512 ![] bcast_S_S33792x512 (constant S_ .f32 0x3E000000#32)))
        (broadcastInDim S33792x512 ![] bcast_S_S33792x512 (Host.log (constant S_ .f32 0x40000000#32)))) bitsLt_bf16_f32 = queries h g w := by
  funext z
  obtain ⟨T, n, rfl⟩ : ∃ (T : Fin 33792) (n : Fin 512), z = ix2 T n := ⟨z 0, z 1, at2 z⟩
  pointwise [queries]
  simp only [product_apply]
  exact Cert.Hand.eighth_over_log_two _

theorem keys_ref (h : FVec Ideal S33792x1024 .f32) (g : FVec Ideal S1024 .f32) (w : FVec Ideal S1024x2560 .f32) :
    truncf .bf16 (extractStridedSlice S33792x512 ![0, 512] (product h g w) slices_S33792x2560_S33792x512_0_512) bitsLt_bf16_f32 = keys h g w := by
  funext z
  obtain ⟨T, n, rfl⟩ : ∃ (T : Fin 33792) (n : Fin 512), z = ix2 T n := ⟨z 0, z 1, at2 z⟩
  pointwise [keys]
  simp only [product_apply]

theorem values_ref (h : FVec Ideal S33792x1024 .f32) (g : FVec Ideal S1024 .f32) (w : FVec Ideal S1024x2560 .f32) :
    truncf .bf16 (extractStridedSlice S33792x512 ![0, 1024] (product h g w) slices_S33792x2560_S33792x512_0_1024) bitsLt_bf16_f32 = values h g w := by
  funext z
  obtain ⟨T, n, rfl⟩ : ∃ (T : Fin 33792) (n : Fin 512), z = ix2 T n := ⟨z 0, z 1, at2 z⟩
  pointwise [values]
  simp only [product_apply]

theorem gated_ref (h : FVec Ideal S33792x1024 .f32) (g : FVec Ideal S1024 .f32) (w : FVec Ideal S1024x2560 .f32) :
    mulf (extractStridedSlice S33792x512 ![0, 1536] (product h g w) slices_S33792x2560_S33792x512_0_1536)
      (Host.divf (broadcastInDim S33792x512 ![] bcast_S_S33792x512 (constant S_ .f32 0x3F800000#32)) (addf (broadcastInDim S33792x512 ![] bcast_S_S33792x512 (constant S_ .f32 0x3F800000#32))
        (Host.exp (Host.negf (extractStridedSlice S33792x512 ![0, 2048] (product h g w) slices_S33792x2560_S33792x512_0_2048))))) = gated h g w := by
  funext z
  obtain ⟨T, n, rfl⟩ : ∃ (T : Fin 33792) (n : Fin 512), z = ix2 T n := ⟨z 0, z 1, at2 z⟩
  pointwise [gated]
  simp only [product_apply]
  rfl

end Cert.Reference3Ideal.Hand

namespace Cert.Proof

open Idealize.ShloMosaic Idealize.ShloMosaic.TcCoe Idealize.SL.Sem
open Cert.Kernel3Ideal.Hand (argH argG argW queries keys values gated queries_value keys_value values_value gated_value)
open Cert.Reference3Ideal.Hand (queries_ref keys_ref values_ref gated_ref)

instance factsKernel3 : Cert.Kernel3.Facts := Cert.Kernel3.Gen.facts
instance factsKernel3Ideal : Cert.Kernel3Ideal.Facts := Cert.Kernel3Ideal.Gen.facts
instance factsReference3Ideal : Cert.Reference3Ideal.Facts := Cert.Reference3Ideal.Gen.facts

/-- The input projection at machine floats runs, its arguments and counters end as they were. -/
theorem frame_in_bits : Cert.quiescent_Kernel3 := fun m ρ _ => Cert.Kernel3.Gen.frame m ρ

/-- The same over the extended reals. -/
theorem frame_in_ideal : Cert.quiescent_Kernel3Ideal := fun m ρ _ => Cert.Kernel3Ideal.Gen.frame m ρ

/-- The same of the reference. -/
theorem frame_in_ref : Cert.quiescent_Reference3Ideal := fun m ρ _ =>
  (θ_run _ _ _).mono (fun r h => ⟨fun c => (h c).2.2.2.2, sem_eq_zero_of_no_sems (by decide) r.2⟩) (Cert.Reference3Ideal.Value.run (F := Ideal) m ρ)

/-- The named constant stands where the kernel has the word of `1 / (8 * log 2)`. -/
theorem preserves_in : Cert.preserves_Kernel3_Kernel3Ideal :=
  IdealRules.named_const.statement Cert.Kernel3Ideal.κ "scale" .f32 0x3E38AA3B#32 _ rfl

/-- From memories that agree on the arguments both run to the same four results, element by element. -/
theorem equal_in : Cert.algebraic_Kernel3Ideal_Reference3Ideal := fun m ρ m' ρ' _ hag =>
  ⟨fun c => queries (argH m c) (argG m c) (argW m c), fun c => keys (argH m c) (argG m c) (argW m c),
    fun c => values (argH m c) (argG m c) (argW m c), fun c => gated (argH m c) (argG m c) (argW m c),
    (θ_run _ _ _).mono (fun r h c => ⟨(h c).1.trans (queries_value m c), (h c).2.1.trans (keys_value m c), (h c).2.2.1.trans (values_value m c),
      (h c).2.2.2.1.trans (gated_value m c), (h c).2.2.2.2⟩) (Cert.Kernel3Ideal.Value.run_blocks (F := Ideal) m ρ),
    (θ_run _ _ _).mono (fun r h c => by
      obtain ⟨h0, h1, h2⟩ := hag c
      obtain ⟨q, k, v, a, rest⟩ := h c
      refine ⟨q.trans ?_, k.trans ?_, v.trans ?_, a.trans ?_, rest⟩ <;> rw [h0, h1, h2]
      · exact queries_ref (argH m c) (argG m c) (argW m c)
      · exact keys_ref (argH m c) (argG m c) (argW m c)
      · exact values_ref (argH m c) (argG m c) (argW m c)
      · exact gated_ref (argH m c) (argG m c) (argW m c)) (Cert.Reference3Ideal.Value.run (F := Ideal) m' ρ')⟩

end Cert.Proof

end
-- ==== Proof.AttnMath.lean ====
module

public import proofs.«01_k».proof.Proof.Gen.Kernel4Ideal.Value
public import Idealize.ShloMosaic.Lib.Pointwise

@[expose] public section

noncomputable section

/-! # A softmax in parts: the running maximum, sum and weighted sum of one row -/

namespace Cert.Kernel4Ideal.Hand

open Idealize.ShloMosaic

/-- Two to a real power. -/
def two (r : ℝ) : ℝ := Real.exp (r * Real.log 2)

theorem two_pos (r : ℝ) : 0 < two r := Real.exp_pos _

theorem two_add (r s : ℝ) : two (r + s) = two r * two s := by
  unfold two; rw [add_mul, Real.exp_add]

theorem exp2_two (r : ℝ) : Ideal.exp2 (r : EReal) = (two r : EReal) := by
  rw [Ideal.exp2_coe]
  refine congrArg _ ((Real.rpow_def_of_pos (by norm_num) r).trans ?_)
  unfold two; rw [mul_comm]

/-- A score `x` has the weight `u`: it is minus infinity and weighs nothing, or it is real and `u` is two to its power. -/
def Weighs (x : EReal) (u : ℝ) : Prop := (x = ⊥ ∧ u = 0) ∨ ∃ r : ℝ, x = r ∧ u = two r

/-- The exponential of a score less a real. -/
theorem Weighs.exp2 {x : EReal} {u : ℝ} (h : Weighs x u) (M : ℝ) : Ideal.exp2 (x - (M : EReal)) = ((two (-M) * u : ℝ) : EReal) := by
  rcases h with ⟨rfl, rfl⟩ | ⟨r, rfl, rfl⟩
  · rw [EReal.bot_sub, Ideal.exp2_bot, mul_zero]; rfl
  · rw [← EReal.coe_sub, exp2_two, sub_eq_neg_add, two_add]

theorem Weighs.ne_top {x : EReal} {u : ℝ} (h : Weighs x u) : x ≠ ⊤ := by
  rcases h with ⟨rfl, rfl⟩ | ⟨r, rfl, rfl⟩
  · exact bot_ne_top
  · exact EReal.coe_ne_top r

theorem coe_of_ne {x : EReal} (h : x ≠ ⊤) (h' : x ≠ ⊥) : ∃ r : ℝ, x = r := ⟨x.toReal, (EReal.coe_toReal h h').symm⟩

theorem fold_ne_top {n : ℕ} (s : Fin n → EReal) (h : ∀ c, s c ≠ ⊤) : Finset.univ.fold max (⊥ : EReal) s ≠ ⊤ := by
  have hlt : Finset.univ.fold max (⊥ : EReal) s < ⊤ :=
    (Finset.fold_max_lt (c := (⊤ : EReal))).mpr ⟨bot_lt_top, fun c _ => lt_top_iff_ne_top.mpr (h c)⟩
  exact ne_of_lt hlt

theorem le_fold {n : ℕ} (s : Fin n → EReal) (c : Fin n) : s c ≤ Finset.univ.fold max (⊥ : EReal) s :=
  (Finset.le_fold_max (s c)).mpr (Or.inr ⟨c, Finset.mem_univ c, le_refl _⟩)

/-- What a row carries: nothing yet, or a real `M` with the sum `U` of the weights and the weighted sums `A`, both
    times two to the power `−M`. -/
def Carries {D : Type} (U : ℝ) (A : D → ℝ) (m l : EReal) (a : D → EReal) : Prop :=
  (m = ⊥ ∧ l = 0 ∧ (∀ d, a d = 0) ∧ U = 0 ∧ ∀ d, A d = 0)
    ∨ ∃ M : ℝ, m = M ∧ l = ((two (-M) * U : ℝ) : EReal) ∧ ∀ d, a d = ((two (-M) * A d : ℝ) : EReal)

theorem coe_sum {n : ℕ} (f : Fin n → ℝ) : ∑ c, ((f c : ℝ) : EReal) = ((∑ c, f c : ℝ) : EReal) := by
  induction n with
  | zero => simp
  | succ n ih => rw [Fin.sum_univ_succ, Fin.sum_univ_succ, EReal.coe_add, ih]

/-- One more block of scores: the new maximum is real, and the sums grow by the block's. -/
theorem Carries.step {D : Type} {n : ℕ} {U : ℝ} {A : D → ℝ} {m l : EReal} {a : D → EReal} (h : Carries U A m l a)
    (s : Fin n → EReal) (u : Fin n → ℝ) (hw : ∀ c, Weighs (s c) (u c)) (hs : ∃ c, s c ≠ ⊥) (v : Fin n → D → ℝ) :
    ∃ M : ℝ, max m (Finset.univ.fold max ⊥ s) = (M : EReal)
      ∧ Carries (U + ∑ c, u c) (fun d => A d + ∑ c, u c * v c d) (M : EReal)
          (Ideal.exp2 (m - (M : EReal)) * l + ∑ c, Ideal.exp2 (s c - (M : EReal)))
          (fun d => Ideal.exp2 (m - (M : EReal)) * a d + ∑ c, Ideal.exp2 (s c - (M : EReal)) * ((v c d : ℝ) : EReal)) := by
  obtain ⟨c0, hc0⟩ := hs
  have hm : m ≠ ⊤ := by
    rcases h with ⟨rfl, _⟩ | ⟨M, rfl, _⟩
    · exact bot_ne_top
    · exact EReal.coe_ne_top M
  have hb : max m (Finset.univ.fold max ⊥ s) ≠ ⊥ := fun e =>
    hc0 (le_bot_iff.mp ((le_fold s c0).trans ((le_max_right m _).trans (le_of_eq e))))
  have ht : max m (Finset.univ.fold max ⊥ s) ≠ ⊤ := ne_of_lt (max_lt (lt_top_iff_ne_top.mpr hm)
    (lt_top_iff_ne_top.mpr (fold_ne_top s fun c => (hw c).ne_top)))
  obtain ⟨M, hM⟩ := coe_of_ne ht hb
  refine ⟨M, hM, Or.inr ⟨M, rfl, ?_, fun d => ?_⟩⟩
  · have hsum : ∑ c, Ideal.exp2 (s c - (M : EReal)) = ((two (-M) * ∑ c, u c : ℝ) : EReal) := by
      rw [Finset.mul_sum, ← coe_sum]; exact Finset.sum_congr rfl fun c _ => (hw c).exp2 M
    rw [hsum]
    rcases h with ⟨rfl, rfl, _, rfl, _⟩ | ⟨M0, rfl, rfl, _⟩
    · rw [mul_zero, zero_add, zero_add]
    · rw [← EReal.coe_sub, exp2_two, ← EReal.coe_mul, ← EReal.coe_add]
      refine congrArg _ ?_
      rw [← mul_assoc, ← two_add, mul_add]
      congr 3; ring
  · have hsum : ∑ c, Ideal.exp2 (s c - (M : EReal)) * ((v c d : ℝ) : EReal) = ((two (-M) * ∑ c, u c * v c d : ℝ) : EReal) := by
      rw [Finset.mul_sum, ← coe_sum]
      refine Finset.sum_congr rfl fun c _ => ?_
      rw [(hw c).exp2 M, ← EReal.coe_mul, mul_assoc]
    show Ideal.exp2 (m - (M : EReal)) * a d + ∑ c, Ideal.exp2 (s c - (M : EReal)) * ((v c d : ℝ) : EReal) = _
    rw [hsum]
    rcases h with ⟨rfl, _, ha, _, hA⟩ | ⟨M0, rfl, _, ha⟩
    · show _ = ((two (-M) * (A d + ∑ c, u c * v c d) : ℝ) : EReal)
      rw [ha d, hA d, mul_zero, zero_add, zero_add]
    · rw [ha d, ← EReal.coe_sub, exp2_two, ← EReal.coe_mul, ← EReal.coe_add]
      refine congrArg _ ?_
      rw [← mul_assoc, ← two_add, mul_add]
      congr 3; ring

theorem div_real (a b : ℝ) (h : b ≠ 0) : Ideal.div (a : EReal) (b : EReal) = ((a / b : ℝ) : EReal) := by
  rw [Ideal.div_coe h, ← EReal.coe_mul, mul_one_div]

/-- At the end the quotient is the weighted mean, whatever `M` is. -/
theorem Carries.quot {D : Type} {U : ℝ} {A : D → ℝ} {m l : EReal} {a : D → EReal} (h : Carries U A m l a) (hU : 0 < U) (d : D) :
    Ideal.div (a d) l = ((A d / U : ℝ) : EReal) := by
  rcases h with ⟨_, _, _, hU', _⟩ | ⟨M, _, rfl, ha⟩
  · exact absurd hU' (ne_of_gt hU)
  · rw [ha d, div_real _ _ (ne_of_gt (mul_pos (two_pos _) hU))]
    exact congrArg _ (mul_div_mul_left _ _ (ne_of_gt (two_pos _)))

end Cert.Kernel4Ideal.Hand
-- ==== Proof.AttnRun.lean ====
module

public import proofs.«01_k».proof.Proof.AttnMath
public import Idealize.ShloMosaic.Lib.VecWindow
public import Idealize.ShloMosaic.Lib.WholeRead

@[expose] public section

set_option maxRecDepth 16384

noncomputable section

/-! # Attention: what a grid point writes, as a recursion over the key blocks -/

namespace Cert.Kernel4Ideal.Hand

open Cert.Kernel4Ideal Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- Rows `384 k` to `384 k + 383` of the staged keys or values. -/
def rowsOf (x : FVec Ideal S1x4224x128 .bf16) (k : ℕ) : FVec Ideal S1x384x128 .bf16 :=
  fun z => x (ix3 0 ⟨(384 * k + (z 1).val) % 4224, Nat.mod_lt _ (by decide)⟩ ⟨(z 2).val, (z 2).isLt⟩)

/-- A load of a whole block at row `384 k`. -/
theorem load_rows (M : Memref sig .tc .vmem S1x4224x128 .bf16) (hM : M.IsWhole) (x : FVec Ideal S1x4224x128 .bf16) (o : Fin 3 → ℕ)
    (ho : ∀ a, o a + S1x384x128.size a ≤ S1x4224x128.size a) (k : ℕ) (h0 : o 0 = 0) (h1 : o 1 = 384 * k) (h2 : o 2 = 0) (hk : k < 11) :
    (View.readAt (Elt Ideal) M.view (Rect.unit (s := S1x4224x128) o S1x384x128.size ho).toLoadRect (hM.unread x) : FVec Ideal S1x384x128 .bf16)
      = rowsOf x k := by
  funext z
  have e := congrFun (hM.read_unread (Val := Elt Ideal) x) ((Rect.unit (s := S1x4224x128) o S1x384x128.size ho).toLoadRect.idx z)
  refine e.trans (congrArg x (funext fun a => Fin.ext ?_))
  have hz1 : (z 1).val < 384 := (z 1).isLt
  have hz0 : (z 0).val < 1 := (z 0).isLt
  fin_cases a
  · show o 0 + 1 * (z 0).val = 0
    omega
  · show o 1 + 1 * (z 1).val = (384 * k + (z 1).val) % 4224
    omega
  · show o 2 + 1 * (z 2).val = (z 2).val
    omega

/-- The loop over the key blocks before the diagonal has as many trips as the block's position. -/
theorem trips1 (i : grid0.Coords) : (k0_t1_loop i).trips = (i 2).val := by
  have h : ∀ q : Fin 11, Scf.trips 0#32 (Scalar.addi 0#32 (Scalar.muli (Scalar.divsi (Scalar.subi (BitVec.ofNat 32 q.val) 0#32) 1#32) 1#32)) 1#32 = q.val := by decide +kernel
  exact h (i 2)

/-- The remainder loop has none. -/
theorem trips2 (i : grid0.Coords) : (k0_t2_loop i).trips = 0 := by
  have h : ∀ q : Fin 11, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by decide +kernel
  exact h (i 2)

theorem off2 (i : grid0.Coords) (k : Fin (k0_t1_loop i).trips) : k0_off2 i k 0 = 0 ∧ k0_off2 i k 1 = 384 * k.val ∧ k0_off2 i k 2 = 0 := by
  have h : ∀ q : Fin 11, (Scalar.indexCast (Scalar.muli (Scf.iv 0#32 1#32 q.val) 384#32)).toNat = 384 * q.val := by decide +kernel
  have hk : k.val < 11 := lt_trans (lt_of_lt_of_eq k.isLt (trips1 i)) (i 2).isLt
  exact ⟨rfl, h ⟨k.val, hk⟩, rfl⟩

theorem off4 (i : grid0.Coords) : k0_off4 i 0 = 0 ∧ k0_off4 i 1 = 384 * (i 2).val ∧ k0_off4 i 2 = 0 := by
  have h : ∀ q : Fin 11, (Scalar.indexCast (Scalar.muli (BitVec.ofNat 32 q.val) 384#32)).toNat = 384 * q.val := by decide +kernel
  exact ⟨rfl, h (i 2), rfl⟩

/-- What the loop carries before trip `k` of grid point `t`. -/
def carried (t : Fin cfg0.N) (k : ℕ) : FVec Ideal S768x1 .f32 × FVec Ideal S768x1 .f32 × FVec Ideal S768x128 .f32 :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (BitVec.ofNat 32 (grid0.coords t 2).val) (kernelRun0_A.sl.r c (grid0.coords t) (ms0_0 t) (hs0_0 t) (iblk m c 0 t))
    (kernelRun0_A.sl.r_2 c (ms0_6 t) (hs0_6 t) (iblk m c 6 t)) (kernelRun0_A.sl.v38 (grid0.coords t))
    ((hs0_7 t).unread (iblk m c 7 t)) ((hs0_8 t).unread (iblk m c 8 t)) (k0_pay4, k0_pay5, k0_pay6) k

/-- The head's slope, as the body reads it. -/
def slopeOf (t : Fin cfg0.N) : Ideal .f32 := kernelRun0_A.sl.r c (grid0.coords t) (ms0_0 t) (hs0_0 t) (iblk m c 0 t)

theorem slopeOf_eq (t : Fin cfg0.N) : slopeOf m c t = (iblk m c 0 t : FVec Ideal S4 .f32) (ix1 ⟨(grid0.coords t 1).val, (grid0.coords t 1).isLt⟩) := by
  have h : ∀ q : Fin 4, (Scalar.indexCast (BitVec.ofNat 32 q.val)).toNat = q.val := by decide +kernel
  unfold slopeOf kernelRun0_A.sl.r
  refine (congrFun ((hs0_0 t).read_unread (iblk m c 0 t)) _).trans (congrArg (iblk m c 0 t : FVec Ideal S4 .f32) (funext fun a => Fin.ext ?_))
  fin_cases a
  have h0 : ((Shape.Idx.first (numel1_S1.symm ▸ Nat.one_pos) : S1.Idx) 0).val = 0 := Nat.lt_one_iff.mp ((Shape.Idx.first (numel1_S1.symm ▸ Nat.one_pos) : S1.Idx) 0).isLt
  show (Scalar.indexCast (BitVec.ofNat 32 (grid0.coords t 1).val)).toNat + ((Shape.Idx.first (numel1_S1.symm ▸ Nat.one_pos) : S1.Idx) 0).val * 1 = (grid0.coords t 1).val
  rw [h0]
  exact h (grid0.coords t 1)

/-- The stacked queries. -/
def stacked (t : Fin cfg0.N) : FVec Ideal S768x128 .bf16 := kernelRun0_A.sl.r_2 c (ms0_6 t) (hs0_6 t) (iblk m c 6 t)

theorem stacked_eq (t : Fin cfg0.N) : stacked m c t = k0_pay3 (F := Ideal) (iblk m c 6 t) := by
  unfold stacked kernelRun0_A.sl.r_2
  exact congrArg k0_pay3 ((View.readAt_full _ _ _).trans ((hs0_6 t).read_unread _))

/-- The first row of the query block. -/
def firstRow (t : Fin cfg0.N) : BitVec 32 := kernelRun0_A.sl.v38 (grid0.coords t)

theorem firstRow_eq (t : Fin cfg0.N) : firstRow t = Scalar.muli (BitVec.ofNat 32 (grid0.coords t 2).val) 384#32 := by
  unfold firstRow kernelRun0_A.sl.v38
  rfl

theorem carried_zero (t : Fin cfg0.N) : carried m c t 0 = (k0_pay4, k0_pay5, k0_pay6) := rfl

/-- One trip. -/
theorem carried_succ (t : Fin cfg0.N) (k : Fin (k0_t1_loop (grid0.coords t)).trips) :
    carried m c t (k.val + 1)
      = (k0_pay8 (grid0.coords t) (slopeOf m c t) (stacked m c t) (firstRow t) k (carried m c t k.val).1 (rowsOf (iblk m c 7 t) k.val),
         k0_pay11 (grid0.coords t) (slopeOf m c t) (stacked m c t) (firstRow t) k (carried m c t k.val).1 (carried m c t k.val).2.1 (rowsOf (iblk m c 7 t) k.val),
         k0_pay12 (grid0.coords t) (slopeOf m c t) (stacked m c t) (firstRow t) k (carried m c t k.val).1 (carried m c t k.val).2.2 (rowsOf (iblk m c 7 t) k.val) (rowsOf (iblk m c 8 t) k.val)) := by
  have hk : k.val < 11 := lt_trans (lt_of_lt_of_eq k.isLt (trips1 _)) (grid0.coords t 2).isLt
  have h7 := load_rows (ms0_7 t) (hs0_7 t) (iblk m c 7 t) (k0_off2 (grid0.coords t) k) (k0_off2_inb _ k) k.val (off2 _ k).1 (off2 _ k).2.1 (off2 _ k).2.2 hk
  have h8 := load_rows (ms0_8 t) (hs0_8 t) (iblk m c 8 t) (k0_off2 (grid0.coords t) k) (k0_off2_inb _ k) k.val (off2 _ k).1 (off2 _ k).2.1 (off2 _ k).2.2 hk
  rw [← h7, ← h8]
  refine (st_k0_t1_succ ..).trans ?_
  unfold tripR_k0_t1 trip_k0_t1
  rfl

/-- What grid point `t` leaves in the output's buffer. -/
theorem outs_eq (t : Fin cfg0.N) :
    (outsAt0 m c t : FVec Ideal S1x384x128 .bf16)
      = k0_pay1 (F := Ideal) (k0_pay2 (iblk m c 1 t) (iblk m c 2 t) (iblk m c 3 t) (iblk m c 4 t))
          (carried m c t (grid0.coords t 2).val).1 (carried m c t (grid0.coords t 2).val).2.1 (carried m c t (grid0.coords t 2).val).2.2
          (k0_pay19 (rowsOf (iblk m c 8 t) (grid0.coords t 2).val))
          (k0_pay20 (BitVec.ofNat 32 (grid0.coords t 2).val) (slopeOf m c t) (stacked m c t) (firstRow t) (rowsOf (iblk m c 7 t) (grid0.coords t 2).val))
          (k0_pay21 (BitVec.ofNat 32 (grid0.coords t 2).val) (slopeOf m c t) (stacked m c t) (firstRow t) (carried m c t (grid0.coords t 2).val).1 (rowsOf (iblk m c 7 t) (grid0.coords t 2).val))
          (iblk m c 5 t) := by
  have h7 := load_rows (ms0_7 t) (hs0_7 t) (iblk m c 7 t) (k0_off4 (grid0.coords t)) (k0_off4_inb _) (grid0.coords t 2).val (off4 _).1 (off4 _).2.1 (off4 _).2.2 (grid0.coords t 2).isLt
  have h8 := load_rows (ms0_8 t) (hs0_8 t) (iblk m c 8 t) (k0_off4 (grid0.coords t)) (k0_off4_inb _) (grid0.coords t 2).val (off4 _).1 (off4 _).2.1 (off4 _).2.2 (grid0.coords t 2).isLt
  have ht : Scf.trips (k0_t2_loop (grid0.coords t)).lb (k0_t2_loop (grid0.coords t)).ub (k0_t2_loop (grid0.coords t)).st = 0 := trips2 _
  have ht1 : Scf.trips (k0_t1_loop (grid0.coords t)).lb (k0_t1_loop (grid0.coords t)).ub (k0_t1_loop (grid0.coords t)).st = (grid0.coords t 2).val := trips1 _
  unfold outsAt0 out0_A_9 kernelRun0_A
  dsimp only
  refine (View.read_writes_full _ _ _ _ _).trans ?_
  unfold kernelRun0_A.sl.r_1 kernelRun0_A.sl.r_3 kernelRun0_A.sl.r_4 kernelRun0_A.sl.r_5 kernelRun0_A.sl.r_6 kernelRun0_A.sl.r_7 kernelRun0_A.sl.r_8
  rw [ht, ht1, ← h7, ← h8]
  simp only [st_k0_t2_zero]
  have e1 : View.readAt (Elt Ideal) (ms0_1 t).view (Rect.unit ![0, 0] ![1, 64] inb_S1x64_S1x64_0_0).toLoadRect ((hs0_1 t).unread (iblk m c 1 t)) = iblk m c 1 t := (View.readAt_full _ _ _).trans ((hs0_1 t).read_unread _)
  have e2 : View.readAt (Elt Ideal) (ms0_2 t).view (Rect.unit ![0, 0] ![1, 64] inb_S1x64_S1x64_0_0).toLoadRect ((hs0_2 t).unread (iblk m c 2 t)) = iblk m c 2 t := (View.readAt_full _ _ _).trans ((hs0_2 t).read_unread _)
  have e3 : View.readAt (Elt Ideal) (ms0_3 t).view (Rect.unit ![0, 0] ![1, 64] inb_S1x64_S1x64_0_0).toLoadRect ((hs0_3 t).unread (iblk m c 3 t)) = iblk m c 3 t := (View.readAt_full _ _ _).trans ((hs0_3 t).read_unread _)
  have e4 : View.readAt (Elt Ideal) (ms0_4 t).view (Rect.unit ![0, 0] ![1, 64] inb_S1x64_S1x64_0_0).toLoadRect ((hs0_4 t).unread (iblk m c 4 t)) = iblk m c 4 t := (View.readAt_full _ _ _).trans ((hs0_4 t).read_unread _)
  have e5 : View.readAt (Elt Ideal) (ms0_5 t).view (Rect.unit ![0, 0] ![1, 128] inb_S1x128_S1x128_0_0).toLoadRect ((hs0_5 t).unread (iblk m c 5 t)) = iblk m c 5 t := (View.readAt_full _ _ _).trans ((hs0_5 t).read_unread _)
  rw [e1, e2, e3, e4, e5]
  rfl

end Cert.Kernel4Ideal.Hand
-- ==== Proof.AttnVal.lean ====
module

public import proofs.«01_k».proof.Proof.AttnRun
public import Idealize.ShloMosaic.PureOps.IdealRules

@[expose] public section

set_option maxRecDepth 16384

noncomputable section

/-! # Attention: the weights of one query, and what the recursion carries -/

namespace Cert.Kernel4Ideal.Hand

open Cert.Kernel4Ideal Cert.Kernel4Ideal.Gen
open Idealize.ShloMosaic Idealize.ShloMosaic.TcCoe Idealize.ShloMosaic.Tactic
open Idealize.SL Idealize.SL.Sem

/-! ## The mathematics of one query -/

/-- The score of key `n`, in powers of two: a half head's product, and the slope times the distance to row `q0`. -/
def score (j : ℕ) (qf : ℕ → ℝ) (kf : ℕ → ℕ → ℝ) (sl : ℝ) (q0 n : ℕ) : ℝ :=
  ∑ d : Fin 64, qf (64 * j + d.val) * kf n (64 * j + d.val) + sl * (Real.log 2)⁻¹ * ((n : ℝ) - (q0 : ℝ))

/-- Key `n`'s weight for the query at position `p`: none after it. -/
def weight (j : ℕ) (qf : ℕ → ℝ) (kf : ℕ → ℕ → ℝ) (sl : ℝ) (q0 p n : ℕ) : ℝ :=
  if n ≤ p then two (score j qf kf sl q0 n) else 0

/-- The weights' sum over the first `N` keys. -/
def total (w : ℕ → ℝ) (N : ℕ) : ℝ := ∑ n ∈ Finset.range N, w n

/-- The weighted sum of the first `N` values. -/
def weighted (w : ℕ → ℝ) (vf : ℕ → ℕ → ℝ) (N : ℕ) (d : Fin 128) : ℝ := ∑ n ∈ Finset.range N, w n * vf n d.val

theorem total_block (w : ℕ → ℝ) (k : ℕ) : total w (384 * (k + 1)) = total w (384 * k) + ∑ c : Fin 384, w (384 * k + c.val) := by
  unfold total
  rw [Nat.mul_succ, Finset.sum_range_add, Finset.sum_range (fun x => w (384 * k + x))]

theorem weighted_block (w : ℕ → ℝ) (vf : ℕ → ℕ → ℝ) (k : ℕ) (d : Fin 128) :
    weighted w vf (384 * (k + 1)) d = weighted w vf (384 * k) d + ∑ c : Fin 384, w (384 * k + c.val) * vf (384 * k + c.val) d.val := by
  unfold weighted
  rw [Nat.mul_succ, Finset.sum_range_add, Finset.sum_range (fun x => w (384 * k + x) * vf (384 * k + x) d.val)]

/-- Half of the lanes. -/
theorem half_sum (f : ℕ → ℝ) (j : ℕ) (hj : j < 2) :
    ∑ l : Fin 128, (if (l.val < 64 ↔ j = 0) then f l.val else 0) = ∑ d : Fin 64, f (64 * j + d.val) := by
  rw [Fin.sum_univ_add (a := 64) (b := 64) (fun l : Fin 128 => if (l.val < 64 ↔ j = 0) then f l.val else 0)]
  interval_cases j
  · simp
  · simp [Nat.add_comm]

/-! ## Words -/

/-- The signed distance of a key to the first row of the query block. -/
theorem word_dist (q k c : ℕ) (hq : q < 11) (hk : k < 11) (hc : c < 384) :
    (IntOp.addi (BitVec.ofNat 32 c) (Scalar.subi (Scalar.muli (BitVec.ofNat 32 k) 384#32) (Scalar.muli (BitVec.ofNat 32 q) 384#32))).toInt
      = 384 * (k : ℤ) + c - 384 * q := by
  have h : ∀ q k : Fin 11, Scalar.subi (Scalar.muli (BitVec.ofNat 32 k.val) 384#32) (Scalar.muli (BitVec.ofNat 32 q.val) 384#32) = BitVec.ofInt 32 (384 * (k.val : ℤ) - 384 * q.val) := by decide +kernel
  rw [h ⟨q, hq⟩ ⟨k, hk⟩]
  show (BitVec.ofNat 32 c + BitVec.ofInt 32 (384 * (k : ℤ) - 384 * q)).toInt = _
  rw [← BitVec.ofInt_natCast, ← BitVec.ofInt_add, BitVec.toInt_ofInt, Int.bmod_eq_of_le (by omega) (by omega)]
  omega

theorem word_iv (k : ℕ) : Scf.iv 0#32 1#32 k = BitVec.ofNat 32 k := by
  unfold Scf.iv; simp

theorem word_small (a : ℕ) (ha : a < 1024) : (BitVec.ofNat 32 a).toInt = a := by
  rw [← BitVec.ofInt_natCast, BitVec.toInt_ofInt, Int.bmod_eq_of_le (by omega) (by omega)]

theorem word_sle (a b : ℕ) (ha : a < 1024) (hb : b < 1024) : IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle_eq_decide, word_small a ha, word_small b hb]
  simp

theorem word_slt (a b : ℕ) (ha : a < 1024) (hb : b < 1024) : IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, word_small a ha, word_small b hb]
  simp

theorem word_sge (a b : ℕ) (ha : a < 1024) (hb : b < 1024) : IntOp.cmpi .sge (BitVec.ofNat 32 a) (BitVec.ofNat 32 b) = BitVec.ofBool (decide (b ≤ a)) :=
  word_sle b a hb ha

theorem select_ofBool {α : Type} (p : Prop) [Decidable p] (x y : α) : Scalar.select (BitVec.ofBool (decide p)) x y = if p then x else y := by
  unfold Scalar.select
  by_cases h : p <;> simp [h]

theorem word_row (R : Fin 768) :
    Scalar.select (IntOp.cmpi .sge (BitVec.ofNat 32 R.val) 384#32) (IntOp.subi (BitVec.ofNat 32 R.val) 384#32) (BitVec.ofNat 32 R.val)
      = BitVec.ofNat 32 (R.val % 384) := by
  have h : ∀ R : Fin 768, Scalar.select (IntOp.cmpi .sge (BitVec.ofNat 32 R.val) 384#32) (IntOp.subi (BitVec.ofNat 32 R.val) 384#32) (BitVec.ofNat 32 R.val)
      = BitVec.ofNat 32 (R.val % 384) := by decide +kernel
  exact h R

/-! ## The body's values at an element -/

theorem log2e_eq : (Named.named (F := Ideal) (φ := .f32) κ "log2e" 0x3FB8AA3B#32 : EReal) = (((Real.log 2)⁻¹ : ℝ) : EReal) :=
  IdealRules.named_const.ideal_named_scalar _ _ _ _ rfl

theorem mask_eq : (Named.named (F := Ideal) (φ := .f32) κ "mask" 0xF149F2CA#32 : EReal) = ⊥ :=
  IdealRules.named_const.ideal_named_scalar _ _ _ _ rfl

/-- Row `R` of the stacked queries: the first half head's lanes in the first 384 rows, the second's in the others. -/
theorem pay3_apply (x : FVec Ideal S1x384x128 .bf16) (R : Fin 768) (l : Fin 128) :
    k0_pay3 (F := Ideal) x (ix2 R l) = if (l.val < 64 ↔ R.val / 384 = 0) then x (ix3 0 ⟨R.val % 384, Nat.mod_lt _ (by decide)⟩ l) else 0 := by
  have hR := R.isLt
  pointwise [k0_pay3]
  by_cases h : R.val < 384
  · have h0 : R.val / 384 = 0 := by omega
    have h1 : R.val % 384 = R.val := by omega
    refine (dif_pos h).trans ?_
    show Scalar.select (IntOp.cmpi .slt (BitVec.ofNat 32 l.val) 64#32) (x (ix3 0 ⟨R.val, h⟩ l)) 0 = _
    rw [word_slt l.val 64 (by omega) (by omega), select_ofBool]
    simp only [h0, h1, iff_true]
  · have h0 : ¬ (R.val / 384 = 0) := by omega
    have h1 : R.val % 384 = R.val - 384 := by omega
    refine (dif_neg h).trans ?_
    show Scalar.select (IntOp.cmpi .sge (BitVec.ofNat 32 l.val) 64#32) (x (ix3 0 ⟨R.val - 384, by omega⟩ l)) 0 = _
    rw [word_sge l.val 64 (by omega) (by omega), select_ofBool]
    simp only [h0, h1, iff_false, not_lt]

/-- A stacked row times a key's row. -/
theorem stacked_dot (x : FVec Ideal S1x384x128 .bf16) (y : FVec Ideal S1x384x128 .bf16) (R : Fin 768) (c : Fin 384) (qf kf : ℕ → ℝ)
    (hq : ∀ l : Fin 128, x (ix3 0 ⟨R.val % 384, Nat.mod_lt _ (by decide)⟩ l) = ((qf l.val : ℝ) : EReal))
    (hk : ∀ l : Fin 128, y (ix3 0 c l) = ((kf l.val : ℝ) : EReal)) :
    ∑ l : Fin 128, k0_pay3 (F := Ideal) x (ix2 R l) * y (ix3 0 c l)
      = ((∑ d : Fin 64, qf (64 * (R.val / 384) + d.val) * kf (64 * (R.val / 384) + d.val) : ℝ) : EReal) := by
  rw [← half_sum (fun l => qf l * kf l) (R.val / 384) (by omega), ← coe_sum]
  refine Finset.sum_congr rfl fun l _ => ?_
  rw [pay3_apply, hq, hk]
  by_cases h : (l.val < 64 ↔ R.val / 384 = 0)
  · rw [if_pos h, if_pos h, EReal.coe_mul]
  · rw [if_neg h, if_neg h, zero_mul]; rfl

/-- A score of a block before the diagonal. -/
theorem pay7_apply (i : grid0.Coords) (s : Ideal .f32) (q : FVec Ideal S768x128 .bf16) (w : BitVec 32) (k : Fin (k0_t1_loop i).trips)
    (x : FVec Ideal S1x384x128 .bf16) (R : Fin 768) (c : Fin 384) :
    k0_pay7 (F := Ideal) i s q w k x (ix2 R c)
      = ∑ l : Fin 128, q (ix2 R l) * x (ix3 0 c l) + s * (((Real.log 2)⁻¹ : ℝ) : EReal)
          * (((IntOp.addi (BitVec.ofNat 32 c.val) (Scalar.subi (Scalar.muli (Scf.iv 0#32 1#32 k.val) 384#32) w)).toInt : ℝ) : EReal) := by
  rw [← log2e_eq]
  pointwise [k0_pay7]
  rfl

/-- A score of the block on the diagonal. -/
theorem pay20_apply (s : Ideal .f32) (q : FVec Ideal S768x128 .bf16) (w w' : BitVec 32) (x : FVec Ideal S1x384x128 .bf16) (R : Fin 768) (c : Fin 384) :
    k0_pay20 (F := Ideal) w s q w' x (ix2 R c)
      = if c.val ≤ R.val % 384 then ∑ l : Fin 128, q (ix2 R l) * x (ix3 0 c l) + s * (((Real.log 2)⁻¹ : ℝ) : EReal)
          * (((IntOp.addi (BitVec.ofNat 32 c.val) (Scalar.subi (Scalar.muli w 384#32) w')).toInt : ℝ) : EReal) else ⊥ := by
  have hR := R.isLt
  have hc := c.isLt
  rw [← select_ofBool, ← word_sle c.val (R.val % 384) (by omega) (by omega), ← word_row, ← log2e_eq, ← mask_eq]
  pointwise [k0_pay20]
  rfl

theorem neg_inf : (Ideal.ofBits .f32 0xFF800000#32 : EReal) = ⊥ := by
  simp [Ideal.ofBits, Ideal.ieee]

theorem pay8_apply (i : grid0.Coords) (s : Ideal .f32) (q : FVec Ideal S768x128 .bf16) (w : BitVec 32) (k : Fin (k0_t1_loop i).trips)
    (x : FVec Ideal S1x384x128 .bf16) (a : FVec Ideal S768x1 .f32) (R : Fin 768) :
    k0_pay8 (F := Ideal) i s q w k a x (ix2 R 0)
      = max (a (ix2 R 0)) (Finset.univ.fold max (⊥ : EReal) fun c : Fin 384 => k0_pay7 (F := Ideal) i s q w k x (ix2 R c)) := by
  rw [← neg_inf]
  pointwise [k0_pay8]

theorem pay11_apply (i : grid0.Coords) (s : Ideal .f32) (q : FVec Ideal S768x128 .bf16) (w : BitVec 32) (k : Fin (k0_t1_loop i).trips)
    (x : FVec Ideal S1x384x128 .bf16) (a b : FVec Ideal S768x1 .f32) (R : Fin 768) :
    k0_pay11 (F := Ideal) i s q w k a b x (ix2 R 0)
      = Ideal.exp2 (a (ix2 R 0) - k0_pay8 (F := Ideal) i s q w k a x (ix2 R 0)) * b (ix2 R 0)
        + ∑ c : Fin 384, Ideal.exp2 (k0_pay7 (F := Ideal) i s q w k x (ix2 R c) - k0_pay8 (F := Ideal) i s q w k a x (ix2 R 0)) := by
  pointwise [k0_pay11, k0_pay9, k0_pay10]
  rfl

theorem pay12_apply (i : grid0.Coords) (s : Ideal .f32) (q : FVec Ideal S768x128 .bf16) (w : BitVec 32) (k : Fin (k0_t1_loop i).trips)
    (x y : FVec Ideal S1x384x128 .bf16) (a : FVec Ideal S768x1 .f32) (b : FVec Ideal S768x128 .f32) (R : Fin 768) (d : Fin 128) :
    k0_pay12 (F := Ideal) i s q w k a b x y (ix2 R d)
      = Ideal.exp2 (a (ix2 R 0) - k0_pay8 (F := Ideal) i s q w k a x (ix2 R 0)) * b (ix2 R d)
        + ∑ c : Fin 384, Ideal.exp2 (k0_pay7 (F := Ideal) i s q w k x (ix2 R c) - k0_pay8 (F := Ideal) i s q w k a x (ix2 R 0)) * y (ix3 0 c d) := by
  pointwise [k0_pay12, k0_pay9, k0_pay10]
  rfl

theorem pay21_apply (w : BitVec 32) (s : Ideal .f32) (q : FVec Ideal S768x128 .bf16) (w' : BitVec 32) (a : FVec Ideal S768x1 .f32)
    (x : FVec Ideal S1x384x128 .bf16) (R : Fin 768) :
    k0_pay21 (F := Ideal) w s q w' a x (ix2 R 0)
      = max (a (ix2 R 0)) (Finset.univ.fold max (⊥ : EReal) fun c : Fin 384 => k0_pay20 (F := Ideal) w s q w' x (ix2 R c)) := by
  rw [← neg_inf]
  pointwise [k0_pay21]

theorem pay2_apply (x1 x2 x3 x4 : FVec Ideal S1x64 .f32) :
    k0_pay2 (F := Ideal) x1 x2 x3 x4 (ix2 0 0)
      = Ideal.exp (∑ d : Fin 64, x1 (ix2 0 d) * x2 (ix2 0 d)) - Ideal.exp (∑ d : Fin 64, x3 (ix2 0 d) * x4 (ix2 0 d)) + Ideal.ofBits .f32 0x3E4CCCCD#32 := by
  pointwise [k0_pay2]
  simp

/-- The quotient of a stacked row at a lane, as the body forms it after the last block. -/
def quotAt (a l : FVec Ideal S768x1 .f32) (acc : FVec Ideal S768x128 .f32) (v : FVec Ideal S384x128 .bf16) (s : FVec Ideal S768x384 .f32)
    (M : FVec Ideal S768x1 .f32) (R : Fin 768) (d : Fin 128) : EReal :=
  Ideal.div (Ideal.exp2 (a (ix2 R 0) - M (ix2 R 0)) * acc (ix2 R d) + ∑ c : Fin 384, Ideal.exp2 (s (ix2 R c) - M (ix2 R 0)) * v (ix2 c d))
    (Ideal.exp2 (a (ix2 R 0) - M (ix2 R 0)) * l (ix2 R 0) + ∑ c : Fin 384, Ideal.exp2 (s (ix2 R c) - M (ix2 R 0)))

/-- The two half heads' difference. -/
def diffAt (lam : EReal) (o : Fin 768 → Fin 128 → EReal) (r : Fin 384) (d : Fin 128) : EReal :=
  o ⟨r.val, by omega⟩ d - lam * o ⟨384 + r.val, by omega⟩ d

theorem pay1_apply (lam : FVec Ideal S1x1 .f32) (a l : FVec Ideal S768x1 .f32) (acc : FVec Ideal S768x128 .f32) (v : FVec Ideal S384x128 .bf16)
    (s : FVec Ideal S768x384 .f32) (M : FVec Ideal S768x1 .f32) (g : FVec Ideal S1x128 .f32) (r : Fin 384) (d : Fin 128) :
    k0_pay1 (F := Ideal) lam a l acc v s M g (ix3 0 r d)
      = diffAt (lam (ix2 0 0)) (quotAt a l acc v s M) r d
        * Ideal.rsqrt (Ideal.div (∑ d' : Fin 128, diffAt (lam (ix2 0 0)) (quotAt a l acc v s M) r d' * diffAt (lam (ix2 0 0)) (quotAt a l acc v s M) r d') (Ideal.ofBits .f32 0x43000000#32) + Ideal.ofBits .f32 0x358637BD#32)
        * g (ix2 0 d) * Ideal.ofBits .f32 0x3F4CCCCD#32 := by
  unfold diffAt quotAt
  pointwise [k0_pay1]
  rfl

end Cert.Kernel4Ideal.Hand
-- ==== Proof.AttnRow.lean ====
module

public import proofs.«01_k».proof.Proof.AttnVal

@[expose] public section

set_option maxRecDepth 16384

noncomputable section

/-! # Attention: the recursion carries the weights' sums, and the quotient is the weighted mean -/

namespace Cert.Kernel4Ideal.Hand

open Cert.Kernel4Ideal Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The blocks of grid point `t` hold reals: the row `r` of the queries, the keys, the values and the slope. -/
structure Holds (t : Fin cfg0.N) (r : Fin 384) (qf : ℕ → ℝ) (kf vf : ℕ → ℕ → ℝ) (sl : ℝ) : Prop where
  query : ∀ l : Fin 128, (iblk m c 6 t : FVec Ideal S1x384x128 .bf16) (ix3 0 r l) = ((qf l.val : ℝ) : EReal)
  key : ∀ (n : Fin 4224) (l : Fin 128), (iblk m c 7 t : FVec Ideal S1x4224x128 .bf16) (ix3 0 n l) = ((kf n.val l.val : ℝ) : EReal)
  value : ∀ (n : Fin 4224) (l : Fin 128), (iblk m c 8 t : FVec Ideal S1x4224x128 .bf16) (ix3 0 n l) = ((vf n.val l.val : ℝ) : EReal)
  slope : (iblk m c 0 t : FVec Ideal S4 .f32) (ix1 ⟨(grid0.coords t 1).val, (grid0.coords t 1).isLt⟩) = ((sl : ℝ) : EReal)

theorem rowsOf_apply (x : FVec Ideal S1x4224x128 .bf16) (k : ℕ) (hk : k < 11) (i : Fin 384) (l : Fin 128) :
    rowsOf x k (ix3 0 i l) = x (ix3 0 ⟨384 * k + i.val, by omega⟩ l) := by
  have h : (384 * k + i.val) % 4224 = 384 * k + i.val := Nat.mod_eq_of_lt (by omega)
  show x (ix3 0 ⟨(384 * k + i.val) % 4224, _⟩ l) = _
  simp only [h]

variable {m c}

/-- The score that the body forms for key `384 k + i`. -/
theorem score_eq {t : Fin cfg0.N} {R : Fin 768} {qf : ℕ → ℝ} {kf vf : ℕ → ℕ → ℝ} {sl : ℝ}
    (h : Holds m c t ⟨R.val % 384, Nat.mod_lt _ (by decide)⟩ qf kf vf sl) (k : ℕ) (hk : k < 11) (i : Fin 384) :
    (∑ l : Fin 128, stacked m c t (ix2 R l) * rowsOf (iblk m c 7 t) k (ix3 0 i l) : EReal)
        + slopeOf m c t * (((Real.log 2)⁻¹ : ℝ) : EReal)
          * (((IntOp.addi (BitVec.ofNat 32 i.val) (Scalar.subi (Scalar.muli (BitVec.ofNat 32 k) 384#32) (firstRow t))).toInt : ℝ) : EReal)
      = ((score (R.val / 384) qf kf sl (384 * (grid0.coords t 2).val) (384 * k + i.val) : ℝ) : EReal) := by
  rw [stacked_eq, slopeOf_eq, firstRow_eq, word_dist _ _ _ (grid0.coords t 2).isLt hk i.isLt, h.slope,
    stacked_dot (iblk m c 6 t) (rowsOf (iblk m c 7 t) k) R i qf (kf (384 * k + i.val)) h.query
      (fun l => (rowsOf_apply _ k hk i l).trans (h.key _ l)),
    ← EReal.coe_mul, ← EReal.coe_mul, ← EReal.coe_add]
  unfold score
  push_cast
  rfl

/-- What the loop carries for row `R` before trip `k`. -/
theorem carries {t : Fin cfg0.N} {R : Fin 768} {qf : ℕ → ℝ} {kf vf : ℕ → ℕ → ℝ} {sl : ℝ}
    (h : Holds m c t ⟨R.val % 384, Nat.mod_lt _ (by decide)⟩ qf kf vf sl) (k : ℕ) (hk : k ≤ (grid0.coords t 2).val) :
    Carries (total (weight (R.val / 384) qf kf sl (384 * (grid0.coords t 2).val) (384 * (grid0.coords t 2).val + R.val % 384)) (384 * k))
      (weighted (weight (R.val / 384) qf kf sl (384 * (grid0.coords t 2).val) (384 * (grid0.coords t 2).val + R.val % 384)) vf (384 * k))
      ((carried m c t k).1 (ix2 R 0)) ((carried m c t k).2.1 (ix2 R 0)) (fun d => (carried m c t k).2.2 (ix2 R d)) := by
  induction k with
  | zero =>
    refine Or.inl ⟨?_, ?_, fun d => ?_, rfl, fun d => rfl⟩
    · exact mask_eq
    · exact Ideal.ofBits_zero_f32
    · exact Ideal.ofBits_zero_f32
  | succ k ih =>
    have hq : (grid0.coords t 2).val < 11 := (grid0.coords t 2).isLt
    have hk' : k < (k0_t1_loop (grid0.coords t)).trips := lt_of_lt_of_eq (by omega) (trips1 _).symm
    rw [carried_succ m c t ⟨k, hk'⟩]
    obtain ⟨M, hM, hC⟩ := (ih (by omega)).step
      (fun i : Fin 384 => k0_pay7 (F := Ideal) (grid0.coords t) (slopeOf m c t) (stacked m c t) (firstRow t) ⟨k, hk'⟩ (rowsOf (iblk m c 7 t) k) (ix2 R i))
      (fun i => weight (R.val / 384) qf kf sl (384 * (grid0.coords t 2).val) (384 * (grid0.coords t 2).val + R.val % 384) (384 * k + i.val))
      (fun i => Or.inr ⟨_, by
        rw [pay7_apply, word_iv]; exact score_eq h k (by omega) i, if_pos (by omega)⟩)
      ⟨0, by rw [pay7_apply, word_iv, score_eq h k (by omega) 0]; exact EReal.coe_ne_bot _⟩
      (fun i d => vf (384 * k + i.val) d.val)
    rw [total_block, funext (weighted_block _ vf k)]
    rw [← pay8_apply] at hM
    simp only [pay11_apply, pay12_apply, hM]
    simp only [rowsOf_apply _ k (show k < 11 by omega), h.value]
    exact hC

/-- After the block on the diagonal the quotient is the weighted mean of the values. -/
theorem quot_eq {t : Fin cfg0.N} {R : Fin 768} {qf : ℕ → ℝ} {kf vf : ℕ → ℕ → ℝ} {sl : ℝ}
    (h : Holds m c t ⟨R.val % 384, Nat.mod_lt _ (by decide)⟩ qf kf vf sl) (d : Fin 128) :
    quotAt (carried m c t (grid0.coords t 2).val).1 (carried m c t (grid0.coords t 2).val).2.1 (carried m c t (grid0.coords t 2).val).2.2
        (k0_pay19 (rowsOf (iblk m c 8 t) (grid0.coords t 2).val))
        (k0_pay20 (BitVec.ofNat 32 (grid0.coords t 2).val) (slopeOf m c t) (stacked m c t) (firstRow t) (rowsOf (iblk m c 7 t) (grid0.coords t 2).val))
        (k0_pay21 (BitVec.ofNat 32 (grid0.coords t 2).val) (slopeOf m c t) (stacked m c t) (firstRow t) (carried m c t (grid0.coords t 2).val).1 (rowsOf (iblk m c 7 t) (grid0.coords t 2).val)) R d
      = ((weighted (weight (R.val / 384) qf kf sl (384 * (grid0.coords t 2).val) (384 * (grid0.coords t 2).val + R.val % 384)) vf (384 * ((grid0.coords t 2).val + 1)) d
          / total (weight (R.val / 384) qf kf sl (384 * (grid0.coords t 2).val) (384 * (grid0.coords t 2).val + R.val % 384)) (384 * ((grid0.coords t 2).val + 1)) : ℝ) : EReal) := by
  have hq : (grid0.coords t 2).val < 11 := (grid0.coords t 2).isLt
  obtain ⟨M, hM, hC⟩ := (carries h (grid0.coords t 2).val (le_refl _)).step
    (fun i : Fin 384 => k0_pay20 (F := Ideal) (BitVec.ofNat 32 (grid0.coords t 2).val) (slopeOf m c t) (stacked m c t) (firstRow t) (rowsOf (iblk m c 7 t) (grid0.coords t 2).val) (ix2 R i))
    (fun i => weight (R.val / 384) qf kf sl (384 * (grid0.coords t 2).val) (384 * (grid0.coords t 2).val + R.val % 384) (384 * (grid0.coords t 2).val + i.val))
    (fun i => by
      rw [pay20_apply, score_eq h _ hq i]
      by_cases hi : i.val ≤ R.val % 384
      · exact Or.inr ⟨_, if_pos hi, if_pos (by omega)⟩
      · exact Or.inl ⟨if_neg hi, if_neg (by omega)⟩)
    ⟨0, by
      rw [pay20_apply, score_eq h _ hq 0]; exact ne_of_eq_of_ne (if_pos (Nat.zero_le _)) (EReal.coe_ne_bot _)⟩
    (fun i d => vf (384 * (grid0.coords t 2).val + i.val) d.val)
  have hU : 0 < total (weight (R.val / 384) qf kf sl (384 * (grid0.coords t 2).val) (384 * (grid0.coords t 2).val + R.val % 384)) (384 * ((grid0.coords t 2).val + 1)) := by
    refine Finset.sum_pos' (fun n _ => ?_) ⟨0, Finset.mem_range.mpr (by omega), ?_⟩
    · unfold weight
      split
      · exact le_of_lt (two_pos _)
      · exact le_refl _
    · unfold weight
      rw [if_pos (Nat.zero_le _)]
      exact two_pos _
  rw [← pay21_apply] at hM
  rw [← total_block, ← funext (weighted_block _ vf _)] at hC
  refine Eq.trans ?_ (hC.quot hU d)
  unfold quotAt
  rw [hM]
  have hv : ∀ i : Fin 384, (k0_pay19 (F := Ideal) (rowsOf (iblk m c 8 t) (grid0.coords t 2).val) (ix2 i d) : EReal) = ((vf (384 * (grid0.coords t 2).val + i.val) d.val : ℝ) : EReal) := fun i => by
    have e : k0_pay19 (F := Ideal) (rowsOf (iblk m c 8 t) (grid0.coords t 2).val) (ix2 i d) = rowsOf (iblk m c 8 t) (grid0.coords t 2).val (ix3 0 i d) := by
      pointwise [k0_pay19]
    exact e.trans ((rowsOf_apply _ _ hq i d).trans (h.value _ d))
  simp only [hv]

end Cert.Kernel4Ideal.Hand
-- ==== Proof.AttnBlocks.lean ====
module

public import proofs.«01_k».proof.Proof.AttnRow
public import proofs.«01_k».proof.Proof.Gen.Kernel4Ideal.Value
public import Idealize.ShloMosaic.Lib.Pointwise
public import Idealize.ShloMosaic.Lib.StableHlo.Run

@[expose] public section

set_option maxRecDepth 16384

noncomputable section

/-! # Attention: the blocks at a grid point, and the result after the run -/

namespace Cert.Kernel4Ideal.Hand

open Cert.Kernel4Ideal Cert.Kernel4Ideal.Gen
open Idealize.ShloMosaic Idealize.ShloMosaic.TcCoe Idealize.ShloMosaic.Tactic Idealize.ShloMosaic.StableHlo
open Idealize.SL Idealize.SL.Sem
open Idealize.ShloMosaic.Pipeline (Window)

theorem coords_eq : ∀ t : Fin grid0.N, (grid0.coords t 0).val = t.val / 44 ∧ (grid0.coords t 1).val = t.val / 11 % 4 ∧ (grid0.coords t 2).val = t.val % 11 := by
  decide +kernel
theorem index0 : ∀ t : Fin grid0.N, win0_0.index t 0 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val / 44 ∧ win0_6.index t 1 = t.val % 11 ∧ win0_6.index t 2 = t.val / 11 % 4 := by decide +kernel
theorem index7 : ∀ t : Fin grid0.N, win0_7.index t 0 = t.val / 44 ∧ win0_7.index t 1 = 0 ∧ win0_7.index t 2 = t.val / 11 % 4 := by decide +kernel
theorem index8 : ∀ t : Fin grid0.N, win0_8.index t 0 = t.val / 44 ∧ win0_8.index t 1 = 0 ∧ win0_8.index t 2 = t.val / 11 % 4 := by decide +kernel
theorem index9 : ∀ t : Fin grid0.N, win0_9.index t 0 = t.val / 44 ∧ win0_9.index t 1 = t.val % 11 ∧ win0_9.index t 2 = t.val / 11 % 4 := by decide +kernel

/-- The point of batch `b`, head `h` and block `q` of queries. -/
abbrev point (b : Fin 8) (h : Fin 4) (q : Fin 11) : Fin cfg0.N := ⟨44 * b.val + 11 * h.val + q.val, by show _ < 352; omega⟩

theorem point_parts (b : Fin 8) (h : Fin 4) (q : Fin 11) :
    (44 * b.val + 11 * h.val + q.val) / 44 = b.val ∧ (44 * b.val + 11 * h.val + q.val) / 11 % 4 = h.val ∧ (44 * b.val + 11 * h.val + q.val) % 11 = q.val := by
  omega

variable (m : (ℓ : Loc nD τ sig) → Buf (Elt Ideal) ℓ) (c : Dev nD)

/-- The kernel's arguments on a device. -/
abbrev argQ : FVec Ideal S8x4224x512 .bf16 := m ((c : Thread nD τ).loc main_arg0)
abbrev argK : FVec Ideal S8x4224x512 .bf16 := m ((c : Thread nD τ).loc main_arg1)
abbrev argV : FVec Ideal S8x4224x512 .bf16 := m ((c : Thread nD τ).loc main_arg2)
abbrev argS : FVec Ideal S4 .f32 := m ((c : Thread nD τ).loc main_arg3)
abbrev argA : FVec Ideal S64 .f32 := m ((c : Thread nD τ).loc main_arg4)
abbrev argB : FVec Ideal S64 .f32 := m ((c : Thread nD τ).loc main_arg5)
abbrev argC : FVec Ideal S64 .f32 := m ((c : Thread nD τ).loc main_arg6)
abbrev argD : FVec Ideal S64 .f32 := m ((c : Thread nD τ).loc main_arg7)
abbrev argG : FVec Ideal S128 .f32 := m ((c : Thread nD τ).loc main_arg8)

theorem V_0 : V m c main_v0 = broadcastInDim S1x64 ![1] bcast_S64_S1x64_1 (argA m c) := by unfold V; after_results_simp <;> rfl
theorem V_1 : V m c main_v1 = broadcastInDim S1x64 ![1] bcast_S64_S1x64_1 (argB m c) := by unfold V; after_results_simp <;> rfl
theorem V_2 : V m c main_v2 = broadcastInDim S1x64 ![1] bcast_S64_S1x64_1 (argC m c) := by unfold V; after_results_simp <;> rfl
theorem V_3 : V m c main_v3 = broadcastInDim S1x64 ![1] bcast_S64_S1x64_1 (argD m c) := by unfold V; after_results_simp <;> rfl
theorem V_4 : V m c main_v4 = broadcastInDim S1x128 ![1] bcast_S128_S1x128_1 (argG m c) := by unfold V; after_results_simp <;> rfl

theorem block0 (t : Fin cfg0.N) (h : Fin 4) : iblk m c 0 t (ix1 h) = argS m c (ix1 h) :=
  (congrArg (V m c main_arg3) (funext fun a => Fin.ext ((Window.rect_emb_val_off win0_0 t (ix1 h) a).trans (by
    fin_cases a
    exact (congrArg (· * 4 + h.val) (index0 t)).trans (by show 0 * 4 + h.val = h.val; omega))))).trans (congrFun (V_main_arg3 m c) _)

theorem block1 (t : Fin cfg0.N) (d : Fin 64) : iblk m c 1 t (ix2 0 d) = argA m c (ix1 d) :=
  (congrArg (V m c main_v0) (funext fun a => Fin.ext ((Window.rect_emb_val_off win0_1 t (ix2 0 d) a).trans (by
    fin_cases a
    · exact congrArg (· * 1 + 0) (index1 t).1
    · exact (congrArg (· * 64 + d.val) (index1 t).2).trans (by show 0 * 64 + d.val = d.val; omega))))).trans
    ((congrFun (V_0 m c) (ix2 0 d)).trans (by pointwise []))

theorem block2 (t : Fin cfg0.N) (d : Fin 64) : iblk m c 2 t (ix2 0 d) = argB m c (ix1 d) :=
  (congrArg (V m c main_v1) (funext fun a => Fin.ext ((Window.rect_emb_val_off win0_2 t (ix2 0 d) a).trans (by
    fin_cases a
    · exact congrArg (· * 1 + 0) (index2 t).1
    · exact (congrArg (· * 64 + d.val) (index2 t).2).trans (by show 0 * 64 + d.val = d.val; omega))))).trans
    ((congrFun (V_1 m c) (ix2 0 d)).trans (by pointwise []))

theorem block3 (t : Fin cfg0.N) (d : Fin 64) : iblk m c 3 t (ix2 0 d) = argC m c (ix1 d) :=
  (congrArg (V m c main_v2) (funext fun a => Fin.ext ((Window.rect_emb_val_off win0_3 t (ix2 0 d) a).trans (by
    fin_cases a
    · exact congrArg (· * 1 + 0) (index3 t).1
    · exact (congrArg (· * 64 + d.val) (index3 t).2).trans (by show 0 * 64 + d.val = d.val; omega))))).trans
    ((congrFun (V_2 m c) (ix2 0 d)).trans (by pointwise []))

theorem block4 (t : Fin cfg0.N) (d : Fin 64) : iblk m c 4 t (ix2 0 d) = argD m c (ix1 d) :=
  (congrArg (V m c main_v3) (funext fun a => Fin.ext ((Window.rect_emb_val_off win0_4 t (ix2 0 d) a).trans (by
    fin_cases a
    · exact congrArg (· * 1 + 0) (index4 t).1
    · exact (congrArg (· * 64 + d.val) (index4 t).2).trans (by show 0 * 64 + d.val = d.val; omega))))).trans
    ((congrFun (V_3 m c) (ix2 0 d)).trans (by pointwise []))

theorem block5 (t : Fin cfg0.N) (d : Fin 128) : iblk m c 5 t (ix2 0 d) = argG m c (ix1 d) :=
  (congrArg (V m c main_v4) (funext fun a => Fin.ext ((Window.rect_emb_val_off win0_5 t (ix2 0 d) a).trans (by
    fin_cases a
    · exact congrArg (· * 1 + 0) (index5 t).1
    · exact (congrArg (· * 128 + d.val) (index5 t).2).trans (by show 0 * 128 + d.val = d.val; omega))))).trans
    ((congrFun (V_4 m c) (ix2 0 d)).trans (by pointwise []))

theorem block6 (b : Fin 8) (h : Fin 4) (q : Fin 11) (r : Fin 384) (l : Fin 128) :
    iblk m c 6 (point b h q) (ix3 0 r l) = argQ m c (ix3 b ⟨384 * q.val + r.val, by omega⟩ ⟨128 * h.val + l.val, by omega⟩) :=
  (congrArg (V m c main_arg0) (funext fun a => Fin.ext ((Window.rect_emb_val_off win0_6 (point b h q) (ix3 0 r l) a).trans (by
    obtain ⟨hb, hh, hq⟩ := point_parts b h q
    fin_cases a
    · exact (congrArg (· * 1 + 0) ((index6 (point b h q)).1.trans hb)).trans (Nat.mul_one _)
    · exact (congrArg (· * 384 + r.val) ((index6 (point b h q)).2.1.trans hq)).trans (by show q.val * 384 + r.val = 384 * q.val + r.val; omega)
    · exact (congrArg (· * 128 + l.val) ((index6 (point b h q)).2.2.trans hh)).trans (by show h.val * 128 + l.val = 128 * h.val + l.val; omega))))).trans (congrFun (V_main_arg0 m c) _)

theorem block7 (b : Fin 8) (h : Fin 4) (q : Fin 11) (n : Fin 4224) (l : Fin 128) :
    iblk m c 7 (point b h q) (ix3 0 n l) = argK m c (ix3 b n ⟨128 * h.val + l.val, by omega⟩) :=
  (congrArg (V m c main_arg1) (funext fun a => Fin.ext ((Window.rect_emb_val_off win0_7 (point b h q) (ix3 0 n l) a).trans (by
    obtain ⟨hb, hh, hq⟩ := point_parts b h q
    fin_cases a
    · exact (congrArg (· * 1 + 0) ((index7 (point b h q)).1.trans hb)).trans (Nat.mul_one _)
    · exact (congrArg (· * 4224 + n.val) (index7 (point b h q)).2.1).trans (by show 0 * 4224 + n.val = n.val; omega)
    · exact (congrArg (· * 128 + l.val) ((index7 (point b h q)).2.2.trans hh)).trans (by show h.val * 128 + l.val = 128 * h.val + l.val; omega))))).trans (congrFun (V_main_arg1 m c) _)

theorem block8 (b : Fin 8) (h : Fin 4) (q : Fin 11) (n : Fin 4224) (l : Fin 128) :
    iblk m c 8 (point b h q) (ix3 0 n l) = argV m c (ix3 b n ⟨128 * h.val + l.val, by omega⟩) :=
  (congrArg (V m c main_arg2) (funext fun a => Fin.ext ((Window.rect_emb_val_off win0_8 (point b h q) (ix3 0 n l) a).trans (by
    obtain ⟨hb, hh, hq⟩ := point_parts b h q
    fin_cases a
    · exact (congrArg (· * 1 + 0) ((index8 (point b h q)).1.trans hb)).trans (Nat.mul_one _)
    · exact (congrArg (· * 4224 + n.val) (index8 (point b h q)).2.1).trans (by show 0 * 4224 + n.val = n.val; omega)
    · exact (congrArg (· * 128 + l.val) ((index8 (point b h q)).2.2.trans hh)).trans (by show h.val * 128 + l.val = 128 * h.val + l.val; omega))))).trans (congrFun (V_main_arg2 m c) _)

/-- Where point's result block sits. -/
theorem emb9 (b : Fin 8) (h : Fin 4) (q : Fin 11) (r : Fin 384) (l : Fin 128) :
    ((cfg0.win 9).blk (point b h q)).view.emb (ix3 0 r l) = (ix3 b ⟨384 * q.val + r.val, by omega⟩ ⟨128 * h.val + l.val, by omega⟩ : S8x4224x512.Idx) :=
  funext fun a => Fin.ext ((Window.rect_emb_val_off win0_9 (point b h q) (ix3 0 r l) a).trans (by
    obtain ⟨hb, hh, hq⟩ := point_parts b h q
    fin_cases a
    · exact (congrArg (· * 1 + 0) ((index9 (point b h q)).1.trans hb)).trans (Nat.mul_one _)
    · exact (congrArg (· * 384 + r.val) ((index9 (point b h q)).2.1.trans hq)).trans (by show q.val * 384 + r.val = 384 * q.val + r.val; omega)
    · exact (congrArg (· * 128 + l.val) ((index9 (point b h q)).2.2.trans hh)).trans (by show h.val * 128 + l.val = 128 * h.val + l.val; omega)))

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (Fin.ext (by
    have h0 : t.val / 44 = t'.val / 44 := (index9 t).1.symm.trans ((congrFun h 0).trans (index9 t').1)
    have h1 : t.val % 11 = t'.val % 11 := (index9 t).2.1.symm.trans ((congrFun h 1).trans (index9 t').2.1)
    have h2 : t.val / 11 % 4 = t'.val / 11 % 4 := (index9 t).2.2.symm.trans ((congrFun h 2).trans (index9 t').2.2)
    omega))

/-- The result after the run, at an element of a point's block, is that element of what the body leaves. -/
theorem arr9 (b : Fin 8) (h : Fin 4) (q : Fin 11) (r : Fin 384) (l : Fin 128) :
    (dats m 0 c).arrAt 9 cfg0.N (ix3 b ⟨384 * q.val + r.val, by omega⟩ ⟨128 * h.val + l.val, by omega⟩ : S8x4224x512.Idx)
      = (outsAt0 m c (point b h q) : FVec Ideal S1x384x128 .bf16) (ix3 0 r l) := by
  rw [← emb9 b h q r l]
  refine ((dats m 0 c).arrAt_emb_eq_flushed 9 disjoint9 (point b h q) (flush0_9 (point b h q)) (ix3 0 r l)).trans ?_
  show (dats m 0 c).after 9 (point b h q) (ix3 0 r l) = _
  rw [after0_9]

/-- The lambda, in the arguments' words. -/
theorem lam_value (t : Fin cfg0.N) : k0_pay2 (F := Ideal) (iblk m c 1 t) (iblk m c 2 t) (iblk m c 3 t) (iblk m c 4 t) (ix2 0 0)
    = Ideal.exp (∑ d : Fin 64, argA m c (ix1 d) * argB m c (ix1 d)) - Ideal.exp (∑ d : Fin 64, argC m c (ix1 d) * argD m c (ix1 d)) + Ideal.ofBits .f32 0x3E4CCCCD#32 := by
  rw [pay2_apply]
  simp only [block1 m c t, block2 m c t, block3 m c t, block4 m c t]

end Cert.Kernel4Ideal.Hand

end
-- ==== Proof.AttnRef.lean ====
module

public import proofs.«01_k».proof.Proof.AttnVal
public import proofs.«01_k».proof.Proof.LogTwo
public import proofs.«01_k».proof.Proof.Gen.Reference4Ideal.Read

@[expose] public section

set_option maxRecDepth 16384

noncomputable section

/-! # Attention: the reference at an element -/

namespace Cert.Reference4Ideal.Hand

open Cert.Reference4Ideal Cert.Reference4Ideal.Gen Cert.Reference4Ideal.Read
open Cert.Hand (log_two_word)
open Cert.Kernel4Ideal.Hand (score weight total weighted two two_add coe_sum div_real select_ofBool)
open Idealize.ShloMosaic Idealize.ShloMosaic.TcCoe Idealize.ShloMosaic.Tactic
open Idealize.SL Idealize.SL.Sem

/-- The queries, keys, values and slopes are reals. -/
structure Reals (x0 x1 x2 : FVec Ideal S8x4224x512 .bf16) (x3 : FVec Ideal S4 .f32) (Q K V : ℕ → ℕ → ℕ → ℝ) (sl : ℕ → ℝ) : Prop where
  query : ∀ b p l, x0 (ix3 b p l) = ((Q b.val p.val l.val : ℝ) : EReal)
  key : ∀ b p l, x1 (ix3 b p l) = ((K b.val p.val l.val : ℝ) : EReal)
  value : ∀ b p l, x2 (ix3 b p l) = ((V b.val p.val l.val : ℝ) : EReal)
  slope : ∀ h, x3 (ix1 h) = ((sl h.val : ℝ) : EReal)

variable {x0 x1 x2 : FVec Ideal S8x4224x512 .bf16} {x3 : FVec Ideal S4 .f32} {Q K V : ℕ → ℕ → ℕ → ℝ} {sl : ℕ → ℝ}

theorem bot_word : Ideal.ofBits .f32 0xFF800000#32 = ⊥ := by simp [Ideal.ofBits, Ideal.ieee]

/-- The scaled query. -/
theorem query_apply (H : Reals x0 x1 x2 x3 Q K V sl) (b : Fin 8) (p : Fin 4224) (h : Fin 4) (j : Fin 2) (d : Fin 64) :
    val_main_v12 (F := Ideal) x0 (ix5 b p h j d) = ((Q b.val p.val (128 * h.val + (64 * j.val + d.val)) * Real.log 2 : ℝ) : EReal) := by
  have hi : idx_main_v8 (ix5 b p h j d) = ix3 b p ⟨128 * h.val + (64 * j.val + d.val), by omega⟩ := by
    funext a
    fin_cases a
    · refine Fin.ext ?_
      show ((((b.val * 4224 + p.val) * 4 + h.val) * 2 + j.val) * 64 + d.val) / 2162688 = b.val
      omega
    · refine Fin.ext ?_
      show ((((b.val * 4224 + p.val) * 4 + h.val) * 2 + j.val) * 64 + d.val) / 512 % 4224 = p.val
      omega
    · refine Fin.ext ?_
      show ((((b.val * 4224 + p.val) * 4 + h.val) * 2 + j.val) * 64 + d.val) % 512 = 128 * h.val + (64 * j.val + d.val)
      omega
  rw [val_main_v12_apply, val_main_v9_apply, val_main_v8_apply, val_main_v11_apply, val_main_v10_apply, val_main_cst_2_apply, hi]
  show x0 _ * Ideal.log (Ideal.ofBits .f32 0x40000000#32) = _
  rw [log_two_word, H.query, ← EReal.coe_mul]

/-- The key. -/
theorem key_apply (H : Reals x0 x1 x2 x3 Q K V sl) (b : Fin 8) (p : Fin 4224) (h : Fin 4) (j : Fin 2) (d : Fin 64) :
    val_main_v13 (F := Ideal) x1 (ix5 b p h j d) = ((K b.val p.val (128 * h.val + (64 * j.val + d.val)) : ℝ) : EReal) := by
  have hi : idx_main_v13 (ix5 b p h j d) = ix3 b p ⟨128 * h.val + (64 * j.val + d.val), by omega⟩ := by
    funext a
    fin_cases a
    · refine Fin.ext ?_
      show ((((b.val * 4224 + p.val) * 4 + h.val) * 2 + j.val) * 64 + d.val) / 2162688 = b.val
      omega
    · refine Fin.ext ?_
      show ((((b.val * 4224 + p.val) * 4 + h.val) * 2 + j.val) * 64 + d.val) / 512 % 4224 = p.val
      omega
    · refine Fin.ext ?_
      show ((((b.val * 4224 + p.val) * 4 + h.val) * 2 + j.val) * 64 + d.val) % 512 = 128 * h.val + (64 * j.val + d.val)
      omega
  rw [val_main_v13_apply, hi, H.key]

/-- The value. -/
theorem value_apply (H : Reals x0 x1 x2 x3 Q K V sl) (b : Fin 8) (p : Fin 4224) (h : Fin 4) (d : Fin 128) :
    val_main_v49 (F := Ideal) x2 (ix4 b p h d) = ((V b.val p.val (128 * h.val + d.val) : ℝ) : EReal) := by
  have hi : idx_main_v49 (ix4 b p h d) = ix3 b p ⟨128 * h.val + d.val, by omega⟩ := by
    funext a
    fin_cases a
    · refine Fin.ext ?_
      show (((b.val * 4224 + p.val) * 4 + h.val) * 128 + d.val) / 2162688 = b.val
      omega
    · refine Fin.ext ?_
      show (((b.val * 4224 + p.val) * 4 + h.val) * 128 + d.val) / 512 % 4224 = p.val
      omega
    · refine Fin.ext ?_
      show (((b.val * 4224 + p.val) * 4 + h.val) * 128 + d.val) % 512 = 128 * h.val + d.val
      omega
  rw [val_main_v49_apply, hi, H.value]

theorem word_sub (p n : ℕ) (hp : p < 4224) (hn : n < 4224) : (IntOp.subi (BitVec.ofNat 32 p) (BitVec.ofNat 32 n)).toInt = (p : ℤ) - n := by
  have h : ∀ a : ℕ, a < 4224 → (BitVec.ofNat 32 a).toInt = a := fun a ha => by
    rw [← BitVec.ofInt_natCast, BitVec.toInt_ofInt, Int.bmod_eq_of_le (by omega) (by omega)]
  show (BitVec.ofNat 32 p - BitVec.ofNat 32 n).toInt = _
  rw [BitVec.toInt_sub, h p hp, h n hn, Int.bmod_eq_of_le (by omega) (by omega)]

/-- The distance of query and key. -/
theorem dist_apply (p n : Fin 4224) : val_main_v21 (F := Ideal) (ix2 p n) = IntOp.subi (BitVec.ofNat 32 p.val) (BitVec.ofNat 32 n.val) := by
  rw [val_main_v21_apply, val_main_v19_apply, val_main_v16_apply, val_main_v15_apply, val_main_v20_apply, val_main_v18_apply, val_main_v17_apply]
  rfl

/-- The bias: minus the slope times the distance, and `-∞` after the query. -/
theorem bias_apply (H : Reals x0 x1 x2 x3 Q K V sl) (h : Fin 4) (p n : Fin 4224) :
    val_main_v33 (F := Ideal) x3 (ix3 h p n)
      = if n.val ≤ p.val then ((-(sl h.val) * ((p.val : ℝ) - (n.val : ℝ)) : ℝ) : EReal) else ⊥ := by
  have i31 : idx_main_v31 (ix3 h p n) = ix2 p n := by funext a; fin_cases a <;> rfl
  have i24 : idx_main_v24 (idx_main_v27 (ix3 h p n)) = ix2 p n := by funext a; fin_cases a <;> rfl
  have i22 : idx_main_v22 (idx_main_v26 (ix3 h p n)) = ix1 h := by funext a; fin_cases a; rfl
  rw [val_main_v33_apply, val_main_v31_apply, val_main_v30_apply, val_main_v29_apply, val_main_c_apply, val_main_v32_apply,
    val_main_cst_3_apply, val_main_v28_apply, val_main_v26_apply, val_main_v23_apply, val_main_v22_apply, val_main_v27_apply,
    val_main_v25_apply, val_main_v24_apply, i31, i24, i22, dist_apply, H.slope]
  have hc : IntOp.cmpi .sge (IntOp.subi (BitVec.ofNat 32 p.val) (BitVec.ofNat 32 n.val)) 0#32 = BitVec.ofBool (decide (n.val ≤ p.val)) := by
    show BitVec.ofBool ((0#32).sle _) = _
    rw [BitVec.sle_eq_decide, word_sub _ _ p.isLt n.isLt]
    congr 1
    refine decide_eq_decide.mpr ?_
    show (0 : ℤ) ≤ _ ↔ _
    omega
  rw [hc, select_ofBool]
  refine if_congr Iff.rfl ?_ bot_word
  show -((sl h.val : ℝ) : EReal) * (((IntOp.subi (BitVec.ofNat 32 p.val) (BitVec.ofNat 32 n.val)).toInt : ℝ) : EReal) = _
  rw [word_sub _ _ p.isLt n.isLt, ← EReal.coe_neg, ← EReal.coe_mul]
  push_cast
  rfl

/-- The exponential: the key's weight, times a factor of the query's own. -/
theorem exp_apply (H : Reals x0 x1 x2 x3 Q K V sl) (b : Fin 8) (h : Fin 4) (j : Fin 2) (p n : Fin 4224) (q0 : ℕ) :
    val_main_v37 (F := Ideal) x0 x1 x3 (ix5 b h j p n)
      = ((Real.exp (-(sl h.val) * ((p.val : ℝ) - (q0 : ℝ))) * weight j.val (fun l => Q b.val p.val (128 * h.val + l))
          (fun n l => K b.val n (128 * h.val + l)) (sl h.val) q0 p.val n.val : ℝ) : EReal) := by
  have iL : ∀ d : Fin 64, lidx_main_v14 (ix5 b h j p n) d = ix5 b p h j d := fun d => by funext a; fin_cases a <;> rfl
  have iR : ∀ d : Fin 64, ridx_main_v14 (ix5 b h j p n) d = ix5 b n h j d := fun d => by funext a; fin_cases a <;> rfl
  have i34 : idx_main_v34 (idx_main_v35 (ix5 b h j p n)) = ix3 h p n := by funext a; fin_cases a <;> rfl
  have hs : val_main_v14 (F := Ideal) x0 x1 (ix5 b h j p n)
      = ((∑ d : Fin 64, Q b.val p.val (128 * h.val + (64 * j.val + d.val)) * Real.log 2 * K b.val n.val (128 * h.val + (64 * j.val + d.val)) : ℝ) : EReal) := by
    rw [val_main_v14_apply, ← coe_sum]
    refine Finset.sum_congr rfl fun d _ => ?_
    rw [iL, iR, query_apply H, key_apply H, ← EReal.coe_mul]
  rw [val_main_v37_apply, val_main_v36_apply, val_main_v35_apply, val_main_v34_apply, i34, bias_apply H, hs]
  show Ideal.exp (_ + _) = _
  unfold weight
  by_cases hn : n.val ≤ p.val
  · rw [if_pos hn, if_pos hn, ← EReal.coe_add, Ideal.exp_coe]
    unfold two
    rw [← Real.exp_add]
    refine congrArg (fun r : ℝ => ((Real.exp r : ℝ) : EReal)) ?_
    unfold score
    have hl : Real.log 2 ≠ 0 := (Real.log_pos (by norm_num)).ne'
    have hsum : ∑ d : Fin 64, Q b.val p.val (128 * h.val + (64 * j.val + d.val)) * Real.log 2 * K b.val n.val (128 * h.val + (64 * j.val + d.val))
        = (∑ d : Fin 64, Q b.val p.val (128 * h.val + (64 * j.val + d.val)) * K b.val n.val (128 * h.val + (64 * j.val + d.val))) * Real.log 2 := by
      rw [Finset.sum_mul]
      exact Finset.sum_congr rfl fun d _ => by ring
    rw [hsum]
    field_simp
    ring
  · rw [if_neg hn, if_neg hn, EReal.add_bot, Ideal.exp_bot, mul_zero]
    rfl

/-- Keys after the query weigh nothing. -/
theorem total_all (j : ℕ) (qf : ℕ → ℝ) (kf : ℕ → ℕ → ℝ) (s : ℝ) (q0 p N M : ℕ) (hp : p < N) (hN : N ≤ M) :
    total (weight j qf kf s q0 p) M = total (weight j qf kf s q0 p) N := by
  refine (Finset.sum_subset (Finset.range_subset_range.mpr hN) fun n _ hn => ?_).symm
  have h := Finset.mem_range.not.mp hn
  exact if_neg (by omega)

theorem weighted_all (j : ℕ) (qf : ℕ → ℝ) (kf vf : ℕ → ℕ → ℝ) (s : ℝ) (q0 p N M : ℕ) (hp : p < N) (hN : N ≤ M) (d : Fin 128) :
    weighted (weight j qf kf s q0 p) vf M d = weighted (weight j qf kf s q0 p) vf N d := by
  refine (Finset.sum_subset (Finset.range_subset_range.mpr hN) fun n _ hn => ?_).symm
  have h := Finset.mem_range.not.mp hn
  have hw : weight j qf kf s q0 p n = 0 := if_neg (by omega)
  rw [hw, zero_mul]

/-- The weights' sum is positive: the query's own key has weight. -/
theorem total_pos (j : ℕ) (qf : ℕ → ℝ) (kf : ℕ → ℕ → ℝ) (s : ℝ) (q0 p N : ℕ) (hp : p < N) : 0 < total (weight j qf kf s q0 p) N := by
  refine Finset.sum_pos' (fun n _ => ?_) ⟨p, Finset.mem_range.mpr hp, ?_⟩
  · unfold weight
    split
    · exact le_of_lt (Real.exp_pos _)
    · exact le_refl _
  · unfold weight
    rw [if_pos (le_refl _)]
    exact Real.exp_pos _

/-- The probability: the weight over the weights' sum. -/
theorem prob_apply (H : Reals x0 x1 x2 x3 Q K V sl) (b : Fin 8) (h : Fin 4) (j : Fin 2) (p n : Fin 4224) (q0 : ℕ) (w : ℕ → ℝ)
    (hw : w = weight j.val (fun l => Q b.val p.val (128 * h.val + l)) (fun n l => K b.val n (128 * h.val + l)) (sl h.val) q0 p.val) :
    val_main_v41 (F := Ideal) x0 x1 x3 (ix5 b h j p n) = ((w n.val / total w 4224 : ℝ) : EReal) := by
  have i39 : idx_main_v39 (idx_main_v40 (ix5 b h j p n)) = ix4 b h j p := by funext a; fin_cases a <;> rfl
  have i38 : ∀ k : Fin 4224, idx_main_v38 (ix4 b h j p) k = ix5 b h j p k := fun k => by funext a; fin_cases a <;> rfl
  have hg := Real.exp_pos (-(sl h.val) * ((p.val : ℝ) - (q0 : ℝ)))
  have ht : 0 < total w 4224 := hw ▸ total_pos _ _ _ _ _ _ _ p.isLt
  rw [val_main_v41_apply, val_main_v40_apply, val_main_v39_apply, i39, val_main_v38_apply, val_main_cst_4_apply]
  show Ideal.div _ (Ideal.ofBits .f32 0x00000000#32 + _) = _
  rw [Ideal.ofBits_zero_f32, zero_add]
  have hsum : ∑ k : Fin 4224, val_main_v37 (F := Ideal) x0 x1 x3 (idx_main_v38 (ix4 b h j p) k)
      = ((Real.exp (-(sl h.val) * ((p.val : ℝ) - (q0 : ℝ))) * total w 4224 : ℝ) : EReal) := by
    unfold total
    rw [Finset.sum_range, Finset.mul_sum, ← coe_sum]
    refine Finset.sum_congr rfl fun k _ => ?_
    rw [i38, exp_apply H b h j p k q0, ← hw]
  rw [hsum, exp_apply H b h j p n q0, ← hw, div_real _ _ (mul_pos hg ht).ne', mul_div_mul_left _ _ hg.ne']

/-- The lambda. -/
def lam (x4 x5 x6 x7 : FVec Ideal S64 .f32) : EReal :=
  Ideal.exp (∑ d : Fin 64, x4 (ix1 d) * x5 (ix1 d)) - Ideal.exp (∑ d : Fin 64, x6 (ix1 d) * x7 (ix1 d)) + Ideal.ofBits .f32 0x3E4CCCCD#32

variable {x4 x5 x6 x7 : FVec Ideal S64 .f32}

theorem sum_one (f : S64.Idx → EReal) : ∑ j : S64.Idx, f j = ∑ d : Fin 64, f (ix1 d) :=
  Fintype.sum_equiv ⟨fun j => j 0, fun d => ix1 d, fun j => (eq_ix1 j).symm, fun d => rfl⟩ f (fun d => f (ix1 d)) fun j => congrArg f (eq_ix1 j)

theorem lam_apply (i : S_.Idx) : val_main_v7 (F := Ideal) x4 x5 x6 x7 i = lam x4 x5 x6 x7 := by
  rw [val_main_v7_apply, val_main_cst_1_apply, val_main_v6_apply, val_main_v5_apply, val_main_v2_apply, val_main_v1_apply, val_main_v4_apply,
    val_main_cst_apply, val_main_cst_0_apply, sum_one, sum_one]
  show Ideal.exp (Ideal.ofBits .f32 0x00000000#32 + _) - Ideal.exp (Ideal.ofBits .f32 0x00000000#32 + _) + _ = _
  rw [Ideal.ofBits_zero_f32, zero_add, zero_add]
  rfl

/-- The difference of the two probabilities. -/
theorem diff_apply (H : Reals x0 x1 x2 x3 Q K V sl) (lm : ℝ) (hl : lam x4 x5 x6 x7 = ((lm : ℝ) : EReal)) (b : Fin 8) (h : Fin 4) (p n : Fin 4224) (q0 : ℕ)
    (w : ℕ → ℕ → ℝ)
    (hw : ∀ j, w j = weight j (fun l => Q b.val p.val (128 * h.val + l)) (fun n l => K b.val n (128 * h.val + l)) (sl h.val) q0 p.val) :
    val_main_v48 (F := Ideal) x0 x1 x3 x4 x5 x6 x7 (ix4 b h p n)
      = ((w 0 n.val / total (w 0) 4224 - lm * (w 1 n.val / total (w 1) 4224) : ℝ) : EReal) := by
  have i43 : idx_main_v42 (idx_main_v43 (ix4 b h p n)) = ix5 b h (0 : Fin 2) p n := by
    funext a
    fin_cases a
    · refine Fin.ext ?_
      show (((b.val * 4 + h.val) * 4224 + p.val) * 4224 + n.val) / 71368704 = b.val
      omega
    · refine Fin.ext ?_
      show (((b.val * 4 + h.val) * 4224 + p.val) * 4224 + n.val) / 17842176 % 4 = h.val
      omega
    · rfl
    · refine Fin.ext ?_
      show (((b.val * 4 + h.val) * 4224 + p.val) * 4224 + n.val) / 4224 % 4224 = p.val
      omega
    · refine Fin.ext ?_
      show (((b.val * 4 + h.val) * 4224 + p.val) * 4224 + n.val) % 4224 = n.val
      omega
  have i45 : idx_main_v44 (idx_main_v45 (ix4 b h p n)) = ix5 b h (1 : Fin 2) p n := by
    funext a
    fin_cases a
    · refine Fin.ext ?_
      show (((b.val * 4 + h.val) * 4224 + p.val) * 4224 + n.val) / 71368704 = b.val
      omega
    · refine Fin.ext ?_
      show (((b.val * 4 + h.val) * 4224 + p.val) * 4224 + n.val) / 17842176 % 4 = h.val
      omega
    · rfl
    · refine Fin.ext ?_
      show (((b.val * 4 + h.val) * 4224 + p.val) * 4224 + n.val) / 4224 % 4224 = p.val
      omega
    · refine Fin.ext ?_
      show (((b.val * 4 + h.val) * 4224 + p.val) * 4224 + n.val) % 4224 = n.val
      omega
  rw [val_main_v48_apply, val_main_v47_apply, val_main_v46_apply, lam_apply, hl, val_main_v43_apply, val_main_v42_apply, val_main_v45_apply,
    val_main_v44_apply, i43, i45, prob_apply H b h 0 p n q0 (w 0) (hw 0), prob_apply H b h 1 p n q0 (w 1) (hw 1)]
  show ((_ : ℝ) : EReal) - ((_ : ℝ) : EReal) * ((_ : ℝ) : EReal) = _
  rw [← EReal.coe_mul, ← EReal.coe_sub]

/-- The two weighted means' difference: the mixed values. -/
theorem mixed_apply (H : Reals x0 x1 x2 x3 Q K V sl) (lm : ℝ) (hl : lam x4 x5 x6 x7 = ((lm : ℝ) : EReal)) (b : Fin 8) (h : Fin 4) (p : Fin 4224) (d : Fin 128)
    (q0 N : ℕ) (hp : p.val < N) (hN : N ≤ 4224) (w : ℕ → ℕ → ℝ)
    (hw : ∀ j, w j = weight j (fun l => Q b.val p.val (128 * h.val + l)) (fun n l => K b.val n (128 * h.val + l)) (sl h.val) q0 p.val) :
    val_main_v51 (F := Ideal) x0 x1 x2 x3 x4 x5 x6 x7 (ix4 b p h d)
      = ((weighted (w 0) (fun n l => V b.val n (128 * h.val + l)) N d / total (w 0) N
          - lm * (weighted (w 1) (fun n l => V b.val n (128 * h.val + l)) N d / total (w 1) N) : ℝ) : EReal) := by
  have i51 : idx_main_v51 (ix4 b p h d) = ix4 b h d p := by funext a; fin_cases a <;> rfl
  have iL : ∀ n : Fin 4224, lidx_main_v50 (ix4 b h d p) n = ix4 b n h d := fun n => by funext a; fin_cases a <;> rfl
  have iR : ∀ n : Fin 4224, ridx_main_v50 (ix4 b h d p) n = ix4 b h p n := fun n => by funext a; fin_cases a <;> rfl
  have h1 : ∀ j, total (w j) N = total (w j) 4224 := fun j => by rw [hw]; exact (total_all _ _ _ _ _ _ _ _ hp hN).symm
  have h2 : ∀ j, weighted (w j) (fun n l => V b.val n (128 * h.val + l)) N d = weighted (w j) (fun n l => V b.val n (128 * h.val + l)) 4224 d :=
    fun j => by rw [hw]; exact (weighted_all _ _ _ _ _ _ _ _ _ hp hN d).symm
  rw [val_main_v51_apply, i51, val_main_v50_apply, h1, h1, h2, h2]
  have hsum : ∀ n : Fin 4224, val_main_v49 (F := Ideal) x2 (lidx_main_v50 (ix4 b h d p) n) * val_main_v48 (F := Ideal) x0 x1 x3 x4 x5 x6 x7 (ridx_main_v50 (ix4 b h d p) n)
      = ((V b.val n.val (128 * h.val + d.val) * (w 0 n.val / total (w 0) 4224 - lm * (w 1 n.val / total (w 1) 4224)) : ℝ) : EReal) := fun n => by
    rw [iL, iR, value_apply H, diff_apply H lm hl b h p n q0 w hw, ← EReal.coe_mul]
  rw [Finset.sum_congr rfl fun n _ => hsum n, coe_sum]
  refine congrArg _ ?_
  unfold weighted
  rw [Finset.sum_range, Finset.sum_range, Finset.sum_div, Finset.sum_div, Finset.mul_sum, ← Finset.sum_sub_distrib]
  exact Finset.sum_congr rfl fun n _ => by ring

/-- The reference's result at head `h`, lane `d` of position `p`: the mixed values, normalized over the head's lanes. -/
theorem result_apply (x8 : FVec Ideal S128 .f32) (b : Fin 8) (p : Fin 4224) (h : Fin 4) (d : Fin 128) (o : Fin 128 → EReal)
    (ho : ∀ d, val_main_v51 (F := Ideal) x0 x1 x2 x3 x4 x5 x6 x7 (ix4 b p h d) = o d) :
    val_main_v68 (F := Ideal) x0 x1 x2 x3 x4 x5 x6 x7 x8 (ix3 b p ⟨128 * h.val + d.val, by omega⟩)
      = o d * Ideal.rsqrt (Ideal.div (∑ d', o d' * o d') (Ideal.ofBits .f32 0x43000000#32) + Ideal.ofBits .f32 0x358637BD#32)
          * x8 (ix1 d) * Ideal.ofBits .f32 0x3F4CCCCD#32 := by
  have i67 : idx_main_v67 (ix3 b p ⟨128 * h.val + d.val, by omega⟩) = ix4 b p h d := by
    funext a
    fin_cases a
    · refine Fin.ext ?_
      show ((b.val * 4224 + p.val) * 512 + (128 * h.val + d.val)) / 2162688 = b.val
      omega
    · refine Fin.ext ?_
      show ((b.val * 4224 + p.val) * 512 + (128 * h.val + d.val)) / 512 % 4224 = p.val
      omega
    · refine Fin.ext ?_
      show ((b.val * 4224 + p.val) * 512 + (128 * h.val + d.val)) / 128 % 4 = h.val
      omega
    · refine Fin.ext ?_
      show ((b.val * 4224 + p.val) * 512 + (128 * h.val + d.val)) % 128 = d.val
      omega
  have i54 : idx_main_v54 (idx_main_v60 (ix4 b p h d)) = ix3 b p h := by funext a; fin_cases a <;> rfl
  have i53 : ∀ k : Fin 128, idx_main_v53 (ix3 b p h) k = ix4 b p h k := fun k => by funext a; fin_cases a <;> rfl
  have i62 : idx_main_v62 (idx_main_v63 (ix4 b p h d)) = ix1 d := by funext a; fin_cases a; rfl
  have hs : ∀ k : Fin 128, val_main_v52 (F := Ideal) x0 x1 x2 x3 x4 x5 x6 x7 (idx_main_v53 (ix3 b p h) k) = o k * o k := fun k => by
    rw [i53, val_main_v52_apply, ho]
    rfl
  rw [val_main_v68_apply, val_main_v67_apply, i67, val_main_v66_apply, val_main_v65_apply, val_main_cst_8_apply, val_main_v64_apply,
    val_main_v63_apply, val_main_v62_apply, i62, val_main_v61_apply, val_main_v60_apply, val_main_v59_apply, val_main_v58_apply,
    val_main_v57_apply, val_main_cst_7_apply, val_main_v56_apply, val_main_v55_apply, val_main_cst_6_apply, val_main_v54_apply, i54,
    val_main_v53_apply, val_main_cst_5_apply, ho, Finset.sum_congr rfl fun k _ => hs k]
  show o d * Ideal.rsqrt (Ideal.div (Ideal.ofBits .f32 0x00000000#32 + _) _ + _) * x8 (ix1 d) * _ = _
  rw [Ideal.ofBits_zero_f32, zero_add]
  rfl

end Cert.Reference4Ideal.Hand

end
-- ==== Proof.AttnEqual.lean ====
module

public import proofs.«01_k».proof.Defs
public import proofs.«01_k».proof.Proof.AttnBlocks
public import proofs.«01_k».proof.Proof.AttnRef
public import proofs.«01_k».proof.Proof.Gen.Kernel4.Frame
public import proofs.«01_k».proof.Proof.Gen.Pre_finite
public import Idealize.ShloMosaic.Lib.ReduceAll
public import Idealize.ShloMosaic.Lib.Quiescent

@[expose] public section

set_option maxRecDepth 16384

noncomputable section

/-! # Attention: the kernel's result equals the reference's, and the frames -/

namespace Cert.Proof

open Idealize.ShloMosaic Idealize.ShloMosaic.TcCoe Idealize.SL.Sem
open Cert.Kernel4Ideal.Hand (argQ argK argV argS argA argB argC argD argG point Holds quotAt diffAt weight weighted total coe_of_ne quot_eq coords_eq point_parts coe_sum)
open Cert.Reference4Ideal.Hand (Reals lam mixed_apply result_apply)

instance factsKernel4 : Cert.Kernel4.Facts := Cert.Kernel4.Gen.facts
instance factsKernel4Ideal : Cert.Kernel4Ideal.Facts := Cert.Kernel4Ideal.Gen.facts
instance factsReference4Ideal : Cert.Reference4Ideal.Facts := Cert.Reference4Ideal.Gen.facts
instance factsPreFinite : Cert.Pre_finite.Facts := Cert.Pre_finite.Gen.facts

/-! ## What the precondition says -/

/-- A value whose magnitude is below the word of infinity is a real. -/
theorem real_of_lt (x : EReal) (h : FloatOps.cmpf (F := Ideal) (φ := .f32) .olt (FloatOps.hostAbsf (F := Ideal) (φ := .f32) x) (Ideal.ofBits .f32 0x7F800000#32) = 1#1) :
    x ≠ ⊤ ∧ x ≠ ⊥ := by
  have hw : Ideal.ofBits .f32 0x7F800000#32 = ⊤ := by simp [Ideal.ofBits, Ideal.ieee]
  rw [hw] at h
  constructor
  · rintro rfl
    revert h
    simp [FloatOps.cmpf, FloatOps.hostAbsf, Ideal.cmp]
  · rintro rfl
    revert h
    simp [FloatOps.cmpf, FloatOps.hostAbsf, Ideal.cmp]

/-- The arguments' elements are reals: queries, keys, values, slopes and the four vectors of the lambda. -/
theorem finite_args (m : (ℓ : Loc Cert.Kernel4Ideal.nD Cert.Kernel4Ideal.τ Cert.Kernel4Ideal.sig) → Buf (Elt Ideal) ℓ) (h : Cert.Pre_Kernel4Ideal_finite m)
    (c : Dev Cert.Kernel4Ideal.nD) :
    (∀ z, argQ m c z ≠ ⊤ ∧ argQ m c z ≠ ⊥) ∧ (∀ z, argK m c z ≠ ⊤ ∧ argK m c z ≠ ⊥) ∧ (∀ z, argV m c z ≠ ⊤ ∧ argV m c z ≠ ⊥)
      ∧ (∀ z, argS m c z ≠ ⊤ ∧ argS m c z ≠ ⊥) ∧ (∀ z, argA m c z ≠ ⊤ ∧ argA m c z ≠ ⊥) ∧ (∀ z, argB m c z ≠ ⊤ ∧ argB m c z ≠ ⊥)
      ∧ (∀ z, argC m c z ≠ ⊤ ∧ argC m c z ≠ ⊥) ∧ (∀ z, argD m c z ≠ ⊤ ∧ argD m c z ≠ ⊥) := by
  have h0 := congrFun (h c) (fun a => a.elim0)
  have : Subsingleton Cert.Pre_finite.S_.Idx := ⟨fun a b => funext fun i => i.elim0⟩
  obtain ⟨h0, hD⟩ := IntOp.andi_eq_one.1 h0
  obtain ⟨h0, hC⟩ := IntOp.andi_eq_one.1 h0
  obtain ⟨h0, hB⟩ := IntOp.andi_eq_one.1 h0
  obtain ⟨h0, hA⟩ := IntOp.andi_eq_one.1 h0
  obtain ⟨h0, hS⟩ := IntOp.andi_eq_one.1 h0
  obtain ⟨h0, hV⟩ := IntOp.andi_eq_one.1 h0
  obtain ⟨hQ, hK⟩ := IntOp.andi_eq_one.1 h0
  exact ⟨fun z => real_of_lt _ (Host.reduce_andi_all _ _ _ _ _ hQ z), fun z => real_of_lt _ (Host.reduce_andi_all _ _ _ _ _ hK z),
    fun z => real_of_lt _ (Host.reduce_andi_all _ _ _ _ _ hV z), fun z => real_of_lt _ (Host.reduce_andi_all _ _ _ _ _ hS z),
    fun z => real_of_lt _ (Host.reduce_andi_all _ _ _ _ _ hA z), fun z => real_of_lt _ (Host.reduce_andi_all _ _ _ _ _ hB z),
    fun z => real_of_lt _ (Host.reduce_andi_all _ _ _ _ _ hC z), fun z => real_of_lt _ (Host.reduce_andi_all _ _ _ _ _ hD z)⟩

/-- An array of finite elements, as reals. -/
theorem reals_of (x : FVec Ideal Cert.Kernel4Ideal.S8x4224x512 .bf16) (h : ∀ z, x z ≠ ⊤ ∧ x z ≠ ⊥) :
    ∃ X : ℕ → ℕ → ℕ → ℝ, ∀ (b : Fin 8) (p : Fin 4224) (l : Fin 512), x (ix3 b p l) = ((X b.val p.val l.val : ℝ) : EReal) := by
  refine ⟨fun b p l => (x (ix3 ⟨b % 8, Nat.mod_lt _ (by decide)⟩ ⟨p % 4224, Nat.mod_lt _ (by decide)⟩ ⟨l % 512, Nat.mod_lt _ (by decide)⟩) : EReal).toReal, fun b p l => ?_⟩
  have hb : (⟨b.val % 8, Nat.mod_lt _ (by decide)⟩ : Fin 8) = b := Fin.ext (Nat.mod_eq_of_lt b.isLt)
  have hp : (⟨p.val % 4224, Nat.mod_lt _ (by decide)⟩ : Fin 4224) = p := Fin.ext (Nat.mod_eq_of_lt p.isLt)
  have hl : (⟨l.val % 512, Nat.mod_lt _ (by decide)⟩ : Fin 512) = l := Fin.ext (Nat.mod_eq_of_lt l.isLt)
  show _ = ((x (ix3 _ _ _) : EReal).toReal : EReal)
  rw [hb, hp, hl]
  exact (EReal.coe_toReal (h _).1 (h _).2).symm

/-- The slopes, as reals. -/
theorem slopes_of (x : FVec Ideal Cert.Kernel4Ideal.S4 .f32) (h : ∀ z, x z ≠ ⊤ ∧ x z ≠ ⊥) :
    ∃ X : ℕ → ℝ, ∀ a : Fin 4, x (ix1 a) = ((X a.val : ℝ) : EReal) := by
  refine ⟨fun a => (x (ix1 ⟨a % 4, Nat.mod_lt _ (by decide)⟩) : EReal).toReal, fun a => ?_⟩
  have ha : (⟨a.val % 4, Nat.mod_lt _ (by decide)⟩ : Fin 4) = a := Fin.ext (Nat.mod_eq_of_lt a.isLt)
  show _ = ((x (ix1 _) : EReal).toReal : EReal)
  rw [ha]
  exact (EReal.coe_toReal (h _).1 (h _).2).symm

/-- The sum of products of finite elements is a real. -/
theorem dot_real (x y : FVec Ideal Cert.Kernel4Ideal.S64 .f32) (hx : ∀ z, x z ≠ ⊤ ∧ x z ≠ ⊥) (hy : ∀ z, y z ≠ ⊤ ∧ y z ≠ ⊥) :
    ∃ r : ℝ, ∑ d : Fin 64, x (ix1 d) * y (ix1 d) = ((r : ℝ) : EReal) := by
  refine ⟨∑ d : Fin 64, (x (ix1 d) : EReal).toReal * (y (ix1 d) : EReal).toReal, ?_⟩
  rw [← coe_sum]
  refine Finset.sum_congr rfl fun d _ => ?_
  rw [EReal.coe_mul, EReal.coe_toReal (hx _).1 (hx _).2, EReal.coe_toReal (hy _).1 (hy _).2]

/-- The lambda is a real. -/
theorem lam_real (x4 x5 x6 x7 : FVec Ideal Cert.Kernel4Ideal.S64 .f32) (h4 : ∀ z, x4 z ≠ ⊤ ∧ x4 z ≠ ⊥) (h5 : ∀ z, x5 z ≠ ⊤ ∧ x5 z ≠ ⊥)
    (h6 : ∀ z, x6 z ≠ ⊤ ∧ x6 z ≠ ⊥) (h7 : ∀ z, x7 z ≠ ⊤ ∧ x7 z ≠ ⊥) : ∃ r : ℝ, lam x4 x5 x6 x7 = ((r : ℝ) : EReal) := by
  obtain ⟨a, ha⟩ := dot_real x4 x5 h4 h5
  obtain ⟨b, hb⟩ := dot_real x6 x7 h6 h7
  obtain ⟨w, hw⟩ : ∃ w : ℝ, Ideal.ofBits .f32 0x3E4CCCCD#32 = ((w : ℝ) : EReal) := by
    refine coe_of_ne ?_ ?_ <;> simp [Ideal.ofBits, Ideal.ieee] <;> rw [← EReal.coe_mul] <;> first | exact EReal.coe_ne_top _ | exact EReal.coe_ne_bot _
  refine ⟨Real.exp a - Real.exp b + w, ?_⟩
  unfold lam
  rw [ha, hb, hw, Ideal.exp_coe, Ideal.exp_coe, ← EReal.coe_sub, ← EReal.coe_add]

/-! ## The result -/

variable (m : (ℓ : Loc Cert.Kernel4Ideal.nD Cert.Kernel4Ideal.τ Cert.Kernel4Ideal.sig) → Buf (Elt Ideal) ℓ) (c : Dev Cert.Kernel4Ideal.nD)

/-- The blocks of a point hold the arguments' reals. -/
theorem holds_of {Q K V : ℕ → ℕ → ℕ → ℝ} {sl : ℕ → ℝ} (H : Reals (argQ m c) (argK m c) (argV m c) (argS m c) Q K V sl) (b : Fin 8) (h : Fin 4) (q : Fin 11)
    (r : Fin 384) : Holds m c (point b h q) r (fun l => Q b.val (384 * q.val + r.val) (128 * h.val + l)) (fun n l => K b.val n (128 * h.val + l))
      (fun n l => V b.val n (128 * h.val + l)) (sl h.val) where
  query := fun l => (Cert.Kernel4Ideal.Hand.block6 m c b h q r l).trans (H.query _ _ _)
  key := fun n l => (Cert.Kernel4Ideal.Hand.block7 m c b h q n l).trans (H.key _ _ _)
  value := fun n l => (Cert.Kernel4Ideal.Hand.block8 m c b h q n l).trans (H.value _ _ _)
  slope := by
    have hh : (⟨(Cert.Kernel4Ideal.grid0.coords (point b h q) 1).val, (Cert.Kernel4Ideal.grid0.coords (point b h q) 1).isLt⟩ : Fin 4) = h :=
      Fin.ext ((coords_eq (point b h q)).2.1.trans (point_parts b h q).2.1)
    exact (congrArg (fun a : Fin 4 => (Cert.Kernel4Ideal.Gen.iblk m c 0 (point b h q) : FVec Ideal Cert.Kernel4Ideal.S4 .f32) (ix1 a)) hh).trans
      ((Cert.Kernel4Ideal.Hand.block0 m c _ h).trans (H.slope h))

/-- The kernel's result at an element is the reference's. -/
theorem result_value {Q K V : ℕ → ℕ → ℕ → ℝ} {sl : ℕ → ℝ} (H : Reals (argQ m c) (argK m c) (argV m c) (argS m c) Q K V sl) (lm : ℝ)
    (hl : lam (argA m c) (argB m c) (argC m c) (argD m c) = ((lm : ℝ) : EReal)) (b : Fin 8) (h : Fin 4) (q : Fin 11) (r : Fin 384) (d : Fin 128) :
    (Cert.Kernel4Ideal.Gen.outsAt0 m c (point b h q) : FVec Ideal Cert.Kernel4Ideal.S1x384x128 .bf16) (ix3 0 r d)
      = Cert.Reference4Ideal.Read.val_main_v68 (F := Ideal) (argQ m c) (argK m c) (argV m c) (argS m c) (argA m c) (argB m c) (argC m c) (argD m c) (argG m c)
          (ix3 b ⟨384 * q.val + r.val, by omega⟩ ⟨128 * h.val + d.val, by omega⟩) := by
  have hc : (Cert.Kernel4Ideal.grid0.coords (point b h q) 2).val = q.val := (coords_eq (point b h q)).2.2.trans (point_parts b h q).2.2
  have hlam : Cert.Kernel4Ideal.Gen.k0_pay2 (F := Ideal) (Cert.Kernel4Ideal.Gen.iblk m c 1 (point b h q)) (Cert.Kernel4Ideal.Gen.iblk m c 2 (point b h q))
      (Cert.Kernel4Ideal.Gen.iblk m c 3 (point b h q)) (Cert.Kernel4Ideal.Gen.iblk m c 4 (point b h q)) (ix2 0 0) = ((lm : ℝ) : EReal) :=
    (Cert.Kernel4Ideal.Hand.lam_value m c (point b h q)).trans hl
  have hq0 : ∀ (R : Fin 768) (hR : (⟨R.val % 384, Nat.mod_lt _ (by decide)⟩ : Fin 384) = r) (d : Fin 128), _ :=
    fun R hR d => quot_eq (R := R) (hR.symm ▸ holds_of m c H b h q r) d
  have h0 := fun d => hq0 ⟨r.val, by omega⟩ (Fin.ext (Nat.mod_eq_of_lt r.isLt)) d
  have h1 := fun d => hq0 ⟨384 + r.val, by omega⟩ (Fin.ext (by show (384 + r.val) % 384 = r.val; omega)) d
  have e0 : r.val / 384 = 0 := by omega
  have e1 : (384 + r.val) / 384 = 1 := by omega
  have f0 : r.val % 384 = r.val := by omega
  have f1 : (384 + r.val) % 384 = r.val := by omega
  refine Eq.trans ?_ (result_apply (argG m c) b ⟨384 * q.val + r.val, by omega⟩ h d _
    (fun d => mixed_apply H lm hl b h ⟨384 * q.val + r.val, by omega⟩ d (384 * q.val) (384 * (q.val + 1)) (by show 384 * q.val + r.val < _; omega) (by omega) _ (fun j => rfl))).symm
  rw [Cert.Kernel4Ideal.Hand.outs_eq, Cert.Kernel4Ideal.Hand.pay1_apply, hlam, Cert.Kernel4Ideal.Hand.block5]
  have hd : ∀ d : Fin 128, diffAt ((lm : ℝ) : EReal) _ r d = _ := fun d => congrArg₂ (fun x y : EReal => x - ((lm : ℝ) : EReal) * y) (h0 d) (h1 d)
  simp only [hd]
  simp only [e0, e1, f0, f1, hc, ← EReal.coe_mul, ← EReal.coe_sub]

/-- So the arrays are equal. -/
theorem array_value (hpre : Cert.Pre_Kernel4Ideal_finite m) :
    (Cert.Kernel4Ideal.Gen.dats m 0 c).arrAt 9 Cert.Kernel4Ideal.cfg0.N
      = Cert.Reference4Ideal.Read.val_main_v68 (F := Ideal) (argQ m c) (argK m c) (argV m c) (argS m c) (argA m c) (argB m c) (argC m c) (argD m c) (argG m c) := by
  obtain ⟨hQ, hK, hV, hS, hA, hB, hC, hD⟩ := finite_args m hpre c
  obtain ⟨Q, hQ⟩ := reals_of _ hQ
  obtain ⟨K, hK⟩ := reals_of _ hK
  obtain ⟨V, hV⟩ := reals_of _ hV
  obtain ⟨sl, hS⟩ := slopes_of _ hS
  obtain ⟨lm, hl⟩ := lam_real _ _ _ _ hA hB hC hD
  funext z
  have z1 : (z 1).val < 4224 := (z 1).isLt
  have z2 : (z 2).val < 512 := (z 2).isLt
  have hz : z = (ix3 (z 0) ⟨384 * ((z 1).val / 384) + (z 1).val % 384, by omega⟩ ⟨128 * ((z 2).val / 128) + (z 2).val % 128, by omega⟩ : Cert.Kernel4Ideal.S8x4224x512.Idx) := by
    funext a
    fin_cases a
    · rfl
    · exact Fin.ext (Nat.div_add_mod _ _).symm
    · exact Fin.ext (Nat.div_add_mod _ _).symm
  rw [hz]
  exact (Cert.Kernel4Ideal.Hand.arr9 m c (z 0) ⟨(z 2).val / 128, by omega⟩ ⟨(z 1).val / 384, by omega⟩ ⟨(z 1).val % 384, by omega⟩ ⟨(z 2).val % 128, by omega⟩).trans
    (result_value m c ⟨hQ, hK, hV, hS⟩ lm hl (z 0) ⟨(z 2).val / 128, by omega⟩ ⟨(z 1).val / 384, by omega⟩ ⟨(z 1).val % 384, by omega⟩ ⟨(z 2).val % 128, by omega⟩)

/-! ## The claims -/

/-- Attention at machine floats runs, its arguments and counters end as they were. -/
theorem frame_attn_bits : Cert.quiescent_Kernel4 := fun m ρ _ => Cert.Kernel4.Gen.frame m ρ

/-- The same over the extended reals. -/
theorem frame_attn_ideal : Cert.quiescent_Kernel4Ideal := fun m ρ _ => Cert.Kernel4Ideal.Gen.frame m ρ

/-- The same under the precondition. -/
theorem frame_attn_ideal_pre : Cert.quiescent_Kernel4Ideal_pre_finite := fun m ρ _ => Cert.Kernel4Ideal.Gen.frame m ρ

/-- The reference runs, its arguments end as launched, its counters at zero. -/
theorem frame_attn_ref : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The same under the precondition. -/
theorem frame_attn_ref_pre : Cert.quiescent_Reference4Ideal_pre_finite := fun m ρ _ =>
  (θ_run _ _ _).mono (fun r h => ⟨fun c => (h c).2, sem_eq_zero_of_no_sems (by decide) r.2⟩) (Cert.Reference4Ideal.Value.run (F := Ideal) m ρ)

/-- The two named constants stand where the kernel has the words of `-1e30` and `1 / log 2`. -/
theorem preserves_attn : Cert.preserves_Kernel4_Kernel4Ideal :=
  ⟨IdealRules.named_const.statement Cert.Kernel4Ideal.κ "mask" .f32 0xF149F2CA#32 _ rfl,
    IdealRules.named_const.statement Cert.Kernel4Ideal.κ "log2e" .f32 0x3FB8AA3B#32 _ rfl⟩

/-- From memories that agree on the arguments, all finite but the gains, both run to the same result, element by element. -/
theorem equal_attn : Cert.algebraic_Kernel4Ideal_Reference4Ideal_pre_finite := fun m ρ m' ρ' hpre hag =>
  ⟨fun c => Cert.Reference4Ideal.Read.val_main_v68 (F := Ideal) (argQ m c) (argK m c) (argV m c) (argS m c) (argA m c) (argB m c) (argC m c) (argD m c) (argG m c),
    (θ_run _ _ _).mono (fun r h c => ⟨(h c).1.trans (array_value m c hpre), (h c).2⟩) (Cert.Kernel4Ideal.Value.run_blocks (F := Ideal) m ρ),
    (θ_run _ _ _).mono (fun r h c => ⟨(h c).1.trans ((Cert.Reference4Ideal.Read.val_main_v68_eq m' c).trans (by
      obtain ⟨h0, h1, h2, h3, h4, h5, h6, h7, h8⟩ := hag c
      rw [h0, h1, h2, h3, h4, h5, h6, h7, h8])), (h c).2⟩) (Cert.Reference4Ideal.Value.run (F := Ideal) m' ρ')⟩

end Cert.Proof

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Frames
public import proofs.«01_k».proof.Proof.Equal
public import proofs.«01_k».proof.Proof.OutRef
public import proofs.«01_k».proof.Proof.InRef
public import proofs.«01_k».proof.Proof.AttnEqual

@[expose] public section

noncomputable section

/-- The frames of the twelve programs, that each ideal print preserves its kernel, and that each call's results are its
reference's over the extended reals. -/
theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_expert_ids.Gen.facts, Cert.Pre_finite.Gen.facts,
    Cert.Proof.frame_kernel, Cert.Proof.frame_kernelIdeal, Cert.Proof.frame_kernelIdeal_pre, Cert.Proof.frame_referenceIdeal,
    Cert.Proof.frame_referenceIdeal_pre, Cert.Proof.frame_out_bits, Cert.Proof.frame_out_ideal, Cert.Proof.frame_out_ref,
    Cert.Proof.frame_in_bits, Cert.Proof.frame_in_ideal, Cert.Proof.frame_in_ref,
    Cert.Proof.frame_attn_bits, Cert.Proof.frame_attn_ideal, Cert.Proof.frame_attn_ideal_pre, Cert.Proof.frame_attn_ref,
    Cert.Proof.frame_attn_ref_pre,
    trivial, Cert.Proof.equal, trivial, Cert.Proof.equal_out, Cert.Proof.preserves_in, Cert.Proof.equal_in,
    Cert.Proof.preserves_attn, Cert.Proof.equal_attn⟩
end
